-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v17)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v19)) (v4 : (c : Dev Cert.Kernel2Ideal.nD) → Buf (Elt Ideal) ((c.tc : Thread Cert.Kernel2Ideal.nD Cert.Kernel2Ideal.τ).loc Cert.Kernel2Ideal.main_v21)) (v5 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_v22) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_v36) = v4 c
          ∧ r.2.mem ((c.tc : Thread Cert.Reference2Ideal.nD Cert.Reference2Ideal.τ).loc Cert.Reference2Ideal.main_v37) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v7_0)) (v2 : (c : Dev Cert.Kernel3Ideal.nD) → Buf (Elt Ideal) ((c.tc : Thread Cert.Kernel3Ideal.nD Cert.Kernel3Ideal.τ).loc Cert.Kernel3Ideal.main_v7_1)) (v3 : (c : Dev Cert.Kernel3Ideal.nD) → Buf (Elt Ideal) ((c.tc : Thread Cert.Kernel3Ideal.nD Cert.Kernel3Ideal.τ).loc Cert.Kernel3Ideal.main_v8)) (v4 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v7_0) = v1 c
          ∧ r.2.mem ((c.tc : Thread Cert.Kernel3Ideal.nD Cert.Kernel3Ideal.τ).loc Cert.Kernel3Ideal.main_v7_1) = v2 c
          ∧ r.2.mem ((c.tc : Thread Cert.Kernel3Ideal.nD Cert.Kernel3Ideal.τ).loc Cert.Kernel3Ideal.main_v8) = v3 c
          ∧ r.2.mem ((c.tc : Thread Cert.Kernel3Ideal.nD Cert.Kernel3Ideal.τ).loc Cert.Kernel3Ideal.main_v9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v14_0)) (v3 : (c : Dev Cert.Kernel4Ideal.nD) → Buf (Elt Ideal) ((c.tc : Thread Cert.Kernel4Ideal.nD Cert.Kernel4Ideal.τ).loc Cert.Kernel4Ideal.main_v14_2)) (v4 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v14_0) = v2 c
          ∧ r.2.mem ((c.tc : Thread Cert.Kernel4Ideal.nD Cert.Kernel4Ideal.τ).loc Cert.Kernel4Ideal.main_v14_2) = v3 c
          ∧ r.2.mem ((c.tc : Thread Cert.Kernel4Ideal.nD Cert.Kernel4Ideal.τ).loc Cert.Kernel4Ideal.main_v15) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_v40) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v21) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8x2048x64 : Shape := ⟨4, ![2, 8, 2048, 64]⟩
abbrev S2x2x2048x64 : Shape := ⟨4, ![2, 2, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x2x2048x64 : S_.BroadcastsInDim S2x2x2048x64 (![] : Fin 0 → Fin S2x2x2048x64.rank)
  reducesTo_S2x2x2048x64_S_d0_1_2_3 : S2x2x2048x64.ReducesTo [0, 1, 2, 3] S_

variable [Facts]

def fn_part1 {F : FTy → Type} [FloatOps F] (main_v13 : IVec S_ 1) (main_v16 : IVec S2x8x2048x64 1) : IVec S_ 1 :=
  let main_c_5 : IVec S_ 1 := constantI S_ 1 1#1
  let main_v17 : IVec S_ 1 := (fun x v => Host.reduce IntOp.andi x v reducesTo_S2x8x2048x64_S_d0_1_2_3 h_S_) main_v16 main_c_5
  let main_v18 : IVec S_ 1 := andi main_v13 main_v17
  main_v18

def fn {F : FTy → Type} [FloatOps F] (main_arg0 : FVec F S2x8x2048x64 .bf16) (main_arg1 : FVec F S2x2x2048x64 .bf16) (main_arg2 : FVec F S2x2x2048x64 .bf16) (main_arg3 : FVec F S2x8x2048x64 .f32) : IVec S_ 1 :=
  let main_v0 : FVec F S2x8x2048x64 .bf16 := Host.absf main_arg0
  let main_cst : FVec F S_ .bf16 := constant S_ .bf16 0x7F80#16
  let main_v1 : FVec F S2x8x2048x64 .bf16 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x2x2048x64 .bf16 := Host.absf main_arg1
  let main_cst_0 : FVec F S_ .bf16 := constant S_ .bf16 0x7F80#16
  let main_v5 : FVec F S2x2x2048x64 .bf16 := broadcastInDim S2x2x2048x64 ![] bcast_S_S2x2x2048x64 main_cst_0
  let main_v6 : IVec S2x2x2048x64 1 := cmpf .olt main_v4 main_v5
  let main_c_1 : IVec S_ 1 := constantI S_ 1 1#1
  let main_v7 : IVec S_ 1 := (fun x v => Host.reduce IntOp.andi x v reducesTo_S2x2x2048x64_S_d0_1_2_3 h_S_) main_v6 main_c_1
  let main_v8 : IVec S_ 1 := andi main_v3 main_v7
  let main_v9 : FVec F S2x2x2048x64 .bf16 := Host.absf main_arg2
  let main_cst_2 : FVec F S_ .bf16 := constant S_ .bf16 0x7F80#16
  let main_v10 : FVec F S2x2x2048x64 .bf16 := broadcastInDim S2x2x2048x64 ![] bcast_S_S2x2x2048x64 main_cst_2
  let main_v11 : IVec S2x2x2048x64 1 := cmpf .olt main_v9 main_v10
  let main_c_3 : IVec S_ 1 := constantI S_ 1 1#1
  let main_v12 : IVec S_ 1 := (fun x v => Host.reduce IntOp.andi x v reducesTo_S2x2x2048x64_S_d0_1_2_3 h_S_) main_v11 main_c_3
  let main_v13 : IVec S_ 1 := andi main_v8 main_v12
  let main_v14 : FVec F S2x8x2048x64 .f32 := Host.absf main_arg3
  let main_cst_4 : FVec F S_ .f32 := constant S_ .f32 0x7F800000#32
  let main_v15 : FVec F S2x8x2048x64 .f32 := broadcastInDim S2x8x2048x64 ![] bcast_S_S2x8x2048x64 main_cst_4
  let main_v16 : IVec S2x8x2048x64 1 := cmpf .olt main_v14 main_v15
  fn_part1 (F := F) main_v13 main_v16
-- ==== Pre_finite2.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S5632x2048 .f32) (main_arg5 : FVec F S4096x2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632x2048 .f32 := Host.absf main_arg4
  let main_cst_6 : FVec F S_ .f32 := constant S_ .f32 0x7F800000#32
  let main_v20 : FVec F S5632x2048 .f32 := broadcastInDim S5632x2048 ![] bcast_S_S5632x2048 main_cst_6
  let main_v21 : IVec S5632x2048 1 := cmpf .olt main_v19 main_v20
  let main_c_7 : IVec S_ 1 := constantI S_ 1 1#1
  let main_v22 : IVec S_ 1 := (fun x v => Host.reduce IntOp.andi x v reducesTo_S5632x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S4096x2048 .bf16) (main_arg2 : FVec F S2048x5632 .f32) (main_arg3 : FVec F S2048x5632 .f32) (main_arg4 : FVec F S5632x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_v13 main_v16
-- ==== Kernel.lean ====
abbrev S2x8x2048x64 : Shape := ⟨4, ![2, 8, 2048, 64]⟩
abbrev S2x2x2048x64 : Shape := ⟨4, ![2, 2, 2048, 64]⟩
abbrev S1x4x512x64 : Shape := ⟨4, ![1, 4, 512, 64]⟩
abbrev S1x1x2048x64 : Shape := ⟨4, ![1, 1, 2048, 64]⟩
abbrev S2048x64 : Shape := ⟨2, ![2048, 64]⟩
abbrev S1x1x512x64 : Shape := ⟨4, ![1, 1, 512, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 24
  | .smem => 0
  | _ => 0

abbrev bufTy : (tb : Table) → Fin (tcTables nBuf tb) → BufTy
  | .hbm, ⟨0, _⟩ => ⟨S2x8x2048x64, .bf16⟩
  | .hbm, ⟨1, _⟩ => ⟨S2x2x2048x64, .bf16⟩
  | .hbm, ⟨2, _⟩ => ⟨S2x2x2048x64, .bf16⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S2x2x2048x64, .f32⟩
  | .hbm, ⟨7, _⟩ => ⟨S2x2x2048x64, .f32⟩
  | .local _ .vmem, ⟨0, _⟩ => ⟨S1x4x512x64, .bf16⟩
  | .local _ .vmem, ⟨1, _⟩ => ⟨S1x4x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x4x512x64, .f32⟩
  | .local _ .vmem, ⟨7, _⟩ => ⟨S1x4x512x64, .f32⟩
  | .local _ .vmem, ⟨8, _⟩ => ⟨S1x4x512x64, .bf16⟩
  | .local _ .vmem, ⟨9, _⟩ => ⟨S1x4x512x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x4x512x64, .f32⟩
  | .local _ .vmem, ⟨15, _⟩ => ⟨S1x4x512x64, .f32⟩
  | .local _ .vmem, ⟨16, _⟩ => ⟨S1x4x512x64, .f32⟩
  | .local _ .vmem, ⟨17, _⟩ => ⟨S1x4x512x64, .f32⟩
  | .local _ .vmem, ⟨18, _⟩ => ⟨S1x4x512x64, .f32⟩
  | .local _ .vmem, ⟨19, _⟩ => ⟨S1x4x512x64, .f32⟩
  | .local _ .vmem, ⟨20, _⟩ => ⟨S1x1x2048x64, .f32⟩
  | .local _ .vmem, ⟨21, _⟩ => ⟨S1x1x2048x64, .f32⟩
  | .local _ .vmem, ⟨22, _⟩ => ⟨S1x1x2048x64, .f32⟩
  | .local _ .vmem, ⟨23, _⟩ => ⟨S1x1x2048x64, .f32⟩
  | _, _ => ⟨S2x8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![2, 2, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x4x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x4x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x4x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1x2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x1x2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== ReferenceIdeal.lean ====
abbrev S2x8x2048x64 : Shape := ⟨4, ![2, 8, 2048, 64]⟩
abbrev S2x2x2048x64 : Shape := ⟨4, ![2, 2, 2048, 64]⟩
abbrev S2x2x4x2048x64 : Shape := ⟨5, ![2, 2, 4, 2048, 64]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x2048 : Shape := ⟨4, ![2, 2, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x8x2048x64, .bf16⟩
  | .hbm, ⟨1, _⟩ => ⟨S2x2x2048x64, .bf16⟩
  | .hbm, ⟨2, _⟩ => ⟨S2x2x2048x64, .bf16⟩
  | .hbm, ⟨3, _⟩ => ⟨S2x8x2048x64, .f32⟩
  | .hbm, ⟨4, _⟩ => ⟨S2x8x2048x64, .f32⟩
  | .hbm, ⟨5, _⟩ => ⟨S2x2x2048x64, .f32⟩
  | .hbm, ⟨6, _⟩ => ⟨S2x2x2048x64, .f32⟩
  | .hbm, ⟨7, _⟩ => ⟨S2x2x4x2048x64, .f32⟩
  | .hbm, ⟨8, _⟩ => ⟨S2x2x4x2048x2048, .f32⟩
  | .hbm, ⟨9, _⟩ => ⟨S_, .f32⟩
  | .hbm, ⟨10, _⟩ => ⟨S2x2x4x2048, .f32⟩
  | .hbm, ⟨11, _⟩ => ⟨S2x2x4x2048x1, .f32⟩
  | .hbm, ⟨12, _⟩ => ⟨S2x2x4x2048x2048, .f32⟩
  | .hbm, ⟨13, _⟩ => ⟨S2x2x4x2048x2048, .i1⟩
  | .hbm, ⟨14, _⟩ => ⟨S2x2x4x2048x2048, .f32⟩
  | .hbm, ⟨15, _⟩ => ⟨S_, .f32⟩
  | .hbm, ⟨16, _⟩ => ⟨S2x2x4x2048, .f32⟩
  | .hbm, ⟨17, _⟩ => ⟨S_, .f32⟩
  | .hbm, ⟨18, _⟩ => ⟨S2x2x4x2048, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .i1⟩
  | .hbm, ⟨23, _⟩ => ⟨S_, .f32⟩
  | .hbm, ⟨24, _⟩ => ⟨S2x2x4x2048, .f32⟩
  | .hbm, ⟨25, _⟩ => ⟨S2x2x4x2048, .i1⟩
  | .hbm, ⟨26, _⟩ => ⟨S_, .f32⟩
  | .hbm, ⟨27, _⟩ => ⟨S2x2x4x2048, .f32⟩
  | .hbm, ⟨28, _⟩ => ⟨S_, .f32⟩
  | .hbm, ⟨29, _⟩ => ⟨S2x2x4x2048, .f32⟩
  | .hbm, ⟨30, _⟩ => ⟨S_, .f32⟩
  | .hbm, ⟨31, _⟩ => ⟨S2x2x4x2048, .f32⟩
  | .hbm, ⟨32, _⟩ => ⟨S2x2x4x2048, .f32⟩
  | .hbm, ⟨33, _⟩ => ⟨S2x2x4x2048, .f32⟩
  | .hbm, ⟨34, _⟩ => ⟨S2x2x4x2048x1, .f32⟩
  | .hbm, ⟨35, _⟩ => ⟨S2x2x4x2048x2048, .f32⟩
  | .hbm, ⟨36, _⟩ => ⟨S2x2x4x2048x2048, .f32⟩
  | .hbm, ⟨37, _⟩ => ⟨S2x2x4x2048x2048, .f32⟩
  | .hbm, ⟨38, _⟩ => ⟨S_, .f32⟩
  | .hbm, ⟨39, _⟩ => ⟨S2x2x4x2048, .f32⟩
  | .hbm, ⟨40, _⟩ => ⟨S2x2x4x2048x1, .f32⟩
  | .hbm, ⟨41, _⟩ => ⟨S2x2x4x2048x2048, .f32⟩
  | .hbm, ⟨42, _⟩ => ⟨S2x2x4x2048x2048, .f32⟩
  | .hbm, ⟨43, _⟩ => ⟨S2x2x4x2048x1, .f32⟩
  | .hbm, ⟨44, _⟩ => ⟨S_, .f32⟩
  | .hbm, ⟨45, _⟩ => ⟨S2x2x4x2048x1, .f32⟩
  | .hbm, ⟨46, _⟩ => ⟨S2x2x4x2048x1, .f32⟩
  | .hbm, ⟨47, _⟩ => ⟨S2x2x4x2048x64, .f32⟩
  | .hbm, ⟨48, _⟩ => ⟨S2x8x2048x64, .f32⟩
  | .hbm, ⟨49, _⟩ => ⟨S2x2x4x2048x64, .f32⟩
  | .hbm, ⟨50, _⟩ => ⟨S2x2x64x2048, .f32⟩
  | .hbm, ⟨51, _⟩ => ⟨S2x2x2048x64, .f32⟩
  | .hbm, ⟨52, _⟩ => ⟨S2x2x4x2048x2048, .f32⟩
  | .hbm, ⟨53, _⟩ => ⟨S2x2x4x2048x2048, .f32⟩
  | .hbm, ⟨54, _⟩ => ⟨S2x2x4x2048x2048, .f32⟩
  | .hbm, ⟨55, _⟩ => ⟨S2x2x4x2048x2048, .f32⟩
  | .hbm, ⟨56, _⟩ => ⟨S_, .f32⟩
  | .hbm, ⟨57, _⟩ => ⟨S2x2x4x2048, .f32⟩
  | .hbm, ⟨58, _⟩ => ⟨S2x2x4x2048x1, .f32⟩
  | .hbm, ⟨59, _⟩ => ⟨S2x2x4x2048x1, .f32⟩
  | .hbm, ⟨60, _⟩ => ⟨S2x2x4x2048x2048, .f32⟩
  | .hbm, ⟨61, _⟩ => ⟨S2x2x4x2048x2048, .f32⟩
  | .hbm, ⟨62, _⟩ => ⟨S_, .f32⟩
  | .hbm, ⟨63, _⟩ => ⟨S2x2x4x2048, .f32⟩
  | .hbm, ⟨64, _⟩ => ⟨S2x2x4x2048x2048, .f32⟩
  | .hbm, ⟨65, _⟩ => ⟨S2x2x4x2048x2048, .f32⟩
  | .hbm, ⟨66, _⟩ => ⟨S2x2x4x2048x2048, .f32⟩
  | .hbm, ⟨67, _⟩ => ⟨S2x2x2048x64, .f32⟩
  | .hbm, ⟨68, _⟩ => ⟨S2x2x4x2048x64, .f32⟩
  | .hbm, ⟨69, _⟩ => ⟨S2x8x2048x64, .f32⟩
  | _, _ => ⟨S2x8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S2x2816x2048 : Shape := ⟨3, ![2, 2816, 2048]⟩
abbrev S2x4096x2816 : Shape := ⟨3, ![2, 4096, 2816]⟩
abbrev S1024x2048 : Shape := ⟨2, ![1024, 2048]⟩
abbrev S1x2816x2048 : Shape := ⟨3, ![1, 2816, 2048]⟩
abbrev S1x1024x2816 : Shape := ⟨3, ![1, 1024, 2816]⟩
abbrev S2816x2048 : Shape := ⟨2, ![2816, 2048]⟩
abbrev S1024x2816 : Shape := ⟨2, ![1024, 2816]⟩
abbrev S8x128 : Shape := ⟨2, ![8, 128]⟩
abbrev S2x256x2816 : Shape := ⟨3, ![2, 256, 2816]⟩
abbrev S256x2048 : Shape := ⟨2, ![256, 2048]⟩
abbrev S1x256x2816 : Shape := ⟨3, ![1, 256, 2816]⟩
abbrev S256x2816 : Shape := ⟨2, ![256, 2816]⟩
abbrev S1x256x2048 : Shape := ⟨3, ![1, 256, 2048]⟩
abbrev S1 : Shape := ⟨1, ![1]⟩
abbrev S1x1x1 : Shape := ⟨3, ![1, 1, 1]⟩
abbrev S512x2048 : Shape := ⟨2, ![512, 2048]⟩
abbrev S1x512x2816 : Shape := ⟨3, ![1, 512, 2816]⟩
abbrev S512x2816 : Shape := ⟨2, ![512, 2816]⟩
abbrev S1x4096x1408 : Shape := ⟨3, ![1, 4096, 1408]⟩
abbrev S4096x512 : Shape := ⟨2, ![4096, 512]⟩
abbrev S1x1408x512 : Shape := ⟨3, ![1, 1408, 512]⟩
abbrev S4096x1408 : Shape := ⟨2, ![4096, 1408]⟩
abbrev S1408x512 : Shape := ⟨2, ![1408, 512]⟩
abbrev S2x512x2816 : Shape := ⟨3, ![2, 512, 2816]⟩
abbrev S2x2816x512 : Shape := ⟨3, ![2, 2816, 512]⟩
abbrev S512x512 : Shape := ⟨2, ![512, 512]⟩
abbrev S1x2816x512 : Shape := ⟨3, ![1, 2816, 512]⟩
abbrev S2816x512 : Shape := ⟨2, ![2816, 512]⟩
abbrev S1x1 : Shape := ⟨2, ![1, 1]⟩
abbrev S_ : Shape := ⟨0, ![]⟩

abbrev nBuf : Space → Nat
  | .hbm => 33
  | .vmem => 68
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S5632x2048, .f32⟩
  | .hbm, ⟨7, _⟩ => ⟨S5632x2048, .f32⟩
  | .hbm, ⟨8, _⟩ => ⟨S5632x2048, .bf16⟩
  | .hbm, ⟨9, _⟩ => ⟨S2x2816x2048, .bf16⟩
  | .hbm, ⟨10, _⟩ => ⟨S5632x2048, .bf16⟩
  | .hbm, ⟨11, _⟩ => ⟨S2x2816x2048, .bf16⟩
  | .hbm, ⟨12, _⟩ => ⟨S5632x2048, .bf16⟩
  | .hbm, ⟨13, _⟩ => ⟨S2x2816x2048, .bf16⟩
  | .hbm, ⟨14, _⟩ => ⟨S2x4096x2816, .bf16⟩
  | .hbm, ⟨15, _⟩ => ⟨S2x4096x2816, .bf16⟩
  | .hbm, ⟨16, _⟩ => ⟨S4096x2048, .f32⟩
  | .hbm, ⟨17, _⟩ => ⟨S2x4096x2816, .bf16⟩
  | .hbm, ⟨18, _⟩ => ⟨S8x128, .f32⟩
  | .hbm, ⟨19, _⟩ => ⟨S4096x2048, .bf16⟩
  | .hbm, ⟨20, _⟩ => ⟨S2x4096x2816, .bf16⟩
  | .hbm, ⟨21, _⟩ => ⟨S2x4096x2816, .bf16⟩
  | .hbm, ⟨22, _⟩ => ⟨S2x2816x2048, .bf16⟩
  | .hbm, ⟨23, _⟩ => ⟨S2x2816x2048, .bf16⟩
  | .hbm, ⟨24, _⟩ => ⟨S2x2816x2048, .bf16⟩
  | .hbm, ⟨25, _⟩ => ⟨S4096x2048, .f32⟩
  | .hbm, ⟨26, _⟩ => ⟨S1x1, .f32⟩
  | .hbm, ⟨27, _⟩ => ⟨S_, .f32⟩
  | .hbm, ⟨28, _⟩ => ⟨S5632x2048, .bf16⟩
  | .hbm, ⟨29, _⟩ => ⟨S2048x5632, .bf16⟩
  | .hbm, ⟨30, _⟩ => ⟨S5632x2048, .bf16⟩
  | .hbm, ⟨31, _⟩ => ⟨S2048x5632, .bf16⟩
  | .hbm, ⟨32, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x2048, .bf16⟩
  | .local _ .vmem, ⟨7, _⟩ => ⟨S1024x2048, .bf16⟩
  | .local _ .vmem, ⟨8, _⟩ => ⟨S1x2816x2048, .bf16⟩
  | .local _ .vmem, ⟨9, _⟩ => ⟨S1x2816x2048, .bf16⟩
  | .local _ .vmem, ⟨10, _⟩ => ⟨S1x1024x2816, .bf16⟩
  | .local _ .vmem, ⟨11, _⟩ => ⟨S1x1024x2816, .bf16⟩
  | .local _ .vmem, ⟨12, _⟩ => ⟨S2x256x2816, .bf16⟩
  | .local _ .vmem, ⟨13, _⟩ => ⟨S2x256x2816, .bf16⟩
  | .local _ .vmem, ⟨14, _⟩ => ⟨S2x256x2816, .bf16⟩
  | .local _ .vmem, ⟨15, _⟩ => ⟨S2x256x2816, .bf16⟩
  | .local _ .vmem, ⟨16, _⟩ => ⟨S2x2816x2048, .bf16⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S2x256x2816, .bf16⟩
  | .local _ .vmem, ⟨24, _⟩ => ⟨S2x256x2816, .bf16⟩
  | .local _ .vmem, ⟨25, _⟩ => ⟨S8x128, .f32⟩
  | .local _ .vmem, ⟨26, _⟩ => ⟨S256x2048, .bf16⟩
  | .local _ .vmem, ⟨27, _⟩ => ⟨S256x2048, .bf16⟩
  | .local _ .vmem, ⟨28, _⟩ => ⟨S512x2048, .bf16⟩
  | .local _ .vmem, ⟨29, _⟩ => ⟨S512x2048, .bf16⟩
  | .local _ .vmem, ⟨30, _⟩ => ⟨S1x2816x2048, .bf16⟩
  | .local _ .vmem, ⟨31, _⟩ => ⟨S1x2816x2048, .bf16⟩
  | .local _ .vmem, ⟨32, _⟩ => ⟨S1x512x2816, .bf16⟩
  | .local _ .vmem, ⟨33, _⟩ => ⟨S1x512x2816, .bf16⟩
  | .local _ .vmem, ⟨34, _⟩ => ⟨S1x512x2816, .bf16⟩
  | .local _ .vmem, ⟨35, _⟩ => ⟨S1x512x2816, .bf16⟩
  | .local _ .vmem, ⟨36, _⟩ => ⟨S1x512x2816, .bf16⟩
  | .local _ .vmem, ⟨37, _⟩ => ⟨S1x512x2816, .bf16⟩
  | .local _ .vmem, ⟨38, _⟩ => ⟨S1x512x2816, .bf16⟩
  | .local _ .vmem, ⟨39, _⟩ => ⟨S1x512x2816, .bf16⟩
  | .local _ .vmem, ⟨40, _⟩ => ⟨S1x4096x1408, .bf16⟩
  | .local _ .vmem, ⟨41, _⟩ => ⟨S1x4096x1408, .bf16⟩
  | .local _ .vmem, ⟨42, _⟩ => ⟨S4096x512, .bf16⟩
  | .local _ .vmem, ⟨43, _⟩ => ⟨S4096x512, .bf16⟩
  | .local _ .vmem, ⟨44, _⟩ => ⟨S1x1408x512, .bf16⟩
  | .local _ .vmem, ⟨45, _⟩ => ⟨S1x1408x512, .bf16⟩
  | .local _ .vmem, ⟨46, _⟩ => ⟨S1x4096x1408, .bf16⟩
  | .local _ .vmem, ⟨47, _⟩ => ⟨S1x4096x1408, .bf16⟩
  | .local _ .vmem, ⟨48, _⟩ => ⟨S4096x512, .bf16⟩
  | .local _ .vmem, ⟨49, _⟩ => ⟨S4096x512, .bf16⟩
  | .local _ .vmem, ⟨50, _⟩ => ⟨S1x1408x512, .bf16⟩
  | .local _ .vmem, ⟨51, _⟩ => ⟨S1x1408x512, .bf16⟩
  | .local _ .vmem, ⟨52, _⟩ => ⟨S1x4096x1408, .bf16⟩
  | .local _ .vmem, ⟨53, _⟩ => ⟨S1x4096x1408, .bf16⟩
  | .local _ .vmem, ⟨54, _⟩ => ⟨S4096x512, .bf16⟩
  | .local _ .vmem, ⟨55, _⟩ => ⟨S4096x512, .bf16⟩
  | .local _ .vmem, ⟨56, _⟩ => ⟨S1x1408x512, .bf16⟩
  | .local _ .vmem, ⟨57, _⟩ => ⟨S1x1408x512, .bf16⟩
  | .local _ .vmem, ⟨58, _⟩ => ⟨S2x512x2816, .bf16⟩
  | .local _ .vmem, ⟨59, _⟩ => ⟨S2x512x2816, .bf16⟩
  | .local _ .vmem, ⟨60, _⟩ => ⟨S2x2816x512, .bf16⟩
  | .local _ .vmem, ⟨61, _⟩ => ⟨S2x2816x512, .bf16⟩
  | .local _ .vmem, ⟨62, _⟩ => ⟨S2x512x2816, .bf16⟩
  | .local _ .vmem, ⟨63, _⟩ => ⟨S2x512x2816, .bf16⟩
  | .local _ .vmem, ⟨64, _⟩ => ⟨S2x2816x512, .bf16⟩
  | .local _ .vmem, ⟨65, _⟩ => ⟨S2x2816x512, .bf16⟩
  | .local _ .vmem, ⟨66, _⟩ => ⟨S512x512, .f32⟩
  | .local _ .vmem, ⟨67, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc7_stg3_0 : Ref sig .tc := ⟨.vmem, 64, rfl⟩
abbrev cc7_stg3_1 : Ref sig .tc := ⟨.vmem, 65, rfl⟩
abbrev cc7_stg4_0 : Ref sig .tc := ⟨.vmem, 66, rfl⟩
abbrev cc7_stg4_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem8_0 : DmaSem sig := 26
abbrev cc2_sem8_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem3_1 : DmaSem sig := 65
abbrev cc7_sem4_0 : DmaSem sig := 66
abbrev cc7_sem4_1 : DmaSem sig := 67

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x2816x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2x256x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x256x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x2816x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2x256x2816 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x2816x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x2816 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x2816 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x512x2816 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![2, 8, 1], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

abbrev stage4_0 : Fin 2 → Memref sig .tc .vmem S1x4096x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1408x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 8, 1], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

abbrev stage5_0 : Fin 2 → Memref sig .tc .vmem S1x4096x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1408x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 8, 1], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, v26.toNat]

abbrev stage6_0 : Fin 2 → Memref sig .tc .vmem S1x4096x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, true]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1408x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 4, 1], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2x512x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2x2816x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2x512x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false, true]

abbrev stage7_3 : Fin 2 → Memref sig .tc .vmem S2x2816x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true, true]

abbrev stage7_4 : Fin 2 → Memref sig .tc .vmem S512x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]
-- ==== Reference2Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4096 : Shape := ⟨1, ![4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S2048x5632, .f32⟩
  | .hbm, ⟨49, _⟩ => ⟨S5632x2048, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S5632x2048, .f32⟩
  | .hbm, ⟨54, _⟩ => ⟨S2048x5632, .f32⟩
  | .hbm, ⟨55, _⟩ => ⟨S4096x2048, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S5632x2048, .f32⟩
  | .hbm, ⟨61, _⟩ => ⟨S2048x5632, .f32⟩
  | .hbm, ⟨62, _⟩ => ⟨S4096x2048, .f32⟩
  | .hbm, ⟨63, _⟩ => ⟨S4096x2048, .f32⟩
  | .hbm, ⟨64, _⟩ => ⟨S2048x5632, .bf16⟩
  | .hbm, ⟨65, _⟩ => ⟨S2048x5632, .bf16⟩
  | .hbm, ⟨66, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_cst_4 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_cst_6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S2048x4352 : Shape := ⟨2, ![2048, 4352]⟩
abbrev S4096x1024 : Shape := ⟨2, ![4096, 1024]⟩
abbrev S4096x1536 : Shape := ⟨2, ![4096, 1536]⟩
abbrev S4096x512 : Shape := ⟨2, ![4096, 512]⟩
abbrev S4096x768 : Shape := ⟨2, ![4096, 768]⟩
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S4096x4352 : Shape := ⟨2, ![4096, 4352]⟩
abbrev S512x2048 : Shape := ⟨2, ![512, 2048]⟩
abbrev S2176x2048 : Shape := ⟨2, ![2176, 2048]⟩
abbrev S512x2176 : Shape := ⟨2, ![512, 2176]⟩
abbrev S4096x256 : Shape := ⟨2, ![4096, 256]⟩
abbrev S256x1024 : Shape := ⟨2, ![256, 1024]⟩
abbrev S256x1536 : Shape := ⟨2, ![256, 1536]⟩
abbrev S256x512 : Shape := ⟨2, ![256, 512]⟩
abbrev S256x768 : Shape := ⟨2, ![256, 768]⟩
abbrev S1024x2048 : Shape := ⟨2, ![1024, 2048]⟩
abbrev S1536x2048 : Shape := ⟨2, ![1536, 2048]⟩
abbrev S768x2048 : Shape := ⟨2, ![768, 2048]⟩

abbrev nBuf : Space → Nat
  | .hbm => 21
  | .vmem => 45
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4352, .f32⟩
  | .hbm, ⟨3, _⟩ => ⟨S4096x1024, .bf16⟩
  | .hbm, ⟨4, _⟩ => ⟨S4096x1536, .bf16⟩
  | .hbm, ⟨5, _⟩ => ⟨S4096x512, .bf16⟩
  | .hbm, ⟨6, _⟩ => ⟨S4096x512, .bf16⟩
  | .hbm, ⟨7, _⟩ => ⟨S4096x768, .bf16⟩
  | .hbm, ⟨8, _⟩ => ⟨S4096x2048, .f32⟩
  | .hbm, ⟨9, _⟩ => ⟨S4352x2048, .f32⟩
  | .hbm, ⟨10, _⟩ => ⟨S4352x2048, .bf16⟩
  | .hbm, ⟨11, _⟩ => ⟨S1x2048, .f32⟩
  | .hbm, ⟨12, _⟩ => ⟨S4096x2048, .bf16⟩
  | .hbm, ⟨13, _⟩ => ⟨S4096x4352, .f32⟩
  | .hbm, ⟨14, _⟩ => ⟨S4352x2048, .bf16⟩
  | .hbm, ⟨15, _⟩ => ⟨S1x2048, .f32⟩
  | .hbm, ⟨16, _⟩ => ⟨S4096x2048, .f32⟩
  | .hbm, ⟨17, _⟩ => ⟨S4096x2048, .bf16⟩
  | .hbm, ⟨18, _⟩ => ⟨S1x2048, .f32⟩
  | .hbm, ⟨19, _⟩ => ⟨S2048x4352, .bf16⟩
  | .hbm, ⟨20, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S2176x2048, .bf16⟩
  | .local _ .vmem, ⟨8, _⟩ => ⟨S2176x2048, .bf16⟩
  | .local _ .vmem, ⟨9, _⟩ => ⟨S512x2176, .f32⟩
  | .local _ .vmem, ⟨10, _⟩ => ⟨S512x2176, .f32⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x2048, .bf16⟩
  | .local _ .vmem, ⟨22, _⟩ => ⟨S256x2048, .bf16⟩
  | .local _ .vmem, ⟨23, _⟩ => ⟨S256x2048, .bf16⟩
  | .local _ .vmem, ⟨24, _⟩ => ⟨S256x1024, .bf16⟩
  | .local _ .vmem, ⟨25, _⟩ => ⟨S256x1024, .bf16⟩
  | .local _ .vmem, ⟨26, _⟩ => ⟨S256x1536, .bf16⟩
  | .local _ .vmem, ⟨27, _⟩ => ⟨S256x1536, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x768, .bf16⟩
  | .local _ .vmem, ⟨33, _⟩ => ⟨S256x768, .bf16⟩
  | .local _ .vmem, ⟨34, _⟩ => ⟨S4352x2048, .bf16⟩
  | .local _ .vmem, ⟨35, _⟩ => ⟨S256x2048, .f32⟩
  | .local _ .vmem, ⟨36, _⟩ => ⟨S256x2048, .f32⟩
  | .local _ .vmem, ⟨37, _⟩ => ⟨S1x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .bf16⟩
  | .local _ .vmem, ⟨43, _⟩ => ⟨S256x2048, .bf16⟩
  | .local _ .vmem, ⟨44, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg9_1 : Ref sig .tc := ⟨.vmem, 41, rfl⟩
abbrev cc3_stg10_0 : Ref sig .tc := ⟨.vmem, 42, rfl⟩
abbrev cc3_stg10_1 : Ref sig .tc := ⟨.vmem, 43, rfl⟩
abbrev cc3_stg11_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem6_0 : DmaSem sig := 35
abbrev cc3_sem6_1 : DmaSem sig := 36
abbrev cc3_sem7_0 : DmaSem sig := 37
abbrev cc3_sem8_0 : DmaSem sig := 38
abbrev cc3_sem8_1 : DmaSem sig := 39
abbrev cc3_sem9_0 : DmaSem sig := 40
abbrev cc3_sem9_1 : DmaSem sig := 41
abbrev cc3_sem10_0 : DmaSem sig := 42
abbrev cc3_sem10_1 : DmaSem sig := 43
abbrev cc3_sem11_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2176x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![17], ![false]⟩

def k2_cond1 (i : grid2.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k2_cond2 (i : grid2.Coords) : BitVec 1 :=
  let arg0 : BitVec 32 := BitVec.ofNat 32 (i 0).val
  let c4_i32_1 : BitVec 32 := 4#32
  let v5 : BitVec 1 := Scalar.cmpi .sge arg0 c4_i32_1
  let c10_i32 : BitVec 32 := 10#32
  let v6 : BitVec 1 := Scalar.cmpi .slt arg0 c10_i32
  let v7 : BitVec 1 := Scalar.andi v5 v6
  let v8 : BitVec 32 := Scalar.extui v7
  let c0_i32_2 : BitVec 32 := 0#32
  let v9 : BitVec 1 := Scalar.cmpi .ne v8 c0_i32_2
  v9

def k2_cond3 (i : grid2.Coords) : BitVec 1 :=
  let arg0 : BitVec 32 := BitVec.ofNat 32 (i 0).val
  let c10_i32_3 : BitVec 32 := 10#32
  let v10 : BitVec 1 := Scalar.cmpi .sge arg0 c10_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k2_cond4 (i : grid2.Coords) : BitVec 1 :=
  let arg0 : BitVec 32 := BitVec.ofNat 32 (i 0).val
  let c12_i32_5 : BitVec 32 := 12#32
  let v15 : BitVec 1 := Scalar.cmpi .sge arg0 c12_i32_5
  let c14_i32 : BitVec 32 := 14#32
  let v16 : BitVec 1 := Scalar.cmpi .slt arg0 c14_i32
  let v17 : BitVec 1 := Scalar.andi v15 v16
  let v18 : BitVec 32 := Scalar.extui v17
  let c0_i32_6 : BitVec 32 := 0#32
  let v19 : BitVec 1 := Scalar.cmpi .ne v18 c0_i32_6
  v19

def k2_cond5 (i : grid2.Coords) : BitVec 1 :=
  let arg0 : BitVec 32 := BitVec.ofNat 32 (i 0).val
  let c14_i32_7 : BitVec 32 := 14#32
  let v20 : BitVec 1 := Scalar.cmpi .sge arg0 c14_i32_7
  let c17_i32 : BitVec 32 := 17#32
  let v21 : BitVec 1 := Scalar.cmpi .slt arg0 c17_i32
  let v22 : BitVec 1 := Scalar.andi v20 v21
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc2_transform_1 (i : grid2.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc2_transform_2 (i : grid2.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_3 (i : grid2.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc2_transform_4 (i : grid2.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S4096x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2048 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1536 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x768 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S4352x2048 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x2048 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x2048 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S1x2048 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]
-- ==== Reference3Ideal.lean ====
abbrev S4096x2048 : Shape := ⟨2, ![4096, 2048]⟩
abbrev S2048 : Shape := ⟨1, ![2048]⟩
abbrev S2048x4352 : Shape := ⟨2, ![2048, 4352]⟩
abbrev S4096x1024 : Shape := ⟨2, ![4096, 1024]⟩
abbrev S4096x1536 : Shape := ⟨2, ![4096, 1536]⟩
abbrev S4096x512 : Shape := ⟨2, ![4096, 512]⟩
abbrev S4096x768 : Shape := ⟨2, ![4096, 768]⟩
abbrev S4096x4352 : Shape := ⟨2, ![4096, 4352]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4352x2048 : Shape := ⟨2, ![4352, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4352, .f32⟩
  | .hbm, ⟨3, _⟩ => ⟨S4096x1024, .bf16⟩
  | .hbm, ⟨4, _⟩ => ⟨S4096x1536, .bf16⟩
  | .hbm, ⟨5, _⟩ => ⟨S4096x512, .bf16⟩
  | .hbm, ⟨6, _⟩ => ⟨S4096x512, .bf16⟩
  | .hbm, ⟨7, _⟩ => ⟨S4096x768, .bf16⟩
  | .hbm, ⟨8, _⟩ => ⟨S4096x2048, .f32⟩
  | .hbm, ⟨9, _⟩ => ⟨S4096x4352, .bf16⟩
  | .hbm, ⟨10, _⟩ => ⟨S4096x4352, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x4352, .f32⟩
  | .hbm, ⟨32, _⟩ => ⟨S4352x2048, .f32⟩
  | .hbm, ⟨33, _⟩ => ⟨S2048x4352, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S4096x2048, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .bf16⟩
  | .hbm, ⟨62, _⟩ => ⟨S2048x4352, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S2x2816x2048 : Shape := ⟨3, ![2, 2816, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2x4096x2816 : Shape := ⟨3, ![2, 4096, 2816]⟩
abbrev S1024x2048 : Shape := ⟨2, ![1024, 2048]⟩
abbrev S1x2816x2048 : Shape := ⟨3, ![1, 2816, 2048]⟩
abbrev S1x1024x2816 : Shape := ⟨3, ![1, 1024, 2816]⟩
abbrev S2816x2048 : Shape := ⟨2, ![2816, 2048]⟩
abbrev S1024x2816 : Shape := ⟨2, ![1024, 2816]⟩
abbrev S2x256x2816 : Shape := ⟨3, ![2, 256, 2816]⟩
abbrev S256x2048 : Shape := ⟨2, ![256, 2048]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S4096x512 : Shape := ⟨2, ![4096, 512]⟩

abbrev nBuf : Space → Nat
  | .hbm => 28
  | .vmem => 41
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048, .f32⟩
  | .hbm, ⟨8, _⟩ => ⟨S4096x2048, .bf16⟩
  | .hbm, ⟨9, _⟩ => ⟨S5632x2048, .f32⟩
  | .hbm, ⟨10, _⟩ => ⟨S5632x2048, .f32⟩
  | .hbm, ⟨11, _⟩ => ⟨S5632x2048, .bf16⟩
  | .hbm, ⟨12, _⟩ => ⟨S2x2816x2048, .bf16⟩
  | .hbm, ⟨13, _⟩ => ⟨S5632x2048, .bf16⟩
  | .hbm, ⟨14, _⟩ => ⟨S2x2816x2048, .bf16⟩
  | .hbm, ⟨15, _⟩ => ⟨S5632x2048, .bf16⟩
  | .hbm, ⟨16, _⟩ => ⟨S2x2816x2048, .bf16⟩
  | .hbm, ⟨17, _⟩ => ⟨S2048x2048, .bf16⟩
  | .hbm, ⟨18, _⟩ => ⟨S1x2048, .f32⟩
  | .hbm, ⟨19, _⟩ => ⟨S4096x2048, .f32⟩
  | .hbm, ⟨20, _⟩ => ⟨S4096x2048, .bf16⟩
  | .hbm, ⟨21, _⟩ => ⟨S2x4096x2816, .bf16⟩
  | .hbm, ⟨22, _⟩ => ⟨S2x4096x2816, .bf16⟩
  | .hbm, ⟨23, _⟩ => ⟨S1x2048, .f32⟩
  | .hbm, ⟨24, _⟩ => ⟨S4096x2048, .f32⟩
  | .hbm, ⟨25, _⟩ => ⟨S2x4096x2816, .bf16⟩
  | .hbm, ⟨26, _⟩ => ⟨S4096x2048, .bf16⟩
  | .hbm, ⟨27, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1x2816x2048, .bf16⟩
  | .local _ .vmem, ⟨13, _⟩ => ⟨S1x2816x2048, .bf16⟩
  | .local _ .vmem, ⟨14, _⟩ => ⟨S1x1024x2816, .bf16⟩
  | .local _ .vmem, ⟨15, _⟩ => ⟨S1x1024x2816, .bf16⟩
  | .local _ .vmem, ⟨16, _⟩ => ⟨S1024x2048, .bf16⟩
  | .local _ .vmem, ⟨17, _⟩ => ⟨S1024x2048, .bf16⟩
  | .local _ .vmem, ⟨18, _⟩ => ⟨S1x2816x2048, .bf16⟩
  | .local _ .vmem, ⟨19, _⟩ => ⟨S1x2816x2048, .bf16⟩
  | .local _ .vmem, ⟨20, _⟩ => ⟨S1x1024x2816, .bf16⟩
  | .local _ .vmem, ⟨21, _⟩ => ⟨S1x1024x2816, .bf16⟩
  | .local _ .vmem, ⟨22, _⟩ => ⟨S2x256x2816, .bf16⟩
  | .local _ .vmem, ⟨23, _⟩ => ⟨S2x256x2816, .bf16⟩
  | .local _ .vmem, ⟨24, _⟩ => ⟨S2x256x2816, .bf16⟩
  | .local _ .vmem, ⟨25, _⟩ => ⟨S2x256x2816, .bf16⟩
  | .local _ .vmem, ⟨26, _⟩ => ⟨S2x2816x2048, .bf16⟩
  | .local _ .vmem, ⟨27, _⟩ => ⟨S256x2048, .f32⟩
  | .local _ .vmem, ⟨28, _⟩ => ⟨S256x2048, .f32⟩
  | .local _ .vmem, ⟨29, _⟩ => ⟨S1x2048, .f32⟩
  | .local _ .vmem, ⟨30, _⟩ => ⟨S256x2048, .f32⟩
  | .local _ .vmem, ⟨31, _⟩ => ⟨S256x2048, .f32⟩
  | .local _ .vmem, ⟨32, _⟩ => ⟨S2x256x2816, .bf16⟩
  | .local _ .vmem, ⟨33, _⟩ => ⟨S2x256x2816, .bf16⟩
  | .local _ .vmem, ⟨34, _⟩ => ⟨S256x2048, .bf16⟩
  | .local _ .vmem, ⟨35, _⟩ => ⟨S256x2048, .bf16⟩
  | .local _ .vmem, ⟨36, _⟩ => ⟨S4096x512, .bf16⟩
  | .local _ .vmem, ⟨37, _⟩ => ⟨S4096x512, .bf16⟩
  | .local _ .vmem, ⟨38, _⟩ => ⟨S4096x2048, .bf16⟩
  | .local _ .vmem, ⟨39, _⟩ => ⟨S512x2048, .bf16⟩
  | .local _ .vmem, ⟨40, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x2816x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1x2816x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x256x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x256x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x2816x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2x256x2816 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S4096x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference4Ideal.lean ====
abbrev S4096x2048 : Shape := ⟨2, ![4096, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x5632 : Shape := ⟨2, ![4096, 5632]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048, .f32⟩
  | .hbm, ⟨8, _⟩ => ⟨S4096x2048, .bf16⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x2048, .f32⟩
  | .hbm, ⟨42, _⟩ => ⟨S4096x2048, .f32⟩
  | .hbm, ⟨43, _⟩ => ⟨S4096x2048, .bf16⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S2048x2048, .f32⟩
  | .hbm, ⟨62, _⟩ => ⟨S2048x2048, .f32⟩
  | .hbm, ⟨63, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel5.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩
abbrev S3x3x256x2048 : Shape := ⟨4, ![3, 3, 256, 2048]⟩
abbrev S3x3 : Shape := ⟨2, ![3, 3]⟩
abbrev S1x1 : Shape := ⟨2, ![1, 1]⟩
abbrev S_ : Shape := ⟨0, ![]⟩
abbrev S1x1x256x2048 : Shape := ⟨4, ![1, 1, 256, 2048]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S2048, .f32⟩
  | .local _ .vmem, ⟨0, _⟩ => ⟨S1x2048, .f32⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S3x3x256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_51 : BitVec 32 := 0#32
  c0_i32_51
def k0_mult2 : BitVec 32 :=
  let c256_i32_73 : BitVec 32 := 256#32
  c256_i32_73
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_48 : BitVec 32 := 3#32
  let v83 : BitVec 32 := Scalar.addi arg0 c3_i32_48
  let c1_i32_49 : BitVec 32 := 1#32
  let v84 : BitVec 32 := Scalar.subi v83 c1_i32_49
  let c256_i32_58 : BitVec 32 := 256#32
  let v97 : BitVec 32 := Scalar.muli v84 c256_i32_58
  v97
def k0_off1 (i : grid0.Coords) : Fin 2 → Nat :=
  let c0_i32_60 : BitVec 32 := 0#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  ![0, v96.toNat]
def k0_off2 (i : grid0.Coords) : Fin 4 → Nat :=
  let c0_i32_59 : BitVec 32 := 0#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c0_i32_61 : BitVec 32 := 0#32
  let c0_i32_62 : BitVec 32 := 0#32
  ![0, v96.toNat, 0, 0]
def k0_off3 (i : grid0.Coords) : Fin 2 → Nat :=
  let arg0 : BitVec 32 := BitVec.ofNat 32 (i 0).val
  let c3_i32_48 : BitVec 32 := 3#32
  let v83 : BitVec 32 := Scalar.addi arg0 c3_i32_48
  let c1_i32_49 : BitVec 32 := 1#32
  let v84 : BitVec 32 := Scalar.subi v83 c1_i32_49
  let c256_i32_58 : BitVec 32 := 256#32
  let v97 : BitVec 32 := Scalar.muli v84 c256_i32_58
  let v98 : BitVec 32 := v97
  let c0_i32_63 : BitVec 32 := 0#32
  ![v98.toNat, 0]
def k0_off4 (i : grid0.Coords) : Fin 2 → Nat :=
  let c1_i32_65 : BitVec 32 := 1#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  ![1, v96.toNat]
def k0_off5 (i : grid0.Coords) : Fin 4 → Nat :=
  let c1_i32_64 : BitVec 32 := 1#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c0_i32_66 : BitVec 32 := 0#32
  let c0_i32_67 : BitVec 32 := 0#32
  ![1, v96.toNat, 0, 0]
def k0_off6 (i : grid0.Coords) : Fin 2 → Nat :=
  let c2_i32_70 : BitVec 32 := 2#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  ![2, v96.toNat]
def k0_off7 (i : grid0.Coords) : Fin 4 → Nat :=
  let c2_i32_69 : BitVec 32 := 2#32
  let arg0 : BitVec 32 := BitVec.ofNat 32 (i 0).val
  let c3_i32_50 : BitVec 32 := 3#32
  let v85 : BitVec 32 := Scalar.addi arg0 c3_i32_50
  let c1_i32_51 : BitVec 32 := 1#32
  let v86 : BitVec 32 := Scalar.subi v85 c1_i32_51
  let c3_i32_52 : BitVec 32 := 3#32
  let c0_i32_53 : BitVec 32 := 0#32
  let v87 : BitVec 1 := Scalar.cmpi .eq c3_i32_52 c0_i32_53
  let c1_i32_54 : BitVec 32 := 1#32
  let v88 : BitVec 32 := Scalar.select v87 c1_i32_54 c3_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c0_i32_71 : BitVec 32 := 0#32
  let c0_i32_72 : BitVec 32 := 0#32
  ![2, v96.toNat, 0, 0]
def k0_mult4 (i : grid0.Coords) : BitVec 32 :=
  let arg0 : BitVec 32 := BitVec.ofNat 32 (i 0).val
  let c256_i32 : BitVec 32 := 256#32
  let v18 : BitVec 32 := Scalar.muli arg0 c256_i32
  v18
def k0_off8 (i : grid0.Coords) : Fin 2 → Nat :=
  let c0_i32_9 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![0, v17.toNat]
def k0_off9 (i : grid0.Coords) : Fin 4 → Nat :=
  let c0_i32_8 : BitVec 32 := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_10 : BitVec 32 := 0#32
  let c0_i32_11 : BitVec 32 := 0#32
  ![0, v17.toNat, 0, 0]
def k0_off10 (i : grid0.Coords) : Fin 2 → Nat :=
  let arg0 : BitVec 32 := BitVec.ofNat 32 (i 0).val
  let c256_i32 : BitVec 32 := 256#32
  let v18 : BitVec 32 := Scalar.muli arg0 c256_i32
  let v19 : BitVec 32 := v18
  let c0_i32_12 : BitVec 32 := 0#32
  ![v19.toNat, 0]
def k0_off11 (i : grid0.Coords) : Fin 2 → Nat :=
  let c1_i32_14 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![1, v17.toNat]
def k0_off12 (i : grid0.Coords) : Fin 4 → Nat :=
  let c1_i32_13 : BitVec 32 := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_15 : BitVec 32 := 0#32
  let c0_i32_16 : BitVec 32 := 0#32
  ![1, v17.toNat, 0, 0]
def k0_off13 (i : grid0.Coords) : Fin 2 → Nat :=
  let c2_i32_18 : BitVec 32 := 2#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![2, v17.toNat]
def k0_off14 (i : grid0.Coords) : Fin 4 → Nat :=
  let c2_i32 : BitVec 32 := 2#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_19 : BitVec 32 := 0#32
  let c0_i32_20 : BitVec 32 := 0#32
  ![2, v17.toNat, 0, 0]
def k0_off15 (i : grid0.Coords) : Fin 4 → Nat :=
  let c0 : Index := 0#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v35 : Index := Scalar.indexCast v17
  let c0_22 : Index := 0#32
  let c0_23 : Index := 0#32
  ![0, v35.toNat, 0, 0]
def k0_off16 (i : grid0.Coords) : Fin 4 → Nat :=
  let c1 : Index := 1#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v38 : Index := Scalar.indexCast v17
  let c0_24 : Index := 0#32
  let c0_25 : Index := 0#32
  ![1, v38.toNat, 0, 0]
def k0_off17 (i : grid0.Coords) : Fin 4 → Nat :=
  let c2 : Index := 2#32
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v41 : Index := Scalar.indexCast v17
  let c0_26 : Index := 0#32
  let c0_27 : Index := 0#32
  ![2, v41.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S4096x2048 : Shape := ⟨2, ![4096, 2048]⟩
abbrev S2048 : Shape := ⟨1, ![2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.SoftmaxReal.lean ====
/-
  Softmax rows over extended reals whose entries are real numbers.

  A kernel and a reference both form `exp (s j - M)` for a row of scores `s` and a row maximum `M`, and both
  divide by the row's sum.  Over the reals the quotient does not depend on `M`, so all that is used of the maximum
  is that it is a real number.  The lemmas below carry the row expressions, as they are read off the programs, to
  one real function `wt s j = exp (s j) / ∑ i, exp (s i)`.
-/
module

public import Idealize.ShloMosaic.Lib.Pipeline.ValueKit

@[expose] public section

noncomputable section

open Idealize.ShloMosaic

namespace SoftmaxReal

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word that starts a running maximum is below every real number's upper bound: it is minus infinity. -/
theorem start_eq : Ideal.ofBits FTy.f32 4286578688#32 = ⊥ := by
  simp [Ideal.ofBits, Ideal.ieee]

/-- The word of one. -/
theorem one_eq : Ideal.ofBits FTy.f32 1065353216#32 = 1 := by
  simp [Ideal.ofBits, Ideal.ieee, -EReal.coe_mul]; norm_num

/-- The running maximum of a nonempty family of real numbers, started at minus infinity, is a real number. -/
theorem fold_max_real {ι : Type*} [Fintype ι] [Nonempty ι] (s : ι → ℝ) :
    ∃ M : ℝ, Finset.fold max (⊥ : EReal) (fun j => (s j : EReal)) Finset.univ = M := by
  have h1 : Finset.fold max (⊥ : EReal) (fun j => (s j : EReal)) Finset.univ ≠ ⊤ := by
    refine ne_of_lt ((Finset.fold_max_lt (c := (⊤ : EReal))).2 ⟨bot_lt_top, fun x _ => EReal.coe_lt_top _⟩)
  have h2 : Finset.fold max (⊥ : EReal) (fun j => (s j : EReal)) Finset.univ ≠ ⊥ := by
    refine ne_of_gt (lt_of_lt_of_le (EReal.bot_lt_coe (s (Classical.arbitrary ι))) ?_)
    exact (Finset.le_fold_max (c := ((s (Classical.arbitrary ι) : ℝ) : EReal))).2 (.inr ⟨Classical.arbitrary ι, Finset.mem_univ _, le_rfl⟩)
  exact ⟨_, (EReal.coe_toReal h1 h2).symm⟩

/-- The weight a softmax row gives its entry `j`. -/
def wt {ι : Type*} [Fintype ι] (s : ι → ℝ) (j : ι) : ℝ := Real.exp (s j) / ∑ i, Real.exp (s i)

theorem sum_exp_pos {ι : Type*} [Fintype ι] [Nonempty ι] (s : ι → ℝ) : 0 < ∑ i, Real.exp (s i) :=
  Finset.sum_pos (fun i _ => Real.exp_pos _) Finset.univ_nonempty

/-- Subtracting one number from every score leaves the weights as they are. -/
theorem wt_shift {ι : Type*} [Fintype ι] [Nonempty ι] (s : ι → ℝ) (M : ℝ) (j : ι) :
    Real.exp (s j - M) / ∑ i, Real.exp (s i - M) = wt s j := by
  have h : ∀ i, Real.exp (s i - M) = Real.exp (s i) * Real.exp (-M) := fun i => by rw [← Real.exp_add]; ring_nf
  simp only [h, ← Finset.sum_mul]
  exact mul_div_mul_right _ _ (Real.exp_ne_zero _)

theorem wt_mul_sum {ι : Type*} [Fintype ι] [Nonempty ι] (s : ι → ℝ) (M : ℝ) (j : ι) :
    Real.exp (s j - M) = wt s j * ∑ i, Real.exp (s i - M) := by
  rw [← wt_shift s M j, div_mul_cancel₀]
  exact (sum_exp_pos (fun i => s i - M)).ne'

/-- Dividing a real number by a real number that is not zero, in the extended reals, is the real quotient. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_real (a : ℝ) : Ideal.exp (a : EReal) = ((Real.exp a : ℝ) : EReal) := rfl

/-- The running maximum of a row as a real number. -/
def rowMax {ι : Type*} [Fintype ι] [Nonempty ι] (s : ι → ℝ) : ℝ := (fold_max_real s).choose

theorem fold_eq {ι : Type*} [Fintype ι] [Nonempty ι] (s : ι → ℝ) :
    Finset.fold max (⊥ : EReal) (fun j => (s j : EReal)) Finset.univ = (rowMax s : EReal) := (fold_max_real s).choose_spec

/-- An entry of a row of exponentials. -/
theorem exp_row {ι : Type*} [Fintype ι] [Nonempty ι] (s : ι → ℝ) (j : ι) :
    Ideal.exp ((s j : EReal) - Finset.fold max (⊥ : EReal) (fun j => (s j : EReal)) Finset.univ)
      = ((Real.exp (s j - rowMax s) : ℝ) : EReal) := by
  rw [fold_eq, ← EReal.coe_sub, exp_real]

/-- The product of a row of exponentials with a column, over the row's sum: the weighted mean of the column. -/
theorem mean_row {ι : Type*} [Fintype ι] [Nonempty ι] (s v : ι → ℝ) (M : ℝ) :
    Ideal.div (∑ j, ((Real.exp (s j - M) : ℝ) : EReal) * (v j : EReal)) (∑ j, ((Real.exp (s j - M) : ℝ) : EReal))
      = ((∑ j, wt s j * v j : ℝ) : EReal) := by
  simp only [← EReal.coe_mul, ← coe_sum]
  rw [div_real _ _ (sum_exp_pos fun i => s i - M).ne', Finset.sum_div]
  congr 1
  refine Finset.sum_congr rfl fun j _ => ?_
  rw [← wt_shift s M j]; ring

/-- A row's weight, formed as the exponential times the reciprocal of the row's sum. -/
theorem weight_mul {ι : Type*} [Fintype ι] [Nonempty ι] (s : ι → ℝ) (M : ℝ) (j : ι) :
    ((Real.exp (s j - M) : ℝ) : EReal) * Ideal.div 1 (∑ j, ((Real.exp (s j - M) : ℝ) : EReal)) = (wt s j : EReal) := by
  rw [← coe_sum, ← EReal.coe_one, div_real _ _ (sum_exp_pos fun i => s i - M).ne', ← EReal.coe_mul, ← wt_shift s M j]
  congr 1; ring

/-- A row's weight, formed as a quotient. -/
theorem weight_div {ι : Type*} [Fintype ι] [Nonempty ι] (s : ι → ℝ) (M : ℝ) (j : ι) :
    Ideal.div ((Real.exp (s j - M) : ℝ) : EReal) (∑ j, ((Real.exp (s j - M) : ℝ) : EReal)) = (wt s j : EReal) := by
  rw [← coe_sum, div_real _ _ (sum_exp_pos fun i => s i - M).ne', ← wt_shift s M j]

/-- The gradient of the weights at entry `j`, from the gradient `g` of the weighted sums. -/
def dwt {ι : Type*} [Fintype ι] (s g : ι → ℝ) (j : ι) : ℝ := wt s j * (g j - ∑ i, wt s i * g i)

/-- The gradient of a softmax row as differentiation of the quotient `exp / sum` gives it: the part through the
    numerator and the part through the sum, both times the exponential. -/
theorem grad_quotient {ι : Type*} [Fintype ι] [Nonempty ι] (s g : ι → ℝ) (M : ℝ) (j : ι) :
    (Ideal.div (g j : EReal) (∑ i, ((Real.exp (s i - M) : ℝ) : EReal))
      + -(∑ i, ((g i : EReal) * Ideal.div 1 ((∑ i, ((Real.exp (s i - M) : ℝ) : EReal)) * (∑ i, ((Real.exp (s i - M) : ℝ) : EReal))))
          * ((Real.exp (s i - M) : ℝ) : EReal))) * ((Real.exp (s j - M) : ℝ) : EReal) = (dwt s g j : EReal) := by
  have hL := (sum_exp_pos fun i => s i - M).ne'
  simp only [← coe_sum, ← EReal.coe_mul]
  rw [← EReal.coe_one, div_real _ _ hL, div_real _ _ (mul_ne_zero hL hL)]
  simp only [← coe_sum, ← EReal.coe_mul, ← EReal.coe_neg, ← EReal.coe_add]
  congr 1
  simp only [dwt, ← wt_shift s M]
  set L := ∑ i, Real.exp (s i - M)
  have : ∑ i, g i * (1 / (L * L)) * Real.exp (s i - M) = (∑ i, Real.exp (s i - M) / L * g i) / L := by
    rw [Finset.sum_div]; refine Finset.sum_congr rfl fun i _ => ?_; field_simp
  rw [this]; field_simp; ring

/-- The gradient of a softmax row from the row's output: what the weighted sum of the gradients `g j = ∑ d, a d * v j d`
    is when it is formed as the product of the output `∑ j, wt s j * v j d` with `a`. -/
theorem sum_wt_out {ι κ : Type*} [Fintype ι] [Fintype κ] (s : ι → ℝ) (a : κ → ℝ) (v : ι → κ → ℝ) :
    ∑ d, a d * ∑ j, wt s j * v j d = ∑ j, wt s j * ∑ d, a d * v j d := by
  simp only [Finset.mul_sum]
  rw [Finset.sum_comm]
  refine Finset.sum_congr rfl fun j _ => Finset.sum_congr rfl fun d _ => ?_
  ring

end SoftmaxReal

end
-- ==== Proof.AttnSpec.lean ====
/-
  Grouped-query attention and its gradients as real functions of real arrays.

  Two batches, two groups of keys, four query heads to a group, 2048 positions, 64 dimensions to a head; the query
  head of group `g` and member `p` is head `4 g + p`.  `Out` is the attention's output, and `GradQ`, `GradK`, `GradV`
  are what differentiation gives for an output gradient `DO`.
-/
module

public import proofs.«01_k».proof.Proof.SoftmaxReal

@[expose] public section

noncomputable section

open Idealize.ShloMosaic

namespace AttnSpec

open SoftmaxReal

/-- Arrays over query heads, and arrays over key heads. -/
abbrev Heads := Fin 2 → Fin 2 → Fin 4 → Fin 2048 → Fin 64 → ℝ
abbrev Keys := Fin 2 → Fin 2 → Fin 2048 → Fin 64 → ℝ

/-- The score of query `r` against key `j`. -/
def Score (Q : Heads) (K : Keys) (b g : Fin 2) (p : Fin 4) (r j : Fin 2048) : ℝ := ∑ d, Q b g p r d * K b g j d

/-- The attention's weight of key `j` for query `r`. -/
def Weight (Q : Heads) (K : Keys) (b g : Fin 2) (p : Fin 4) (r j : Fin 2048) : ℝ := wt (Score Q K b g p r) j

/-- The gradient of the scores: `Score DO V` is the gradient of the weights. -/
def GradScore (Q : Heads) (K V : Keys) (DO : Heads) (b g : Fin 2) (p : Fin 4) (r j : Fin 2048) : ℝ :=
  dwt (Score Q K b g p r) (Score DO V b g p r) j

def Out (Q : Heads) (K V : Keys) : Heads := fun b g p r d => ∑ j, Weight Q K b g p r j * V b g j d

def GradQ (Q : Heads) (K V : Keys) (DO : Heads) : Heads := fun b g p r d => ∑ j, GradScore Q K V DO b g p r j * K b g j d

def GradK (Q : Heads) (K V : Keys) (DO : Heads) : Keys := fun b g j d => ∑ p, ∑ r, GradScore Q K V DO b g p r j * Q b g p r d

def GradV (Q : Heads) (K : Keys) (DO : Heads) : Keys := fun b g j d => ∑ p, ∑ r, Weight Q K b g p r j * DO b g p r d

/-- The same gradient of the scores, when the weighted sum of the weights' gradient is formed from the output. -/
theorem gradScore_eq (Q : Heads) (K V : Keys) (DO : Heads) (b g : Fin 2) (p : Fin 4) (r j : Fin 2048) :
    Weight Q K b g p r j * (Score DO V b g p r j - ∑ d, DO b g p r d * Out Q K V b g p r d) = GradScore Q K V DO b g p r j := by
  unfold GradScore dwt Out Weight
  rw [sum_wt_out]
  rfl

/-- Shapes of an array over query heads and of one over key heads. -/
abbrev SQ : Shape := ⟨4, ![2, 8, 2048, 64]⟩
abbrev SK : Shape := ⟨4, ![2, 2, 2048, 64]⟩

/-- The real numbers in an array over query heads, by group and member. -/
def heads (x : SQ.Idx → EReal) : Heads := fun b g p r d => (x (ix4 b ⟨g.val * 4 + p.val, by omega⟩ r d)).toReal

/-- The real numbers in an array over key heads. -/
def keys (x : SK.Idx → EReal) : Keys := fun b g r d => (x (ix4 b g r d)).toReal

/-- An array over query heads from its real numbers. -/
def ofHeads (f : Heads) : SQ.Idx → EReal := fun i =>
  ((f (i 0) ⟨(i 1).val / 4, by have := (i 1).isLt; simp at this; omega⟩ ⟨(i 1).val % 4, by omega⟩ (i 2) (i 3) : ℝ) : EReal)

/-- An array over key heads from its real numbers. -/
def ofKeys (f : Keys) : SK.Idx → EReal := fun i => ((f (i 0) (i 1) (i 2) (i 3) : ℝ) : EReal)

/-- Every entry of an array is a real number. -/
def Finite {s : Shape} (x : s.Idx → EReal) : Prop := ∀ i, x i ≠ ⊤ ∧ x i ≠ ⊥

theorem Finite.coe {s : Shape} {x : s.Idx → EReal} (h : Finite x) (i : s.Idx) : x i = ((x i).toReal : EReal) :=
  (EReal.coe_toReal (h i).1 (h i).2).symm

theorem Finite.heads {x : SQ.Idx → EReal} (h : Finite x) (b g : Fin 2) (p : Fin 4) (r : Fin 2048) (d : Fin 64) (hp : g.val * 4 + p.val < 8) :
    x (ix4 b ⟨g.val * 4 + p.val, hp⟩ r d) = ((heads x b g p r d : ℝ) : EReal) := h.coe _

theorem Finite.keys {x : SK.Idx → EReal} (h : Finite x) (b g : Fin 2) (r : Fin 2048) (d : Fin 64) :
    x (ix4 b g r d) = ((keys x b g r d : ℝ) : EReal) := h.coe _

theorem ofHeads_ix4 (f : Heads) (b g : Fin 2) (p : Fin 4) (r : Fin 2048) (d : Fin 64) (hp : g.val * 4 + p.val < 8) :
    ofHeads f (ix4 b ⟨g.val * 4 + p.val, hp⟩ r d) = ((f b g p r d : ℝ) : EReal) := by
  have e1 : (⟨(g.val * 4 + p.val) / 4, by omega⟩ : Fin 2) = g := Fin.ext (by show _ / 4 = _; omega)
  have e2 : (⟨(g.val * 4 + p.val) % 4, by omega⟩ : Fin 4) = p := Fin.ext (by show _ % 4 = _; omega)
  show ((f b ⟨(g.val * 4 + p.val) / 4, _⟩ ⟨(g.val * 4 + p.val) % 4, _⟩ r d : ℝ) : EReal) = _
  rw [e1, e2]

theorem ofKeys_ix4 (f : Keys) (b g : Fin 2) (r : Fin 2048) (d : Fin 64) : ofKeys f (ix4 b g r d) = ((f b g r d : ℝ) : EReal) := rfl

end AttnSpec

end
-- ==== Proof.Finite.lean ====
/-
  What the claim's precondition says: it holds exactly of arguments none of whose entries is infinite.
-/
module

public import proofs.«01_k».proof.Defs
public import proofs.«01_k».proof.Proof.AttnSpec
public import Idealize.ShloMosaic.Lib.ReduceAll

@[expose] public section

noncomputable section

open Idealize.ShloMosaic Idealize.SL.Sem

namespace Cert.FiniteArgs

open AttnSpec

/-- The side conditions of the precondition's operations. -/
theorem facts : Cert.Pre_finite.Facts where
  bcast_S_S2x8x2048x64 := by decide
  reducesTo_S2x8x2048x64_S_d0_1_2_3 := by decide
  h_S_ := by decide
  bcast_S_S2x2x2048x64 := by decide
  reducesTo_S2x2x2048x64_S_d0_1_2_3 := by decide

/-- The 16-bit word of plus infinity. -/
theorem top16 : Ideal.ofBits FTy.bf16 0x7F80#16 = (⊤ : EReal) := by simp [Ideal.ofBits, Ideal.ieee]

/-- The 32-bit word of plus infinity. -/
theorem top32 : Ideal.ofBits FTy.f32 0x7F800000#32 = (⊤ : EReal) := by simp [Ideal.ofBits, Ideal.ieee]

/-- An absolute value below plus infinity is that of a finite number. -/
theorem of_abs_lt {x y : EReal} (hy : y = ⊤) (h : Ideal.cmp .olt (max x (-x)) y = 1#1) : x ≠ ⊤ ∧ x ≠ ⊥ := by
  subst hy
  have h' : max x (-x) < ⊤ := by
    by_contra hn
    simp [Ideal.cmp, hn] at h
  refine ⟨fun e => ?_, fun e => ?_⟩ <;> simp [e] at h'

/-- The precondition's four conjuncts. -/
theorem of_pre [hp : Cert.Pre_finite.Facts] {x0 : SQ.Idx → EReal} {x1 x2 : SK.Idx → EReal} {x3 : SQ.Idx → EReal}
    (h : Cert.Pre_finite.fn (F := Ideal) x0 x1 x2 x3 = fun _ => 1#1) :
    Finite x0 ∧ Finite x1 ∧ Finite x2 ∧ Finite x3 := by
  have h0 := congrFun h ix0
  dsimp only [Cert.Pre_finite.fn, Cert.Pre_finite.fn_part1] at h0
  have sub : Subsingleton Cert.Pre_finite.S_.Idx := ⟨fun a b => funext fun i => i.elim0⟩
  obtain ⟨h1, d3⟩ := IntOp.andi_eq_one.1 h0
  obtain ⟨h2, d2⟩ := IntOp.andi_eq_one.1 h1
  obtain ⟨d0, d1⟩ := IntOp.andi_eq_one.1 h2
  exact ⟨fun i => of_abs_lt top16 (Host.reduce_andi_all _ _ _ _ _ d0 i),
    fun i => of_abs_lt top16 (Host.reduce_andi_all _ _ _ _ _ d1 i),
    fun i => of_abs_lt top16 (Host.reduce_andi_all _ _ _ _ _ d2 i),
    fun i => of_abs_lt top32 (Host.reduce_andi_all _ _ _ _ _ d3 i)⟩

end Cert.FiniteArgs

end
-- ==== Proof.AttnTile.lean ====
/-
  One tile of the attention: 512 queries of the four heads of a group against all 2048 keys of that group.

  The functions below are the expressions the kernel's two bodies compute from their blocks, over extended reals.
  The lemmas say that on blocks of real numbers they are the tile's rows of the functions `AttnSpec` names, and that
  the four tiles of a group sum to the gradient of its keys and values.
-/
module

public import proofs.«01_k».proof.Proof.AttnSpec

@[expose] public section

noncomputable section

open Idealize.ShloMosaic

namespace AttnTile

open SoftmaxReal AttnSpec

/-- A block of queries (one batch, four heads, 512 rows) and a block of keys (one batch, one head, 2048 rows). -/
abbrev SB : Shape := ⟨4, ![1, 4, 512, 64]⟩
abbrev SC : Shape := ⟨4, ![1, 1, 2048, 64]⟩

variable (q : SB.Idx → EReal) (k v : SC.Idx → EReal) (o a : SB.Idx → EReal)

/-- Scores, exponentials of the scores less the row's maximum, and normalised weights. -/
def sc (p : Fin 4) (r : Fin 512) (j : Fin 2048) : EReal := ∑ d : Fin 64, q (ix4 0 p r d) * k (ix4 0 0 j d)
def ex (p : Fin 4) (r : Fin 512) (j : Fin 2048) : EReal := Ideal.exp (sc q k p r j - Finset.fold max ⊥ (fun j => sc q k p r j) Finset.univ)
def pr (p : Fin 4) (r : Fin 512) (j : Fin 2048) : EReal := ex q k p r j * Ideal.div 1 (∑ i : Fin 2048, ex q k p r i)

/-- The gradient of the scores. -/
def ds (p : Fin 4) (r : Fin 512) (j : Fin 2048) : EReal :=
  pr q k p r j * (sc a v p r j - ∑ d : Fin 64, a (ix4 0 p r d) * o (ix4 0 p r d))

/-- The block of the output, of the gradient of the queries, and a tile's part of the gradients of keys and values. -/
def out (p : Fin 4) (r : Fin 512) (d : Fin 64) : EReal := Ideal.div (∑ j : Fin 2048, ex q k p r j * v (ix4 0 0 j d)) (∑ j : Fin 2048, ex q k p r j)
def dq (p : Fin 4) (r : Fin 512) (d : Fin 64) : EReal := ∑ j : Fin 2048, ds q k v o a p r j * k (ix4 0 0 j d)
def dk (j : Fin 2048) (d : Fin 64) : EReal := ∑ p : Fin 4, ∑ r : Fin 512, ds q k v o a p r j * q (ix4 0 p r d)
def dv (j : Fin 2048) (d : Fin 64) : EReal := ∑ p : Fin 4, ∑ r : Fin 512, pr q k p r j * a (ix4 0 p r d)

theorem dk_four (j : Fin 2048) (d : Fin 64) : dk q k v o a j d = (∑ r : Fin 512, ds q k v o a 0 r j * q (ix4 0 0 r d))
    + (∑ r : Fin 512, ds q k v o a 1 r j * q (ix4 0 1 r d)) + (∑ r : Fin 512, ds q k v o a 2 r j * q (ix4 0 2 r d))
    + (∑ r : Fin 512, ds q k v o a 3 r j * q (ix4 0 3 r d)) := by rw [dk, Fin.sum_univ_four]

theorem dv_four (j : Fin 2048) (d : Fin 64) : dv q k a j d = (∑ r : Fin 512, pr q k 0 r j * a (ix4 0 0 r d))
    + (∑ r : Fin 512, pr q k 1 r j * a (ix4 0 1 r d)) + (∑ r : Fin 512, pr q k 2 r j * a (ix4 0 2 r d))
    + (∑ r : Fin 512, pr q k 3 r j * a (ix4 0 3 r d)) := by rw [dv, Fin.sum_univ_four]

/-- Row `r` of tile `i` of the sequence. -/
def row (i : Fin 4) (r : Fin 512) : Fin 2048 := ⟨i.val * 512 + r.val, by omega⟩

/-- The blocks hold the real arrays' rows of batch `b`, group `g` and tile `i`. -/
def IsRows (x : SB.Idx → EReal) (X : Heads) (b g : Fin 2) (i : Fin 4) : Prop := ∀ p r d, x (ix4 0 p r d) = ((X b g p (row i r) d : ℝ) : EReal)
def IsCols (x : SC.Idx → EReal) (X : Keys) (b g : Fin 2) : Prop := ∀ j d, x (ix4 0 0 j d) = ((X b g j d : ℝ) : EReal)

variable {q k v o a} {Q DO : Heads} {K V : Keys} {b g : Fin 2} {i : Fin 4}

theorem sc_eq (hq : IsRows q Q b g i) (hk : IsCols k K b g) (p : Fin 4) (r : Fin 512) (j : Fin 2048) :
    sc q k p r j = ((Score Q K b g p (row i r) j : ℝ) : EReal) := by
  rw [sc, Score, coe_sum]
  exact Finset.sum_congr rfl fun d _ => by rw [hq, hk, EReal.coe_mul]

theorem ex_eq (hq : IsRows q Q b g i) (hk : IsCols k K b g) (p : Fin 4) (r : Fin 512) (j : Fin 2048) :
    ex q k p r j = ((Real.exp (Score Q K b g p (row i r) j - rowMax (Score Q K b g p (row i r))) : ℝ) : EReal) := by
  unfold ex
  simp only [sc_eq hq hk]
  exact exp_row _ _

theorem pr_eq (hq : IsRows q Q b g i) (hk : IsCols k K b g) (p : Fin 4) (r : Fin 512) (j : Fin 2048) :
    pr q k p r j = ((Weight Q K b g p (row i r) j : ℝ) : EReal) := by
  unfold pr
  simp only [ex_eq hq hk]
  exact weight_mul _ _ _

theorem ds_eq (hq : IsRows q Q b g i) (hk : IsCols k K b g) (hv : IsCols v V b g) (ho : IsRows o (Out Q K V) b g i) (ha : IsRows a DO b g i)
    (p : Fin 4) (r : Fin 512) (j : Fin 2048) : ds q k v o a p r j = ((GradScore Q K V DO b g p (row i r) j : ℝ) : EReal) := by
  have e : ∑ d : Fin 64, a (ix4 0 p r d) * o (ix4 0 p r d)
      = ((∑ d, DO b g p (row i r) d * Out Q K V b g p (row i r) d : ℝ) : EReal) := by
    rw [coe_sum]
    exact Finset.sum_congr rfl fun d _ => by rw [ha, ho, EReal.coe_mul]
  rw [ds, pr_eq hq hk, sc_eq ha hv, e, ← EReal.coe_sub, ← EReal.coe_mul, gradScore_eq]

theorem out_eq (hq : IsRows q Q b g i) (hk : IsCols k K b g) (hv : IsCols v V b g) (p : Fin 4) (r : Fin 512) (d : Fin 64) :
    out q k v p r d = ((Out Q K V b g p (row i r) d : ℝ) : EReal) := by
  unfold out
  simp only [ex_eq hq hk, hv _ _]
  exact mean_row _ _ _

theorem dq_eq (hq : IsRows q Q b g i) (hk : IsCols k K b g) (hv : IsCols v V b g) (ho : IsRows o (Out Q K V) b g i) (ha : IsRows a DO b g i)
    (p : Fin 4) (r : Fin 512) (d : Fin 64) : dq q k v o a p r d = ((GradQ Q K V DO b g p (row i r) d : ℝ) : EReal) := by
  rw [dq, GradQ, coe_sum]
  exact Finset.sum_congr rfl fun j _ => by rw [ds_eq hq hk hv ho ha, hk, EReal.coe_mul]

theorem dk_eq (hq : IsRows q Q b g i) (hk : IsCols k K b g) (hv : IsCols v V b g) (ho : IsRows o (Out Q K V) b g i) (ha : IsRows a DO b g i)
    (j : Fin 2048) (d : Fin 64) : dk q k v o a j d = ((∑ p, ∑ r, GradScore Q K V DO b g p (row i r) j * Q b g p (row i r) d : ℝ) : EReal) := by
  rw [dk, coe_sum]
  refine Finset.sum_congr rfl fun p _ => ?_
  rw [coe_sum]
  exact Finset.sum_congr rfl fun r _ => by rw [ds_eq hq hk hv ho ha, hq, EReal.coe_mul]

theorem dv_eq (hq : IsRows q Q b g i) (hk : IsCols k K b g) (ha : IsRows a DO b g i)
    (j : Fin 2048) (d : Fin 64) : dv q k a j d = ((∑ p, ∑ r, Weight Q K b g p (row i r) j * DO b g p (row i r) d : ℝ) : EReal) := by
  rw [dv, coe_sum]
  refine Finset.sum_congr rfl fun p _ => ?_
  rw [coe_sum]
  exact Finset.sum_congr rfl fun r _ => by rw [pr_eq hq hk, ha, EReal.coe_mul]

/-- The rows of the four tiles are the rows of the sequence. -/
theorem sum_row (f : Fin 2048 → ℝ) : ∑ i : Fin 4, ∑ r : Fin 512, f (row i r) = ∑ r : Fin 2048, f r := by
  rw [← Fintype.sum_prod_type', ← (finProdFinEquiv (m := 4) (n := 512)).sum_comp f]
  refine Finset.sum_congr rfl fun x _ => congrArg f (Fin.ext ?_)
  simp [row, finProdFinEquiv]; ring

/-- The four tiles' parts of a group's gradient, summed head by head. -/
theorem sum_tiles (f : Fin 4 → Fin 2048 → ℝ) : ∑ i : Fin 4, ∑ p : Fin 4, ∑ r : Fin 512, f p (row i r) = ∑ p : Fin 4, ∑ r : Fin 2048, f p r := by
  rw [Finset.sum_comm]
  exact Finset.sum_congr rfl fun p _ => sum_row (f p)

end AttnTile

end
-- ==== Proof.AttnKernel.lean ====
/-
  The two kernels of the attention: what each grid point leaves in its blocks, and the arrays after the launch.
-/
module

public import proofs.«01_k».proof.Proof.Gen.KernelIdeal.Frame
public import proofs.«01_k».proof.Proof.AttnTile

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen AttnSpec AttnTile SoftmaxReal

/-! ## The bodies at an index -/

/-- The forward body's four stores, one for each head of the group. -/
theorem out_block (x0 : SB.Idx → EReal) (x1 x2 : SC.Idx → EReal) (y : S1x4x512x64.Idx) :
    out0_3 (F := Ideal) x0 x1 x2 y = out x0 x1 x2 (y 1) (y 2) (y 3) := by
  unfold_out out0_3
  canon_tiles x h
  all_goals
    open_payloads
    pointwise []
    simp only [start_eq]
  · rw [show y 1 = (3 : Fin 4) from Fin.ext (by show _ = 3; omega), show y 2 = x 2 from Fin.ext h2, show y 3 = x 3 from Fin.ext h3]; rfl
  · rw [show y 1 = (2 : Fin 4) from Fin.ext (by show _ = 2; omega), show y 2 = x 2 from Fin.ext h2, show y 3 = x 3 from Fin.ext h3]; rfl
  · rw [show y 1 = (1 : Fin 4) from Fin.ext (by show _ = 1; omega), show y 2 = x 2 from Fin.ext h2, show y 3 = x 3 from Fin.ext h3]; rfl
  · rw [show y 1 = (0 : Fin 4) from Fin.ext (by show _ = 0; omega), show y 2 = x 2 from Fin.ext h2, show y 3 = x 3 from Fin.ext h3]; rfl

variable (V : (c : Dev nD) → (b : Ref sig .tc) → Buf (Elt Ideal) ((c : Thread nD τ).loc b)) (c : Dev nD)

/-- The backward body's stores of the gradient of the queries, at the first tile of a group and at the others. -/
theorem dq_block (t : Fin cfg1.N) (y : S1x4x512x64.Idx) : (outsAt1 V c t.val t.isLt).1 y
    = dq (iblk1 V c 0 t) (iblk1 V c 1 t) (iblk1 V c 2 t) (iblk1 V c 3 t) (iblk1 V c 4 t) (y 1) (y 2) (y 3) := by
  by_cases h0 : t.val % 4 = 0
  · rw [outsAt1_A V c t h0]
    frame_out
    canon_tiles x h
    all_goals
      open_payloads
      pointwise []
      simp only [start_eq, one_eq]
    · rw [show y 1 = (3 : Fin 4) from Fin.ext (by show _ = 3; omega), show y 2 = x 2 from Fin.ext h2, show y 3 = x 3 from Fin.ext h3]; rfl
    · rw [show y 1 = (2 : Fin 4) from Fin.ext (by show _ = 2; omega), show y 2 = x 2 from Fin.ext h2, show y 3 = x 3 from Fin.ext h3]; rfl
    · rw [show y 1 = (1 : Fin 4) from Fin.ext (by show _ = 1; omega), show y 2 = x 2 from Fin.ext h2, show y 3 = x 3 from Fin.ext h3]; rfl
    · rw [show y 1 = (0 : Fin 4) from Fin.ext (by show _ = 0; omega), show y 2 = x 2 from Fin.ext h2, show y 3 = x 3 from Fin.ext h3]; rfl
  · rw [outsAt1_B V c t h0]
    frame_out
    canon_tiles x h
    all_goals
      open_payloads
      pointwise []
      simp only [start_eq, one_eq]
    · rw [show y 1 = (3 : Fin 4) from Fin.ext (by show _ = 3; omega), show y 2 = x 2 from Fin.ext h2, show y 3 = x 3 from Fin.ext h3]; rfl
    · rw [show y 1 = (2 : Fin 4) from Fin.ext (by show _ = 2; omega), show y 2 = x 2 from Fin.ext h2, show y 3 = x 3 from Fin.ext h3]; rfl
    · rw [show y 1 = (1 : Fin 4) from Fin.ext (by show _ = 1; omega), show y 2 = x 2 from Fin.ext h2, show y 3 = x 3 from Fin.ext h3]; rfl
    · rw [show y 1 = (0 : Fin 4) from Fin.ext (by show _ = 0; omega), show y 2 = x 2 from Fin.ext h2, show y 3 = x 3 from Fin.ext h3]; rfl

/-- The block of the keys' gradient: started at the first tile of a group, added to at the others. -/
theorem dk_first (t : Fin cfg1.N) (h0 : t.val % 4 = 0) (y : S1x1x2048x64.Idx) : (outsAt1 V c t.val t.isLt).2.1 y
    = dk (iblk1 V c 0 t) (iblk1 V c 1 t) (iblk1 V c 2 t) (iblk1 V c 3 t) (iblk1 V c 4 t) (y 2) (y 3) := by
  rw [outsAt1_A V c t h0]
  frame_out
  open_payloads
  pointwise []
  simp only [start_eq, one_eq]
  refine Eq.trans ?_ (dk_four _ _ _ _ _ _ _).symm
  rfl

theorem dk_next (t : Fin cfg1.N) (h0 : ¬t.val % 4 = 0) (y : S1x1x2048x64.Idx) : (outsAt1 V c t.val t.isLt).2.1 y
    = ((outsAt1 V c (t.val - 1) (by omega)).2.1 y : EReal)
      + dk (iblk1 V c 0 t) (iblk1 V c 1 t) (iblk1 V c 2 t) (iblk1 V c 3 t) (iblk1 V c 4 t) (y 2) (y 3) := by
  rw [outsAt1_B V c t h0]
  frame_out
  open_payloads
  pointwise []
  simp only [start_eq, one_eq]
  refine Eq.trans ?_ (congrArg (HAdd.hAdd _) (dk_four _ _ _ _ _ _ _).symm)
  rfl

/-- The block of the values' gradient likewise. -/
theorem dv_first (t : Fin cfg1.N) (h0 : t.val % 4 = 0) (y : S1x1x2048x64.Idx) : (outsAt1 V c t.val t.isLt).2.2 y
    = dv (iblk1 V c 0 t) (iblk1 V c 1 t) (iblk1 V c 4 t) (y 2) (y 3) := by
  rw [outsAt1_A V c t h0]
  frame_out
  open_payloads
  pointwise []
  simp only [start_eq, one_eq]
  refine Eq.trans ?_ (dv_four _ _ _ _ _).symm
  rfl

theorem dv_next (t : Fin cfg1.N) (h0 : ¬t.val % 4 = 0) (y : S1x1x2048x64.Idx) : (outsAt1 V c t.val t.isLt).2.2 y
    = ((outsAt1 V c (t.val - 1) (by omega)).2.2 y : EReal)
      + dv (iblk1 V c 0 t) (iblk1 V c 1 t) (iblk1 V c 4 t) (y 2) (y 3) := by
  rw [outsAt1_B V c t h0]
  frame_out
  open_payloads
  pointwise []
  simp only [start_eq, one_eq]
  refine Eq.trans ?_ (congrArg (HAdd.hAdd _) (dv_four _ _ _ _ _).symm)
  rfl

/-! ## The blocks as rows of the arrays -/

theorem idx0 : ∀ t : Fin cfg0.N, win0_0.index t = ![t.val / 8, t.val / 4 % 2, t.val % 4, 0] ∧ win0_1.index t = ![t.val / 8, t.val / 4 % 2, 0, 0]
    ∧ win0_2.index t = ![t.val / 8, t.val / 4 % 2, 0, 0] ∧ win0_3.index t = ![t.val / 8, t.val / 4 % 2, t.val % 4, 0] :=
  (by decide +kernel : ∀ t : Fin grid0.N, _)

theorem idx1 : ∀ t : Fin cfg1.N, win1_0.index t = ![t.val / 8, t.val / 4 % 2, t.val % 4, 0] ∧ win1_1.index t = ![t.val / 8, t.val / 4 % 2, 0, 0]
    ∧ win1_2.index t = ![t.val / 8, t.val / 4 % 2, 0, 0] ∧ win1_3.index t = ![t.val / 8, t.val / 4 % 2, t.val % 4, 0]
    ∧ win1_4.index t = ![t.val / 8, t.val / 4 % 2, t.val % 4, 0] ∧ win1_5.index t = ![t.val / 8, t.val / 4 % 2, t.val % 4, 0]
    ∧ win1_6.index t = ![t.val / 8, t.val / 4 % 2, 0, 0] ∧ win1_7.index t = ![t.val / 8, t.val / 4 % 2, 0, 0] :=
  (by decide +kernel : ∀ t : Fin grid1.N, _)

/-- Batch, group and tile of a grid point. -/
abbrev batch (n : ℕ) (h : n < 16) : Fin 2 := ⟨n / 8, by omega⟩
abbrev group (n : ℕ) : Fin 2 := ⟨n / 4 % 2, by omega⟩
abbrev tile (n : ℕ) : Fin 4 := ⟨n % 4, by omega⟩

theorem rows0_0 (hf : Finite (V c main_arg0)) (t : Fin cfg0.N) : IsRows (iblk0 V c 0 t) (heads (V c main_arg0)) (batch t.val t.isLt) (group t.val) (tile t.val) := by
  intro p r d
  refine Eq.trans ?_ (hf.heads _ _ _ _ _ (by omega))
  blk_ext [iblk0, idx0 t]
  rfl

theorem cols0_1 (hf : Finite (V c main_arg1)) (t : Fin cfg0.N) : IsCols (iblk0 V c 1 t) (keys (V c main_arg1)) (batch t.val t.isLt) (group t.val) := by
  intro j d
  refine Eq.trans ?_ (hf.keys _ _ _ _)
  blk_ext [iblk0, idx0 t]

theorem cols0_2 (hf : Finite (V c main_arg2)) (t : Fin cfg0.N) : IsCols (iblk0 V c 2 t) (keys (V c main_arg2)) (batch t.val t.isLt) (group t.val) := by
  intro j d
  refine Eq.trans ?_ (hf.keys _ _ _ _)
  blk_ext [iblk0, idx0 t]

theorem rows1_0 (hf : Finite (V c main_arg0)) (t : Fin cfg1.N) : IsRows (iblk1 V c 0 t) (heads (V c main_arg0)) (batch t.val t.isLt) (group t.val) (tile t.val) := by
  intro p r d
  refine Eq.trans ?_ (hf.heads _ _ _ _ _ (by omega))
  blk_ext [iblk1, idx1 t]
  rfl

theorem cols1_1 (hf : Finite (V c main_arg1)) (t : Fin cfg1.N) : IsCols (iblk1 V c 1 t) (keys (V c main_arg1)) (batch t.val t.isLt) (group t.val) := by
  intro j d
  refine Eq.trans ?_ (hf.keys _ _ _ _)
  blk_ext [iblk1, idx1 t]

theorem cols1_2 (hf : Finite (V c main_arg2)) (t : Fin cfg1.N) : IsCols (iblk1 V c 2 t) (keys (V c main_arg2)) (batch t.val t.isLt) (group t.val) := by
  intro j d
  refine Eq.trans ?_ (hf.keys _ _ _ _)
  blk_ext [iblk1, idx1 t]

theorem rows1_3 (f : Heads) (hf : V c main_v0 = ofHeads f) (t : Fin cfg1.N) : IsRows (iblk1 V c 3 t) f (batch t.val t.isLt) (group t.val) (tile t.val) := by
  intro p r d
  refine Eq.trans ?_ (ofHeads_ix4 f _ _ _ _ _ (by omega))
  rw [← hf]
  blk_ext [iblk1, idx1 t]
  rfl

theorem rows1_4 (hf : Finite (V c main_arg3)) (t : Fin cfg1.N) : IsRows (iblk1 V c 4 t) (heads (V c main_arg3)) (batch t.val t.isLt) (group t.val) (tile t.val) := by
  intro p r d
  refine Eq.trans ?_ (hf.heads _ _ _ _ _ (by omega))
  blk_ext [iblk1, idx1 t]
  rfl

/-! ## The arrays after the launches -/

/-- The four points of a group: one batch, one group, tiles 0 to 3. -/
theorem run_batch (t : Fin 16) (s : Fin 4) (h : 4 * (t.val / 4) + s.val < 16) : batch (4 * (t.val / 4) + s.val) h = batch t.val t.isLt :=
  Fin.ext (by show _ / 8 = _ / 8; omega)
theorem run_group (t : Fin 16) (s : Fin 4) : group (4 * (t.val / 4) + s.val) = group t.val :=
  Fin.ext (by show _ / 4 % 2 = _ / 4 % 2; omega)
theorem run_tile (t : Fin 16) (s : Fin 4) : tile (4 * (t.val / 4) + s.val) = s :=
  Fin.ext (by show _ % 4 = _; omega)

theorem idx_ext {n0 n1 n2 n3 : ℕ} {i : (⟨4, ![n0, n1, n2, n3]⟩ : Shape).Idx} {a : Fin n0} {b : Fin n1} {r : Fin n2} {d : Fin n3}
    (h0 : (i 0).val = a.val) (h1 : (i 1).val = b.val) (h2 : (i 2).val = r.val) (h3 : (i 3).val = d.val) : i = ix4 a b r d := by
  obtain rfl : i 0 = a := Fin.ext h0
  obtain rfl : i 1 = b := Fin.ext h1
  obtain rfl : i 2 = r := Fin.ext h2
  obtain rfl : i 3 = d := Fin.ext h3
  exact eq_ix4 i

/-- An array over query heads read where a window of tiles places a block's entry. -/
theorem ofHeads_place (f : Heads) (t : Fin 16) (i : SQ.Idx) (p : Fin 4) (r : Fin 512) (d : Fin 64) (h0 : (i 0).val = t.val / 8)
    (h1 : (i 1).val = t.val / 4 % 2 * 4 + p.val) (h2 : (i 2).val = t.val % 4 * 512 + r.val) (h3 : (i 3).val = d.val) :
    ofHeads f i = ((f (batch t.val t.isLt) (group t.val) p (row (tile t.val) r) d : ℝ) : EReal) := by
  rw [← ofHeads_ix4 f _ _ _ _ _ (by omega)]
  exact congrArg _ (idx_ext h0 h1 h2 h3)

theorem ofKeys_place (f : Keys) (t : Fin 16) (i : SK.Idx) (j : Fin 2048) (d : Fin 64) (h0 : (i 0).val = t.val / 8)
    (h1 : (i 1).val = t.val / 4 % 2) (h2 : (i 2).val = j.val) (h3 : (i 3).val = d.val) :
    ofKeys f i = ((f (batch t.val t.isLt) (group t.val) j d : ℝ) : EReal) := by
  rw [← ofKeys_ix4 f _ _ _ _]
  exact congrArg _ (idx_ext h0 h1 h2 h3)

theorem final_out (h0 : Finite (V c main_arg0)) (h1 : Finite (V c main_arg1)) (h2 : Finite (V c main_arg2)) :
    (dat0 V c).arrAt 3 cfg0.N = ofHeads (Out (heads (V c main_arg0)) (keys (V c main_arg1)) (keys (V c main_arg2))) := by
  refine (dat0 V c).arrAt_eq_of_covers 3 _ (by decide +kernel) fun t hf y => ?_
  blk_simp
  rw [after0_3, out_block]
  refine Eq.trans (out_eq (rows0_0 V c h0 t) (cols0_1 V c h1 t) (cols0_2 V c h2 t) _ _ _) ?_
  refine (ofHeads_place _ t _ _ _ _ ?_ ?_ ?_ ?_).symm <;> blk_simp [idx0 t] <;> idx_bounds y <;> omega

section Backward

variable (h0 : Finite (V c main_arg0)) (h1 : Finite (V c main_arg1)) (h2 : Finite (V c main_arg2)) (h3 : Finite (V c main_arg3))
  (ho : V c main_v0 = ofHeads (Out (heads (V c main_arg0)) (keys (V c main_arg1)) (keys (V c main_arg2))))

include h0 h1 h2 h3 ho

theorem final_dq : (dat1 V c).arrAt 5 cfg1.N
    = ofHeads (GradQ (heads (V c main_arg0)) (keys (V c main_arg1)) (keys (V c main_arg2)) (heads (V c main_arg3))) := by
  refine (dat1 V c).arrAt_eq_of_covers 5 _ (by decide +kernel) fun t hf y => ?_
  blk_simp
  rw [after1_5, dq_block]
  refine Eq.trans (dq_eq (rows1_0 V c h0 t) (cols1_1 V c h1 t) (cols1_2 V c h2 t) (rows1_3 V c _ ho t) (rows1_4 V c h3 t) _ _ _) ?_
  refine (ofHeads_place _ t _ _ _ _ ?_ ?_ ?_ ?_).symm <;> blk_simp [idx1 t] <;> idx_bounds y <;> omega

theorem final_dk : (dat1 V c).arrAt 6 cfg1.N
    = ofKeys (GradK (heads (V c main_arg0)) (keys (V c main_arg1)) (keys (V c main_arg2)) (heads (V c main_arg3))) := by
  refine (dat1 V c).arrAt_eq_of_covers 6 _ (by decide +kernel) fun t hf y => ?_
  blk_simp
  rw [after1_6]
  rw [Pipeline.eq_sum_fin_of_reset_step_apply_of_flush (fun n h => (outsAt1 V c n h).2.1) 4 (fun _ => (0 : EReal)) _
    (fun t h j => by rw [dk_first V c t h, zero_add]) (fun t h j => by rw [dk_next V c t h]) t ((flush1_6 t).mp hf) _, zero_add]
  refine Eq.trans (Fin.sum_fin_congr (G := fun s => ((∑ p, ∑ r, GradScore (heads (V c main_arg0)) (keys (V c main_arg1)) (keys (V c main_arg2)) (heads (V c main_arg3))
      (batch t.val t.isLt) (group t.val) p (row s r) (y 2) * heads (V c main_arg0) (batch t.val t.isLt) (group t.val) p (row s r) (y 3) : ℝ) : EReal)) fun s => ?_) ?_
  · have hu := Pipeline.run_point_lt_of_flush t ((flush1_6 t).mp hf) s
    refine Eq.trans (dk_eq (rows1_0 V c h0 ⟨_, hu⟩) (cols1_1 V c h1 ⟨_, hu⟩) (cols1_2 V c h2 ⟨_, hu⟩) (rows1_3 V c _ ho ⟨_, hu⟩) (rows1_4 V c h3 ⟨_, hu⟩) _ _) ?_
    rw [run_batch t s hu, run_group t s, run_tile t s]
  · rw [← coe_sum]
    refine Eq.trans (congrArg Real.toEReal (sum_tiles fun p r => GradScore (heads (V c main_arg0)) (keys (V c main_arg1)) (keys (V c main_arg2)) (heads (V c main_arg3))
      (batch t.val t.isLt) (group t.val) p r (y 2) * heads (V c main_arg0) (batch t.val t.isLt) (group t.val) p r (y 3))) ?_
    refine Eq.trans ?_ (ofKeys_place _ t _ (y 2) (y 3) ?_ ?_ ?_ ?_).symm
    · rfl
    all_goals blk_simp [idx1 t] <;> idx_bounds y <;> omega

theorem final_dv : (dat1 V c).arrAt 7 cfg1.N
    = ofKeys (GradV (heads (V c main_arg0)) (keys (V c main_arg1)) (heads (V c main_arg3))) := by
  refine (dat1 V c).arrAt_eq_of_covers 7 _ (by decide +kernel) fun t hf y => ?_
  blk_simp
  rw [after1_7]
  rw [Pipeline.eq_sum_fin_of_reset_step_apply_of_flush (fun n h => (outsAt1 V c n h).2.2) 4 (fun _ => (0 : EReal)) _
    (fun t h j => by rw [dv_first V c t h, zero_add]) (fun t h j => by rw [dv_next V c t h]) t ((flush1_7 t).mp hf) _, zero_add]
  refine Eq.trans (Fin.sum_fin_congr (G := fun s => ((∑ p, ∑ r, Weight (heads (V c main_arg0)) (keys (V c main_arg1))
      (batch t.val t.isLt) (group t.val) p (row s r) (y 2) * heads (V c main_arg3) (batch t.val t.isLt) (group t.val) p (row s r) (y 3) : ℝ) : EReal)) fun s => ?_) ?_
  · have hu := Pipeline.run_point_lt_of_flush t ((flush1_7 t).mp hf) s
    refine Eq.trans (dv_eq (rows1_0 V c h0 ⟨_, hu⟩) (cols1_1 V c h1 ⟨_, hu⟩) (rows1_4 V c h3 ⟨_, hu⟩) _ _) ?_
    rw [run_batch t s hu, run_group t s, run_tile t s]
  · rw [← coe_sum]
    refine Eq.trans (congrArg Real.toEReal (sum_tiles fun p r => Weight (heads (V c main_arg0)) (keys (V c main_arg1))
      (batch t.val t.isLt) (group t.val) p r (y 2) * heads (V c main_arg3) (batch t.val t.isLt) (group t.val) p r (y 3))) ?_
    refine Eq.trans ?_ (ofKeys_place _ t _ (y 2) (y 3) ?_ ?_ ?_ ?_).symm
    · rfl
    all_goals blk_simp [idx1 t] <;> idx_bounds y <;> omega

end Backward

end Cert.KernelIdeal.Attn

end
-- ==== Proof.AttnRun.lean ====
/-
  The run of the two launches: what @main's results hold at the end.
-/
module

public import proofs.«01_k».proof.Proof.AttnKernel

@[expose] public section

set_option maxRecDepth 16384

noncomputable section

open Idealize.SL Idealize.SL.RA Idealize.SL.BI Idealize.ShloMosaic Idealize.ShloMosaic.TcCoe Idealize.ShloMosaic.StableHlo
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Attn

open Cert.KernelIdeal Cert.KernelIdeal.Gen AttnSpec

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, the launches end with every buffer of @main at the last boundary's contents. -/
theorem run_boundary : θ_run defs (onTc (τ := τ) (main (F := F))) ⟨m, fun _ => 0, ρ⟩ (fun r =>
      ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

end Cert.KernelIdeal.Attn

namespace Cert.KernelIdeal.Attn

open Cert.KernelIdeal Cert.KernelIdeal.Gen AttnSpec

variable (m : (ℓ : Loc nD τ sig) → Buf (Elt Ideal) ℓ) (ρ : Dev nD → PrngReg) (c : Dev nD)

/-- An argument is as launched when the second launch begins. -/
theorem V1_arg (a : Ref sig .tc) (ha : a ∈ argRefs) : V1 m ρ c a = m ((c : Thread nD τ).loc a) := W1_args m ρ c a ha

variable (h0 : Finite (m ((c.tc : Thread nD τ).loc main_arg0))) (h1 : Finite (m ((c.tc : Thread nD τ).loc main_arg1)))
  (h2 : Finite (m ((c.tc : Thread nD τ).loc main_arg2))) (h3 : Finite (m ((c.tc : Thread nD τ).loc main_arg3)))
include h0 h1 h2

/-- The forward's result when the second launch begins. -/
theorem V1_out : V1 m ρ c main_v0 = ofHeads (Out (heads (m ((c.tc : Thread nD τ).loc main_arg0)))
      (keys (m ((c.tc : Thread nD τ).loc main_arg1))) (keys (m ((c.tc : Thread nD τ).loc main_arg2)))) :=
  Eq.trans (W1_arr m ρ c 3) (final_out (V0 m ρ) c h0 h1 h2)

/-- The forward's result at the end. -/
theorem W2_out : W2 m ρ c (Proc.devRef .tc main_v0) = ofHeads (Out (heads (m ((c.tc : Thread nD τ).loc main_arg0)))
      (keys (m ((c.tc : Thread nD τ).loc main_arg1))) (keys (m ((c.tc : Thread nD τ).loc main_arg2)))) :=
  Eq.trans (W2_of m ρ c main_v0 (by decide +kernel)) (V1_out m ρ c h0 h1 h2)

include h3

/-- The queries' gradient at the end. -/
theorem W2_dq : W2 m ρ c (Proc.devRef .tc main_v1_0) = ofHeads (GradQ (heads (m ((c.tc : Thread nD τ).loc main_arg0)))
      (keys (m ((c.tc : Thread nD τ).loc main_arg1))) (keys (m ((c.tc : Thread nD τ).loc main_arg2)))
      (heads (m ((c.tc : Thread nD τ).loc main_arg3)))) := by
  have e0 := V1_arg m ρ c main_arg0 (by decide)
  have e1 := V1_arg m ρ c main_arg1 (by decide)
  have e2 := V1_arg m ρ c main_arg2 (by decide)
  have e3 := V1_arg m ρ c main_arg3 (by decide)
  refine Eq.trans (W2_arr m ρ c 5) (Eq.trans (final_dq (V1 m ρ) c ?_ ?_ ?_ ?_ ?_) ?_)
  · rw [e0]; exact h0
  · rw [e1]; exact h1
  · rw [e2]; exact h2
  · rw [e3]; exact h3
  · rw [e0, e1, e2]; exact V1_out m ρ c h0 h1 h2
  · rw [e0, e1, e2, e3]

/-- The keys' gradient at the end. -/
theorem W2_dk : W2 m ρ c (Proc.devRef .tc main_v1_1) = ofKeys (GradK (heads (m ((c.tc : Thread nD τ).loc main_arg0)))
      (keys (m ((c.tc : Thread nD τ).loc main_arg1))) (keys (m ((c.tc : Thread nD τ).loc main_arg2)))
      (heads (m ((c.tc : Thread nD τ).loc main_arg3)))) := by
  have e0 := V1_arg m ρ c main_arg0 (by decide)
  have e1 := V1_arg m ρ c main_arg1 (by decide)
  have e2 := V1_arg m ρ c main_arg2 (by decide)
  have e3 := V1_arg m ρ c main_arg3 (by decide)
  refine Eq.trans (W2_arr m ρ c 6) (Eq.trans (final_dk (V1 m ρ) c ?_ ?_ ?_ ?_ ?_) ?_)
  · rw [e0]; exact h0
  · rw [e1]; exact h1
  · rw [e2]; exact h2
  · rw [e3]; exact h3
  · rw [e0, e1, e2]; exact V1_out m ρ c h0 h1 h2
  · rw [e0, e1, e2, e3]

/-- The values' gradient at the end. -/
theorem W2_dv : W2 m ρ c (Proc.devRef .tc main_v1_2) = ofKeys (GradV (heads (m ((c.tc : Thread nD τ).loc main_arg0)))
      (keys (m ((c.tc : Thread nD τ).loc main_arg1))) (heads (m ((c.tc : Thread nD τ).loc main_arg3)))) := by
  have e0 := V1_arg m ρ c main_arg0 (by decide)
  have e1 := V1_arg m ρ c main_arg1 (by decide)
  have e2 := V1_arg m ρ c main_arg2 (by decide)
  have e3 := V1_arg m ρ c main_arg3 (by decide)
  refine Eq.trans (W2_arr m ρ c 7) (Eq.trans (final_dv (V1 m ρ) c ?_ ?_ ?_ ?_ ?_) ?_)
  · rw [e0]; exact h0
  · rw [e1]; exact h1
  · rw [e2]; exact h2
  · rw [e3]; exact h3
  · rw [e0, e1, e2]; exact V1_out m ρ c h0 h1 h2
  · rw [e0, e1, e3]

end Cert.KernelIdeal.Attn

end
-- ==== Proof.AttnRef.lean ====
/-
  The reference's results, read at an index: with real arguments each of them is the real function `AttnSpec` names.
-/
module

public import proofs.«01_k».proof.Proof.Gen.ReferenceIdeal.Read
public import proofs.«01_k».proof.Proof.AttnSpec

@[expose] public section

set_option maxRecDepth 16384

noncomputable section

open Idealize.ShloMosaic Idealize.ShloMosaic.TcCoe Idealize.SL.Sem

namespace Cert.ReferenceIdeal.Attn

open Cert.ReferenceIdeal Cert.ReferenceIdeal.Read AttnSpec SoftmaxReal

variable {x0 : SQ.Idx → EReal} {x1 x2 : SK.Idx → EReal} {x3 : SQ.Idx → EReal}

/-! ## The scores and their exponentials -/

theorem score (h0 : Finite x0) (h1 : Finite x1) (b g : Fin 2) (p : Fin 4) (r j : Fin 2048) :
    val_main_v4 (F := Ideal) x0 x1 (ix5 b g p r j) = ((Score (heads x0) (keys x1) b g p r j : ℝ) : EReal) := by
  have e : val_main_v4 (F := Ideal) x0 x1 (ix5 b g p r j)
      = ∑ d : Fin 64, x0 (ix4 b ⟨g.val * 4 + p.val, by omega⟩ r d) * x1 (ix4 b g j d) := by
    pointwise [val_main_v4, val_main_v3, val_main_v0, val_main_v1]
  rw [e, Score, coe_sum]
  refine Finset.sum_congr rfl fun d _ => ?_
  rw [h0.heads, h1.keys, EReal.coe_mul]

theorem rowmax (b g : Fin 2) (p : Fin 4) (r : Fin 2048) : val_main_v5 (F := Ideal) x0 x1 (ix4 b g p r)
    = Finset.fold max (Ideal.ofBits FTy.f32 4286578688#32) (fun x => val_main_v4 (F := Ideal) x0 x1 (ix5 b g p r x)) Finset.univ := by
  unfold val_main_v5
  generalize val_main_v4 (F := Ideal) x0 x1 = y
  pointwise [val_main_cst]

theorem rowmax_start (b g : Fin 2) (p : Fin 4) (r : Fin 2048) : val_main_v12 (F := Ideal) x0 x1 (ix4 b g p r) =
    max (Ideal.ofBits FTy.f32 4286578688#32) (val_main_v5 (F := Ideal) x0 x1 (ix4 b g p r)) := by
  rw [val_main_v12_apply, val_main_v11_apply, val_main_cst_1_apply]
  rfl

theorem rowmax_spread (b g : Fin 2) (p : Fin 4) (r j : Fin 2048) : val_main_v23 (F := Ideal) x0 x1 (ix5 b g p r j) =
    val_main_v12 (F := Ideal) x0 x1 (ix4 b g p r) := by
  unfold val_main_v23 val_main_v22
  generalize val_main_v12 (F := Ideal) x0 x1 = y
  pointwise []

/-- The maximum the reference subtracts in a row. -/
abbrev top (x0 : SQ.Idx → EReal) (x1 : SK.Idx → EReal) (b g : Fin 2) (p : Fin 4) (r : Fin 2048) : ℝ :=
  rowMax (Score (heads x0) (keys x1) b g p r)

theorem expo (h0 : Finite x0) (h1 : Finite x1) (b g : Fin 2) (p : Fin 4) (r j : Fin 2048) :
    val_main_v25 (F := Ideal) x0 x1 (ix5 b g p r j)
      = ((Real.exp (Score (heads x0) (keys x1) b g p r j - top x0 x1 b g p r) : ℝ) : EReal) := by
  have e : val_main_v25 (F := Ideal) x0 x1 (ix5 b g p r j)
      = Ideal.exp (val_main_v4 (F := Ideal) x0 x1 (ix5 b g p r j) - val_main_v23 (F := Ideal) x0 x1 (ix5 b g p r j)) := rfl
  rw [e, rowmax_spread, rowmax_start, rowmax]
  simp only [score h0 h1, start_eq]
  rw [max_eq_right bot_le]
  exact exp_row (Score (heads x0) (keys x1) b g p r) j

theorem total (h0 : Finite x0) (h1 : Finite x1) (b g : Fin 2) (p : Fin 4) (r : Fin 2048) :
    val_main_v26 (F := Ideal) x0 x1 (ix4 b g p r)
      = ∑ i : Fin 2048, ((Real.exp (Score (heads x0) (keys x1) b g p r i - top x0 x1 b g p r) : ℝ) : EReal) := by
  have e : val_main_v26 (F := Ideal) x0 x1 (ix4 b g p r) = ∑ i : Fin 2048, val_main_v25 (F := Ideal) x0 x1 (ix5 b g p r i) := by
    unfold val_main_v26
    generalize val_main_v25 (F := Ideal) x0 x1 = y
    pointwise [val_main_cst_7]
  rw [e]
  exact Finset.sum_congr rfl fun i _ => expo h0 h1 b g p r i

theorem total_col (b g : Fin 2) (p : Fin 4) (r : Fin 2048) (u : Fin 1) : val_main_v27 (F := Ideal) x0 x1 (ix5 b g p r u) =
    val_main_v26 (F := Ideal) x0 x1 (ix4 b g p r) := by
  unfold val_main_v27
  generalize val_main_v26 (F := Ideal) x0 x1 = y
  pointwise []

theorem total_spread (b g : Fin 2) (p : Fin 4) (r j : Fin 2048) : val_main_v28 (F := Ideal) x0 x1 (ix5 b g p r j) =
    val_main_v26 (F := Ideal) x0 x1 (ix4 b g p r) := by
  unfold val_main_v28 val_main_v27
  generalize val_main_v26 (F := Ideal) x0 x1 = y
  pointwise []

theorem total_spread' (b g : Fin 2) (p : Fin 4) (r j : Fin 2048) : val_main_v45 (F := Ideal) x0 x1 (ix5 b g p r j) =
    val_main_v26 (F := Ideal) x0 x1 (ix4 b g p r) := by
  unfold val_main_v45 val_main_v27
  generalize val_main_v26 (F := Ideal) x0 x1 = y
  pointwise []

theorem weight (h0 : Finite x0) (h1 : Finite x1) (b g : Fin 2) (p : Fin 4) (r j : Fin 2048) :
    val_main_v29 (F := Ideal) x0 x1 (ix5 b g p r j) = ((Weight (heads x0) (keys x1) b g p r j : ℝ) : EReal) := by
  have e : val_main_v29 (F := Ideal) x0 x1 (ix5 b g p r j)
      = Ideal.div (val_main_v25 (F := Ideal) x0 x1 (ix5 b g p r j)) (val_main_v28 (F := Ideal) x0 x1 (ix5 b g p r j)) := rfl
  rw [e, total_spread, total h0 h1, expo h0 h1]
  exact weight_div _ _ _

/-! ## The output, and the gradient of the values -/

theorem out (h0 : Finite x0) (h1 : Finite x1) (h2 : Finite x2) :
    val_main_v34 (F := Ideal) x0 x1 x2 = ofHeads (Out (heads x0) (keys x1) (keys x2)) := by
  funext i
  obtain ⟨b, h, r, d, rfl⟩ : ∃ (b : Fin 2) (h : Fin 8) (r : Fin 2048) (d : Fin 64), i = ix4 b h r d := ⟨_, _, _, _, eq_ix4 i⟩
  obtain ⟨g, p, rfl⟩ : ∃ (g : Fin 2) (p : Fin 4), h = ⟨g.val * 4 + p.val, by omega⟩ :=
    ⟨⟨h.val / 4, by omega⟩, ⟨h.val % 4, by omega⟩, Fin.ext (by simp only; omega)⟩
  rw [ofHeads_ix4]
  have e : val_main_v34 (F := Ideal) x0 x1 x2 (ix4 b ⟨g.val * 4 + p.val, by omega⟩ r d)
      = ∑ j : Fin 2048, val_main_v29 (F := Ideal) x0 x1 (ix5 b g p r j) * x2 (ix4 b g j d) := by
    unfold val_main_v34 val_main_v33 val_main_v2
    generalize val_main_v29 (F := Ideal) x0 x1 = y
    pointwise []
  rw [e, Out, coe_sum]
  refine Finset.sum_congr rfl fun j _ => ?_
  rw [weight h0 h1, h2.keys, EReal.coe_mul]

theorem gradV (h0 : Finite x0) (h1 : Finite x1) (h3 : Finite x3) :
    val_main_v37 (F := Ideal) x0 x1 x3 = ofKeys (GradV (heads x0) (keys x1) (heads x3)) := by
  funext i
  obtain ⟨b, g, j, d, rfl⟩ : ∃ (b g : Fin 2) (j : Fin 2048) (d : Fin 64), i = ix4 b g j d := ⟨_, _, _, _, eq_ix4 i⟩
  have e : val_main_v37 (F := Ideal) x0 x1 x3 (ix4 b g j d)
      = ∑ p : Fin 4, ∑ r : Fin 2048, x3 (ix4 b ⟨g.val * 4 + p.val, by omega⟩ r d) * val_main_v29 (F := Ideal) x0 x1 (ix5 b g p r j) := by
    unfold val_main_v37 val_main_v36 val_main_v35
    generalize val_main_v29 (F := Ideal) x0 x1 = y
    pointwise []
  rw [e, ofKeys_ix4, GradV, coe_sum]
  refine Finset.sum_congr rfl fun p _ => ?_
  rw [coe_sum]
  refine Finset.sum_congr rfl fun r _ => ?_
  rw [weight h0 h1, h3.heads, mul_comm, EReal.coe_mul]

/-! ## The gradient of the scores -/

theorem gradWeight (h2 : Finite x2) (h3 : Finite x3) (b g : Fin 2) (p : Fin 4) (r j : Fin 2048) :
    val_main_v38 (F := Ideal) x2 x3 (ix5 b g p r j) = ((Score (heads x3) (keys x2) b g p r j : ℝ) : EReal) := by
  have e : val_main_v38 (F := Ideal) x2 x3 (ix5 b g p r j)
      = ∑ d : Fin 64, x3 (ix4 b ⟨g.val * 4 + p.val, by omega⟩ r d) * x2 (ix4 b g j d) := by
    pointwise [val_main_v38, val_main_v35, val_main_v2]
  rw [e, Score, coe_sum]
  refine Finset.sum_congr rfl fun d _ => ?_
  rw [h3.heads, h2.keys, EReal.coe_mul]

theorem recip (b g : Fin 2) (p : Fin 4) (r j : Fin 2048) : val_main_v39 (F := Ideal) x0 x1 (ix5 b g p r j)
    = Ideal.div 1 (val_main_v26 (F := Ideal) x0 x1 (ix4 b g p r) * val_main_v26 (F := Ideal) x0 x1 (ix4 b g p r)) := by
  have e : val_main_v39 (F := Ideal) x0 x1 (ix5 b g p r j) = val_main_v32 (F := Ideal) x0 x1 (ix5 b g p r 0) := by
    unfold val_main_v39
    generalize val_main_v32 (F := Ideal) x0 x1 = y
    pointwise []
  have e' : val_main_v32 (F := Ideal) x0 x1 (ix5 b g p r 0)
      = Ideal.div (val_main_v31 (F := Ideal) (ix5 b g p r 0))
        (val_main_v27 (F := Ideal) x0 x1 (ix5 b g p r 0) * val_main_v27 (F := Ideal) x0 x1 (ix5 b g p r 0)) := rfl
  have e1 : val_main_v31 (F := Ideal) (ix5 b g p r 0) = 1 := by
    rw [val_main_v31_apply, val_main_cst_8_apply]
    exact one_eq
  rw [e, e', e1, total_col]

theorem through_sum (b g : Fin 2) (p : Fin 4) (r j : Fin 2048) : val_main_v48 (F := Ideal) x0 x1 x2 x3 (ix5 b g p r j)
    = -∑ i : Fin 2048, val_main_v38 (F := Ideal) x2 x3 (ix5 b g p r i) * val_main_v39 (F := Ideal) x0 x1 (ix5 b g p r i)
        * val_main_v25 (F := Ideal) x0 x1 (ix5 b g p r i) := by
  have e1 : val_main_v48 (F := Ideal) x0 x1 x2 x3 (ix5 b g p r j) = ∑ u : Fin 1, val_main_v44 (F := Ideal) x0 x1 x2 x3 (ix5 b g p r u) := by
    unfold val_main_v48 val_main_v47
    generalize val_main_v44 (F := Ideal) x0 x1 x2 x3 = y
    pointwise [val_main_cst_10]
  have e2 : val_main_v44 (F := Ideal) x0 x1 x2 x3 (ix5 b g p r 0) = -val_main_v42 (F := Ideal) x0 x1 x2 x3 (ix4 b g p r) := by
    unfold val_main_v44 val_main_v43
    generalize val_main_v42 (F := Ideal) x0 x1 x2 x3 = y
    pointwise []
  have e3 : val_main_v42 (F := Ideal) x0 x1 x2 x3 (ix4 b g p r) = ∑ i : Fin 2048, val_main_v41 (F := Ideal) x0 x1 x2 x3 (ix5 b g p r i) := by
    unfold val_main_v42
    generalize val_main_v41 (F := Ideal) x0 x1 x2 x3 = y
    pointwise [val_main_cst_9]
  rw [e1, Fin.sum_univ_one, e2, e3]
  rfl

theorem gradScore (h0 : Finite x0) (h1 : Finite x1) (h2 : Finite x2) (h3 : Finite x3) (b g : Fin 2) (p : Fin 4) (r j : Fin 2048) :
    val_main_v50 (F := Ideal) x0 x1 x2 x3 (ix5 b g p r j)
      = ((GradScore (heads x0) (keys x1) (keys x2) (heads x3) b g p r j : ℝ) : EReal) := by
  have e : val_main_v50 (F := Ideal) x0 x1 x2 x3 (ix5 b g p r j)
      = (Ideal.div (val_main_v38 (F := Ideal) x2 x3 (ix5 b g p r j)) (val_main_v45 (F := Ideal) x0 x1 (ix5 b g p r j))
          + val_main_v48 (F := Ideal) x0 x1 x2 x3 (ix5 b g p r j)) * val_main_v25 (F := Ideal) x0 x1 (ix5 b g p r j) := rfl
  rw [e, total_spread', through_sum]
  simp only [recip, gradWeight h2 h3, total h0 h1, expo h0 h1]
  exact grad_quotient _ _ _ _

/-! ## The gradients of the queries and of the keys -/

theorem gradQ (h0 : Finite x0) (h1 : Finite x1) (h2 : Finite x2) (h3 : Finite x3) :
    val_main_v53 (F := Ideal) x0 x1 x2 x3 = ofHeads (GradQ (heads x0) (keys x1) (keys x2) (heads x3)) := by
  funext i
  obtain ⟨b, h, r, d, rfl⟩ : ∃ (b : Fin 2) (h : Fin 8) (r : Fin 2048) (d : Fin 64), i = ix4 b h r d := ⟨_, _, _, _, eq_ix4 i⟩
  obtain ⟨g, p, rfl⟩ : ∃ (g : Fin 2) (p : Fin 4), h = ⟨g.val * 4 + p.val, by omega⟩ :=
    ⟨⟨h.val / 4, by omega⟩, ⟨h.val % 4, by omega⟩, Fin.ext (by simp only; omega)⟩
  rw [ofHeads_ix4]
  have e : val_main_v53 (F := Ideal) x0 x1 x2 x3 (ix4 b ⟨g.val * 4 + p.val, by omega⟩ r d)
      = ∑ j : Fin 2048, val_main_v50 (F := Ideal) x0 x1 x2 x3 (ix5 b g p r j) * x1 (ix4 b g j d) := by
    unfold val_main_v53 val_main_v52 val_main_v1
    generalize val_main_v50 (F := Ideal) x0 x1 x2 x3 = y
    pointwise []
  rw [e, GradQ, coe_sum]
  refine Finset.sum_congr rfl fun j _ => ?_
  rw [gradScore h0 h1 h2 h3, h1.keys, EReal.coe_mul]

theorem gradK (h0 : Finite x0) (h1 : Finite x1) (h2 : Finite x2) (h3 : Finite x3) :
    val_main_v51 (F := Ideal) x0 x1 x2 x3 = ofKeys (GradK (heads x0) (keys x1) (keys x2) (heads x3)) := by
  funext i
  obtain ⟨b, g, j, d, rfl⟩ : ∃ (b g : Fin 2) (j : Fin 2048) (d : Fin 64), i = ix4 b g j d := ⟨_, _, _, _, eq_ix4 i⟩
  have e : val_main_v51 (F := Ideal) x0 x1 x2 x3 (ix4 b g j d)
      = ∑ p : Fin 4, ∑ r : Fin 2048, val_main_v50 (F := Ideal) x0 x1 x2 x3 (ix5 b g p r j) * x0 (ix4 b ⟨g.val * 4 + p.val, by omega⟩ r d) := by
    unfold val_main_v51 val_main_v3 val_main_v0
    generalize val_main_v50 (F := Ideal) x0 x1 x2 x3 = y
    pointwise []
  rw [e, ofKeys_ix4, GradK, coe_sum]
  refine Finset.sum_congr rfl fun p _ => ?_
  rw [coe_sum]
  refine Finset.sum_congr rfl fun r _ => ?_
  rw [gradScore h0 h1 h2 h3, h0.heads, EReal.coe_mul]

end Cert.ReferenceIdeal.Attn

end
-- ==== Proof.AttnClaim.lean ====
/-
  The claims about the attention's program and its reference.
-/
module

public import proofs.«01_k».proof.Proof.Finite
public import proofs.«01_k».proof.Proof.AttnRun
public import proofs.«01_k».proof.Proof.AttnRef
public import proofs.«01_k».proof.Proof.Gen.Kernel.Frame

@[expose] public section

set_option maxRecDepth 16384

noncomputable section

open Idealize.ShloMosaic Idealize.ShloMosaic.TcCoe Idealize.SL.Sem

namespace Cert.AttnClaim

open AttnSpec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.FiniteArgs.facts

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_finite : Cert.quiescent_KernelIdeal_pre_finite := fun m ρ _ => Cert.KernelIdeal.Gen.frame m ρ

/-- The reference's run read at its arguments; it declares no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- On finite arguments the kernels and the reference both end with the attention and its three gradients. -/
theorem algebraic : Cert.algebraic_KernelIdeal_ReferenceIdeal_pre_finite := by
  intro m g m' g' hpre hag
  have hfin := fun c => Cert.FiniteArgs.of_pre (hpre c)
  refine ⟨fun c => ofHeads (Out (heads (m ((c.tc : Thread Cert.KernelIdeal.nD Cert.KernelIdeal.τ).loc Cert.KernelIdeal.main_arg0)))
      (keys (m ((c.tc : Thread Cert.KernelIdeal.nD Cert.KernelIdeal.τ).loc Cert.KernelIdeal.main_arg1)))
      (keys (m ((c.tc : Thread Cert.KernelIdeal.nD Cert.KernelIdeal.τ).loc Cert.KernelIdeal.main_arg2)))),
    fun c => ofHeads (GradQ (heads (m ((c.tc : Thread Cert.KernelIdeal.nD Cert.KernelIdeal.τ).loc Cert.KernelIdeal.main_arg0)))
      (keys (m ((c.tc : Thread Cert.KernelIdeal.nD Cert.KernelIdeal.τ).loc Cert.KernelIdeal.main_arg1)))
      (keys (m ((c.tc : Thread Cert.KernelIdeal.nD Cert.KernelIdeal.τ).loc Cert.KernelIdeal.main_arg2)))
      (heads (m ((c.tc : Thread Cert.KernelIdeal.nD Cert.KernelIdeal.τ).loc Cert.KernelIdeal.main_arg3)))),
    fun c => ofKeys (GradK (heads (m ((c.tc : Thread Cert.KernelIdeal.nD Cert.KernelIdeal.τ).loc Cert.KernelIdeal.main_arg0)))
      (keys (m ((c.tc : Thread Cert.KernelIdeal.nD Cert.KernelIdeal.τ).loc Cert.KernelIdeal.main_arg1)))
      (keys (m ((c.tc : Thread Cert.KernelIdeal.nD Cert.KernelIdeal.τ).loc Cert.KernelIdeal.main_arg2)))
      (heads (m ((c.tc : Thread Cert.KernelIdeal.nD Cert.KernelIdeal.τ).loc Cert.KernelIdeal.main_arg3)))),
    fun c => ofKeys (GradV (heads (m ((c.tc : Thread Cert.KernelIdeal.nD Cert.KernelIdeal.τ).loc Cert.KernelIdeal.main_arg0)))
      (keys (m ((c.tc : Thread Cert.KernelIdeal.nD Cert.KernelIdeal.τ).loc Cert.KernelIdeal.main_arg1)))
      (heads (m ((c.tc : Thread Cert.KernelIdeal.nD Cert.KernelIdeal.τ).loc Cert.KernelIdeal.main_arg3)))), ?_, ?_⟩
  · refine (θ_run Cert.KernelIdeal.defs _ _).mono (fun r h c => ?_) (Cert.KernelIdeal.Attn.run_boundary (F := Ideal) m g)
    obtain ⟨h0, h1, h2, h3⟩ := hfin c
    exact ⟨(h c _ (Cert.KernelIdeal.Gen.mem_uc Cert.KernelIdeal.main_v0 (by decide))).trans (Cert.KernelIdeal.Attn.W2_out m g c h0 h1 h2),
      (h c _ (Cert.KernelIdeal.Gen.mem_uc Cert.KernelIdeal.main_v1_0 (by decide))).trans (Cert.KernelIdeal.Attn.W2_dq m g c h0 h1 h2 h3),
      (h c _ (Cert.KernelIdeal.Gen.mem_uc Cert.KernelIdeal.main_v1_1 (by decide))).trans (Cert.KernelIdeal.Attn.W2_dk m g c h0 h1 h2 h3),
      (h c _ (Cert.KernelIdeal.Gen.mem_uc Cert.KernelIdeal.main_v1_2 (by decide))).trans (Cert.KernelIdeal.Attn.W2_dv m g c h0 h1 h2 h3),
      (h c _ (Cert.KernelIdeal.Gen.mem_uc Cert.KernelIdeal.main_arg0 (by decide))).trans (Cert.KernelIdeal.Gen.W2_main_arg0 m g c),
      (h c _ (Cert.KernelIdeal.Gen.mem_uc Cert.KernelIdeal.main_arg1 (by decide))).trans (Cert.KernelIdeal.Gen.W2_main_arg1 m g c),
      (h c _ (Cert.KernelIdeal.Gen.mem_uc Cert.KernelIdeal.main_arg2 (by decide))).trans (Cert.KernelIdeal.Gen.W2_main_arg2 m g c),
      (h c _ (Cert.KernelIdeal.Gen.mem_uc Cert.KernelIdeal.main_arg3 (by decide))).trans (Cert.KernelIdeal.Gen.W2_main_arg3 m g c)⟩
  · refine (θ_run Cert.ReferenceIdeal.defs _ _).mono (fun r h c => ?_) (Cert.ReferenceIdeal.Value.run (F := Ideal) m' g')
    obtain ⟨h0, h1, h2, h3⟩ := hfin c
    obtain ⟨a0, a1, a2, a3⟩ := hag c
    obtain ⟨r0, r1, r2, r3, rest⟩ := h c
    refine ⟨?_, ?_, ?_, ?_, rest⟩
    · refine r0.trans ((Cert.ReferenceIdeal.Read.val_main_v34_eq _ _ _).trans ?_)
      rw [a0, a1, a2]; exact Cert.ReferenceIdeal.Attn.out h0 h1 h2
    · refine r1.trans ((Cert.ReferenceIdeal.Read.val_main_v53_eq m' c).trans ?_)
      rw [a0, a1, a2, a3]; exact Cert.ReferenceIdeal.Attn.gradQ h0 h1 h2 h3
    · refine r2.trans ((Cert.ReferenceIdeal.Read.val_main_v51_eq m' c).trans ?_)
      rw [a0, a1, a2, a3]; exact Cert.ReferenceIdeal.Attn.gradK h0 h1 h2 h3
    · refine r3.trans ((Cert.ReferenceIdeal.Read.val_main_v37_eq _ _ _).trans ?_)
      rw [a0, a1, a3]; exact Cert.ReferenceIdeal.Attn.gradV h0 h1 h3

end Cert.AttnClaim

end
-- ==== Proof.FfnTile.lean ====
/-
  The feed-forward layer over extended reals, as the kernels hold it: the 5632 hidden units lie in two groups of 2816.

  Each function below is one array a launch leaves, as an expression in the arrays the launch reads.
-/
module

public import Idealize.ShloMosaic.Lib.Pipeline.ValueKit

@[expose] public section

noncomputable section

open Idealize.ShloMosaic

namespace FfnTile

/-- Tokens by features; the hidden layer by groups, tokens and units; a weight by groups, units and features. -/
abbrev ST : Shape := ⟨2, ![4096, 2048]⟩
abbrev SH : Shape := ⟨3, ![2, 4096, 2816]⟩
abbrev SG : Shape := ⟨3, ![2, 2816, 2048]⟩

/-- A hidden layer's product with a weight, before the nonlinearity. -/
def proj (h : ST.Idx → EReal) (w : SG.Idx → EReal) : SH.Idx → EReal := fun i => ∑ k : Fin 2048, h (ix2 (i 1) k) * w (ix3 (i 0) (i 2) k)

/-- The logistic function. -/
def sigm (g : EReal) : EReal := Ideal.div 1 (1 + Ideal.exp (0 - g))

/-- The gated activation. -/
def actAt (g u : EReal) : EReal := g * sigm g * u
def act (g u : SH.Idx → EReal) : SH.Idx → EReal := fun i => actAt (g i) (u i)

/-- The product with the second weight, group by group. -/
def down (a : SH.Idx → EReal) (w : SG.Idx → EReal) : ST.Idx → EReal := fun i =>
  (∑ n : Fin 2816, a (ix3 0 (i 0) n) * w (ix3 0 n (i 1))) + ∑ n : Fin 2816, a (ix3 1 (i 0) n) * w (ix3 1 n (i 1))

/-- The difference from the target. -/
def err (g u : SH.Idx → EReal) (w : SG.Idx → EReal) (x y : ST.Idx → EReal) : ST.Idx → EReal := fun i => down (act g u) w i + x i - y i

/-- The gradient through the second weight, at the activation, the gate and the other factor. -/
def dact (e : ST.Idx → EReal) (w : SG.Idx → EReal) : SH.Idx → EReal := fun i => ∑ k : Fin 2048, e (ix2 (i 1) k) * w (ix3 (i 0) (i 2) k)
def dgateAt (d u g : EReal) : EReal := d * u * sigm g * (1 + g * (1 - sigm g))
def dupAt (d g : EReal) : EReal := d * g * sigm g
def dgate (e : ST.Idx → EReal) (w : SG.Idx → EReal) (g u : SH.Idx → EReal) : SH.Idx → EReal := fun i =>
  dgateAt (dact e w i) (u i) (g i)
def dup (e : ST.Idx → EReal) (w : SG.Idx → EReal) (g : SH.Idx → EReal) : SH.Idx → EReal := fun i => dupAt (dact e w i) (g i)

/-- A weight's gradient: a sum over the tokens. -/
def dweight (a : SH.Idx → EReal) (b : ST.Idx → EReal) : SG.Idx → EReal := fun i => ∑ k : Fin 4096, a (ix3 (i 0) k (i 1)) * b (ix2 k (i 2))

/-- The input's gradient: both factors, both groups. -/
def dinput (a : SH.Idx → EReal) (w : SG.Idx → EReal) (b : SH.Idx → EReal) (v : SG.Idx → EReal) : ST.Idx → EReal := fun i =>
  down a w i + (∑ n : Fin 2816, b (ix3 0 (i 0) n) * v (ix3 0 n (i 1))) + ∑ n : Fin 2816, b (ix3 1 (i 0) n) * v (ix3 1 n (i 1))

theorem ext2 {n0 n1 : ℕ} {i : (⟨2, ![n0, n1]⟩ : Shape).Idx} {a : Fin n0} {b : Fin n1} (h0 : (i 0).val = a.val) (h1 : (i 1).val = b.val) :
    i = ix2 a b := by
  obtain rfl : i 0 = a := Fin.ext h0
  obtain rfl : i 1 = b := Fin.ext h1
  exact eq_ix2 i

theorem ext3 {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d := by
  obtain rfl : i 0 = a := Fin.ext h0
  obtain rfl : i 1 = b := Fin.ext h1
  obtain rfl : i 2 = d := Fin.ext h2
  exact eq_ix3 i

theorem sum_mul_congr {n : ℕ} {a a' b b' : Fin n → EReal} (ha : ∀ k, a k = a' k) (hb : ∀ k, b k = b' k) :
    ∑ k, a k * b k = ∑ k, a' k * b' k := Finset.sum_congr rfl fun k _ => by rw [ha, hb]

theorem congr2 {α β γ : Type} (f : α → β → γ) {a a' : α} {b b' : β} (ha : a = a') (hb : b = b') : f a b = f a' b' := by rw [ha, hb]

theorem congr3 {α β γ δ : Type} (f : α → β → γ → δ) {a a' : α} {b b' : β} {c c' : γ} (ha : a = a') (hb : b = b') (hc : c = c') :
    f a b c = f a' b' c' := by rw [ha, hb, hc]

theorem congr4 {α : Type} (f : α → α → α → α → α) {a a' b b' c c' d d' : α} (ha : a = a') (hb : b = b') (hc : c = c') (hd : d = d') :
    f a b c d = f a' b' c' d' := by rw [ha, hb, hc, hd]

theorem add4_congr {a b c d a' b' c' d' : EReal} (ha : a = a') (hb : b = b') (hc : c = c') (hd : d = d') :
    a + b + c + d = a' + b' + c' + d' := by rw [ha, hb, hc, hd]

end FfnTile

end
-- ==== Proof.FfnSpec.lean ====
/-
  The gated feed-forward layer with its loss, and the gradients of the loss, as functions of the entries.

  4096 tokens with 2048 features, a hidden layer of 5632 units.  `Gate` and `Up` are the two projections, `Act` the
  gated activation, `Err` the difference of the layer's output (with the residual) from the target, `Loss` half the
  sum over the tokens of the mean of the squared differences.  The others are what differentiation gives.
-/
module

public import proofs.«01_k».proof.Proof.FfnTile
public import proofs.«01_k».proof.Proof.AttnSpec

@[expose] public section

noncomputable section

open Idealize.ShloMosaic

namespace FfnSpec

open FfnTile
open AttnSpec (Finite)

/-- Weights from features to units, and back. -/
abbrev SI : Shape := ⟨2, ![2048, 5632]⟩
abbrev SO : Shape := ⟨2, ![5632, 2048]⟩

/-- The reciprocal of the number of features, and half of it. -/
def mean : EReal := Ideal.ofBits .f32 973078528#32
def half : EReal := Ideal.ofBits .f32 964689920#32

variable (x h : ST.Idx → EReal) (wg wu : SI.Idx → EReal) (wd : SO.Idx → EReal) (y : ST.Idx → EReal)

def Proj (h : ST.Idx → EReal) (w : SI.Idx → EReal) (t : Fin 4096) (n : Fin 5632) : EReal := ∑ k : Fin 2048, h (ix2 t k) * w (ix2 k n)

def Act (t : Fin 4096) (n : Fin 5632) : EReal := actAt (Proj h wg t n) (Proj h wu t n)

def Err (t : Fin 4096) (d : Fin 2048) : EReal := (∑ n : Fin 5632, Act h wg wu t n * wd (ix2 n d)) + x (ix2 t d) - y (ix2 t d)

def Loss : EReal := (∑ t : Fin 4096, ∑ d : Fin 2048, Err x h wg wu wd y t d * Err x h wg wu wd y t d) * half

def GradX (t : Fin 4096) (d : Fin 2048) : EReal := Err x h wg wu wd y t d * mean

def GradAct (t : Fin 4096) (n : Fin 5632) : EReal := ∑ k : Fin 2048, GradX x h wg wu wd y t k * wd (ix2 n k)

def GradGate (t : Fin 4096) (n : Fin 5632) : EReal := dgateAt (GradAct x h wg wu wd y t n) (Proj h wu t n) (Proj h wg t n)

def GradUp (t : Fin 4096) (n : Fin 5632) : EReal := dupAt (GradAct x h wg wu wd y t n) (Proj h wg t n)

def GradDownW (n : Fin 5632) (d : Fin 2048) : EReal := ∑ t : Fin 4096, Act h wg wu t n * GradX x h wg wu wd y t d

def GradGateW (k : Fin 2048) (n : Fin 5632) : EReal := ∑ t : Fin 4096, GradGate x h wg wu wd y t n * h (ix2 t k)

def GradUpW (k : Fin 2048) (n : Fin 5632) : EReal := ∑ t : Fin 4096, GradUp x h wg wu wd y t n * h (ix2 t k)

def GradH (t : Fin 4096) (k : Fin 2048) : EReal :=
  (∑ n : Fin 5632, GradGate x h wg wu wd y t n * wg (ix2 k n)) + ∑ n : Fin 5632, GradUp x h wg wu wd y t n * wu (ix2 k n)

/-! ## Finite arguments -/

/-- A finite value. -/
def Fin' (a : EReal) : Prop := a ≠ ⊤ ∧ a ≠ ⊥

theorem Fin'.coe {a : EReal} (h : Fin' a) : ∃ r : ℝ, a = r := ⟨a.toReal, (EReal.coe_toReal h.1 h.2).symm⟩

theorem fin_coe (r : ℝ) : Fin' (r : EReal) := ⟨EReal.coe_ne_top r, EReal.coe_ne_bot r⟩

theorem Fin'.mul {a b : EReal} (ha : Fin' a) (hb : Fin' b) : Fin' (a * b) := by
  obtain ⟨r, rfl⟩ := ha.coe
  obtain ⟨s, rfl⟩ := hb.coe
  rw [← EReal.coe_mul]
  exact fin_coe _

theorem Fin'.add {a b : EReal} (ha : Fin' a) (hb : Fin' b) : Fin' (a + b) := by
  obtain ⟨r, rfl⟩ := ha.coe
  obtain ⟨s, rfl⟩ := hb.coe
  rw [← EReal.coe_add]
  exact fin_coe _

theorem Fin'.sub {a b : EReal} (ha : Fin' a) (hb : Fin' b) : Fin' (a - b) := by
  obtain ⟨r, rfl⟩ := ha.coe
  obtain ⟨s, rfl⟩ := hb.coe
  rw [← EReal.coe_sub]
  exact fin_coe _

theorem fin_sum {ι : Type} (s : Finset ι) {f : ι → EReal} (hf : ∀ i, Fin' (f i)) : Fin' (∑ i ∈ s, f i) := by
  classical
  induction s using Finset.induction_on with
  | empty => exact fin_coe 0
  | insert a s ha ih => rw [Finset.sum_insert ha]; exact (hf a).add ih

/-- The logistic function of a real is a real. -/
theorem sigm_coe (g : ℝ) : ∃ s : ℝ, sigm (g : EReal) = s := by
  have e : (1 : EReal) + Ideal.exp (0 - (g : EReal)) = ((1 + Real.exp (0 - g) : ℝ) : EReal) := by
    rw [← EReal.coe_zero, ← EReal.coe_sub, EReal.coe_add, EReal.coe_one]
    rfl
  have hp : (0 : ℝ) < 1 + Real.exp (0 - g) := by positivity
  refine ⟨(1 + Real.exp (0 - g))⁻¹, ?_⟩
  rw [sigm, e, Ideal.div, if_neg (by rw [← EReal.coe_zero]; exact fun h => hp.ne' (EReal.coe_eq_coe_iff.1 h)), one_mul, EReal.coe_inv]

theorem fin_act {g u : EReal} (hg : Fin' g) (hu : Fin' u) : Fin' (actAt g u) := by
  obtain ⟨r, rfl⟩ := hg.coe
  obtain ⟨s, hs⟩ := sigm_coe r
  rw [actAt, hs]
  exact ((fin_coe r).mul (fin_coe s)).mul hu

/-- The gate's gradient as the sum of its two parts, for finite values. -/
theorem dgate_split {d u g : EReal} (hd : Fin' d) (hu : Fin' u) (hg : Fin' g) :
    d * u * sigm g + g * (d * u) * (sigm g * (1 - sigm g)) = dgateAt d u g := by
  obtain ⟨a, rfl⟩ := hd.coe
  obtain ⟨b, rfl⟩ := hu.coe
  obtain ⟨r, rfl⟩ := hg.coe
  obtain ⟨s, hs⟩ := sigm_coe r
  rw [dgateAt, hs, ← EReal.coe_one, ← EReal.coe_sub]
  simp only [← EReal.coe_mul, ← EReal.coe_add]
  exact congrArg _ (by ring)

variable {x h wg wu wd y}

theorem fin_proj {w : SI.Idx → EReal} (hh : Finite h) (hw : Finite w) (t : Fin 4096) (n : Fin 5632) : Fin' (Proj h w t n) :=
  fin_sum _ fun _ => Fin'.mul (hh _) (hw _)

theorem fin_err (hx : Finite x) (hh : Finite h) (hg : Finite wg) (hu : Finite wu) (hd : Finite wd) (hy : Finite y) (t : Fin 4096) (d : Fin 2048) :
    Fin' (Err x h wg wu wd y t d) :=
  Fin'.sub (Fin'.add (fin_sum _ fun n => Fin'.mul (fin_act (fin_proj hh hg t n) (fin_proj hh hu t n)) (hd _)) (hx _)) (hy _)

/-- The word of 2⁻¹¹ as a number, and that of 2⁻¹². -/
theorem mean_eq : mean = ((1 / 2048 : ℝ) : EReal) := by
  unfold mean
  simp [Ideal.ofBits, Ideal.ieee, -EReal.coe_mul]
  norm_num

theorem half_eq : half = ((1 / 4096 : ℝ) : EReal) := by
  unfold half
  simp [Ideal.ofBits, Ideal.ieee, -EReal.coe_mul]
  norm_num

theorem fin_gradAct (hx : Finite x) (hh : Finite h) (hg : Finite wg) (hu : Finite wu) (hd : Finite wd) (hy : Finite y) (t : Fin 4096) (n : Fin 5632) :
    Fin' (GradAct x h wg wu wd y t n) :=
  fin_sum _ fun k => Fin'.mul (Fin'.mul (fin_err hx hh hg hu hd hy t k) (mean_eq ▸ fin_coe _)) (hd _)

/-! ## The layout by groups: unit `n` of group `j` is unit `2816 j + n` -/

/-- A hidden layer by groups, and a weight with its units in front. -/
def grp (f : Fin 4096 → Fin 5632 → EReal) : SH.Idx → EReal := fun i =>
  f (i 1) ⟨(i 0).val * 2816 + (i 2).val, by have h0 : (i 0).val < 2 := (i 0).isLt; have h2 : (i 2).val < 2816 := (i 2).isLt; omega⟩
def grpW (f : Fin 5632 → Fin 2048 → EReal) : SG.Idx → EReal := fun i =>
  f ⟨(i 0).val * 2816 + (i 1).val, by have h0 : (i 0).val < 2 := (i 0).isLt; have h1 : (i 1).val < 2816 := (i 1).isLt; omega⟩ (i 2)

/-- A sum over the units, group by group. -/
theorem sum_groups (f : Fin 5632 → EReal) :
    ∑ n, f n = (∑ n : Fin 2816, f ⟨(0 : Fin 2).val * 2816 + n.val, by have := n.isLt; show 0 * 2816 + n.val < 5632; omega⟩)
      + ∑ n : Fin 2816, f ⟨(1 : Fin 2).val * 2816 + n.val, by have := n.isLt; show 1 * 2816 + n.val < 5632; omega⟩ := by
  refine (Fin.sum_univ_add (a := 2816) (b := 2816) f).trans (congr2 (· + ·) ?_ ?_)
  · exact Finset.sum_congr rfl fun n _ => congrArg f (Fin.ext (by show n.val = 0 * 2816 + n.val; omega))
  · exact Finset.sum_congr rfl fun n _ => congrArg f (Fin.ext (by show 2816 + n.val = 1 * 2816 + n.val; omega))

theorem proj_grp (h : ST.Idx → EReal) (w : Fin 5632 → Fin 2048 → EReal) :
    proj h (grpW w) = grp fun t n => ∑ k : Fin 2048, h (ix2 t k) * w n k := rfl

theorem act_grp (g u : Fin 4096 → Fin 5632 → EReal) : act (grp g) (grp u) = grp fun t n => actAt (g t n) (u t n) := rfl

theorem down_grp (a : Fin 4096 → Fin 5632 → EReal) (w : Fin 5632 → Fin 2048 → EReal) :
    down (grp a) (grpW w) = fun i => ∑ n, a (i 0) n * w n (i 1) :=
  funext fun i => (sum_groups fun n => a (i 0) n * w n (i 1)).symm

theorem dgate_grp (e : ST.Idx → EReal) (w : Fin 5632 → Fin 2048 → EReal) (g u : Fin 4096 → Fin 5632 → EReal) :
    dgate e (grpW w) (grp g) (grp u) = grp fun t n => dgateAt (∑ k : Fin 2048, e (ix2 t k) * w n k) (u t n) (g t n) := rfl

theorem dup_grp (e : ST.Idx → EReal) (w : Fin 5632 → Fin 2048 → EReal) (g : Fin 4096 → Fin 5632 → EReal) :
    dup e (grpW w) (grp g) = grp fun t n => dupAt (∑ k : Fin 2048, e (ix2 t k) * w n k) (g t n) := rfl

theorem dweight_grp (a : Fin 4096 → Fin 5632 → EReal) (b : ST.Idx → EReal) :
    dweight (grp a) b = grpW fun n k => ∑ t : Fin 4096, a t n * b (ix2 t k) := rfl

theorem dinput_grp (a b : Fin 4096 → Fin 5632 → EReal) (w v : Fin 5632 → Fin 2048 → EReal) :
    dinput (grp a) (grpW w) (grp b) (grpW v) = fun i => (∑ n, a (i 0) n * w n (i 1)) + ∑ n, b (i 0) n * v n (i 1) :=
  funext fun i => (add_assoc _ _ _).trans (congr2 (· + ·) (sum_groups fun n => a (i 0) n * w n (i 1)).symm (sum_groups fun n => b (i 0) n * v n (i 1)).symm)

/-- A sum over the tokens, by tiles of 256. -/
theorem sum_tiles (f : Fin 4096 → EReal) :
    ∑ s : Fin 16, ∑ p : Fin 256, f ⟨s.val * 256 + p.val, by omega⟩ = ∑ t, f t := by
  refine Eq.trans ?_ (Equiv.sum_comp (finProdFinEquiv (m := 16) (n := 256)) f)
  rw [Fintype.sum_prod_type]
  exact Finset.sum_congr rfl fun s _ => Finset.sum_congr rfl fun p _ => congrArg f (Fin.ext (by
    show s.val * 256 + p.val = p.val + 256 * s.val
    omega))

end FfnSpec

end
-- ==== Proof.Finite2.lean ====
/-
  What the second claim's precondition says: it holds exactly of arguments none of whose entries is infinite.
-/
module

public import proofs.«01_k».proof.Defs
public import proofs.«01_k».proof.Proof.Finite
public import proofs.«01_k».proof.Proof.FfnSpec
public import Idealize.ShloMosaic.Lib.ReduceAll

@[expose] public section

noncomputable section

open Idealize.ShloMosaic Idealize.SL.Sem

namespace Cert.FiniteArgs2

open AttnSpec (Finite)
open FfnTile FfnSpec Cert.FiniteArgs

/-- The side conditions of the precondition's operations. -/
theorem facts : Cert.Pre_finite2.Facts where
  bcast_S_S4096x2048 := by decide
  reducesTo_S4096x2048_S_d0_1 := by decide
  h_S_ := by decide
  bcast_S_S2048x5632 := by decide
  reducesTo_S2048x5632_S_d0_1 := by decide
  bcast_S_S5632x2048 := by decide
  reducesTo_S5632x2048_S_d0_1 := by decide

/-- The precondition's six conjuncts. -/
theorem of_pre [hp : Cert.Pre_finite2.Facts] {x0 x1 : ST.Idx → EReal} {x2 x3 : SI.Idx → EReal} {x4 : SO.Idx → EReal} {x5 : ST.Idx → EReal}
    (h : Cert.Pre_finite2.fn (F := Ideal) x0 x1 x2 x3 x4 x5 = fun _ => 1#1) :
    Finite x0 ∧ Finite x1 ∧ Finite x2 ∧ Finite x3 ∧ Finite x4 ∧ Finite x5 := by
  have h0 := congrFun h ix0
  dsimp only [Cert.Pre_finite2.fn, Cert.Pre_finite2.fn_part1] at h0
  have sub : Subsingleton Cert.Pre_finite2.S_.Idx := ⟨fun a b => funext fun i => i.elim0⟩
  obtain ⟨h1, d5⟩ := IntOp.andi_eq_one.1 h0
  obtain ⟨h2, d4⟩ := IntOp.andi_eq_one.1 h1
  obtain ⟨h3, d3⟩ := IntOp.andi_eq_one.1 h2
  obtain ⟨h4, d2⟩ := IntOp.andi_eq_one.1 h3
  obtain ⟨d0, d1⟩ := IntOp.andi_eq_one.1 h4
  exact ⟨fun i => of_abs_lt top32 (Host.reduce_andi_all _ _ _ _ _ d0 i),
    fun i => of_abs_lt top16 (Host.reduce_andi_all _ _ _ _ _ d1 i),
    fun i => of_abs_lt top32 (Host.reduce_andi_all _ _ _ _ _ d2 i),
    fun i => of_abs_lt top32 (Host.reduce_andi_all _ _ _ _ _ d3 i),
    fun i => of_abs_lt top32 (Host.reduce_andi_all _ _ _ _ _ d4 i),
    fun i => of_abs_lt top32 (Host.reduce_andi_all _ _ _ _ _ d5 i)⟩

end Cert.FiniteArgs2

end
-- ==== Proof.FfnProducts.lean ====
/-
  The launches of the feed-forward layer that are products alone: what each grid point leaves in its block, and the
  array after the launch.
-/
module

public import proofs.«01_k».proof.Proof.Gen.Kernel2Ideal.Frame
public import proofs.«01_k».proof.Proof.FfnTile

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen FfnTile

variable (V : (c : Dev nD) → (b : Ref sig .tc) → Buf (Elt Ideal) ((c : Thread nD τ).loc b)) (c : Dev nD)

/-! ## The gate's and the other factor's products: group `t / 4`, rows of tile `t % 4` -/

theorem gate_block (x0 : S1024x2048.Idx → EReal) (x1 : S1x2816x2048.Idx → EReal) (y : S1x1024x2816.Idx) :
    out0_2 (F := Ideal) x0 x1 y = ∑ k : Fin 2048, x0 (ix2 (y 1) k) * x1 (ix3 0 (y 2) k) := by
  unfold out0_2 r0_2
  rw [View.canon_unit_zero (by funext a; fin_cases a <;> rfl)]
  open_payloads
  pointwise []

theorem idx0 : ∀ t : Fin cfg0.N, win0_0.index t = ![t.val % 4, 0] ∧ win0_1.index t = ![t.val / 4, 0, 0] ∧ win0_2.index t = ![t.val / 4, t.val % 4, 0] :=
  (by decide +kernel : ∀ t : Fin grid0.N, _)

theorem final_gate : (dat0 V c).arrAt 2 cfg0.N = proj (V c main_arg1) (V c main_v3) := by
  refine (dat0 V c).arrAt_eq_of_covers 2 _ (by decide +kernel) fun t hf y => ?_
  blk_simp
  rw [after0_2, gate_block]
  refine sum_mul_congr (fun k => ?_) fun k => ?_
  · blk_ext [iblk0, idx0 t]
  · blk_ext [iblk0, idx0 t]

theorem up_block (x0 : S1024x2048.Idx → EReal) (x1 : S1x2816x2048.Idx → EReal) (y : S1x1024x2816.Idx) :
    out1_2 (F := Ideal) x0 x1 y = ∑ k : Fin 2048, x0 (ix2 (y 1) k) * x1 (ix3 0 (y 2) k) := by
  unfold out1_2 r1_2
  rw [View.canon_unit_zero (by funext a; fin_cases a <;> rfl)]
  open_payloads
  pointwise []

theorem idx1 : ∀ t : Fin cfg1.N, win1_0.index t = ![t.val % 4, 0] ∧ win1_1.index t = ![t.val / 4, 0, 0] ∧ win1_2.index t = ![t.val / 4, t.val % 4, 0] :=
  (by decide +kernel : ∀ t : Fin grid1.N, _)

theorem final_up : (dat1 V c).arrAt 2 cfg1.N = proj (V c main_arg1) (V c main_v5) := by
  refine (dat1 V c).arrAt_eq_of_covers 2 _ (by decide +kernel) fun t hf y => ?_
  blk_simp
  rw [after1_2, up_block]
  refine sum_mul_congr (fun k => ?_) fun k => ?_
  · blk_ext [iblk1, idx1 t]
  · blk_ext [iblk1, idx1 t]

/-! ## The three weights' gradients: group `t / 8`, half `t % 8 / 4` of its units, columns of tile `t % 4` -/

theorem down_dw_block (x0 : S1x4096x1408.Idx → EReal) (x1 : S4096x512.Idx → EReal) (y : S1x1408x512.Idx) :
    out4_2 (F := Ideal) x0 x1 y = ∑ k : Fin 4096, x0 (ix3 0 k (y 1)) * x1 (ix2 k (y 2)) := by
  unfold out4_2 r4_2
  rw [View.canon_unit_zero (by funext a; fin_cases a <;> rfl)]
  open_payloads
  pointwise []

theorem idx4 : ∀ t : Fin cfg4.N, win4_0.index t = ![t.val / 8, 0, t.val % 8 / 4] ∧ win4_1.index t = ![0, t.val % 4]
    ∧ win4_2.index t = ![t.val / 8, t.val % 8 / 4, t.val % 4] :=
  (by decide +kernel : ∀ t : Fin grid4.N, _)

theorem final_down_dw : (dat4 V c).arrAt 2 cfg4.N = dweight (V c main_v10_1) (V c main_v10_3) := by
  refine (dat4 V c).arrAt_eq_of_covers 2 _ (by decide +kernel) fun t hf y => ?_
  blk_simp
  rw [after4_2, down_dw_block]
  refine sum_mul_congr (fun k => ?_) fun k => ?_
  · blk_ext [iblk4, idx4 t]
  · blk_ext [iblk4, idx4 t]

theorem gate_dw_block (x0 : S1x4096x1408.Idx → EReal) (x1 : S4096x512.Idx → EReal) (y : S1x1408x512.Idx) :
    out5_2 (F := Ideal) x0 x1 y = ∑ k : Fin 4096, x0 (ix3 0 k (y 1)) * x1 (ix2 k (y 2)) := by
  unfold out5_2 r5_2
  rw [View.canon_unit_zero (by funext a; fin_cases a <;> rfl)]
  open_payloads
  pointwise []

theorem idx5 : ∀ t : Fin cfg5.N, win5_0.index t = ![t.val / 8, 0, t.val % 8 / 4] ∧ win5_1.index t = ![0, t.val % 4]
    ∧ win5_2.index t = ![t.val / 8, t.val % 8 / 4, t.val % 4] :=
  (by decide +kernel : ∀ t : Fin grid5.N, _)

theorem final_gate_dw : (dat5 V c).arrAt 2 cfg5.N = dweight (V c main_v11_0) (V c main_arg1) := by
  refine (dat5 V c).arrAt_eq_of_covers 2 _ (by decide +kernel) fun t hf y => ?_
  blk_simp
  rw [after5_2, gate_dw_block]
  refine sum_mul_congr (fun k => ?_) fun k => ?_
  · blk_ext [iblk5, idx5 t]
  · blk_ext [iblk5, idx5 t]

theorem up_dw_block (x0 : S1x4096x1408.Idx → EReal) (x1 : S4096x512.Idx → EReal) (y : S1x1408x512.Idx) :
    out6_2 (F := Ideal) x0 x1 y = ∑ k : Fin 4096, x0 (ix3 0 k (y 1)) * x1 (ix2 k (y 2)) := by
  unfold out6_2 r6_2
  rw [View.canon_unit_zero (by funext a; fin_cases a <;> rfl)]
  open_payloads
  pointwise []

theorem idx6 : ∀ t : Fin cfg6.N, win6_0.index t = ![t.val / 8, 0, t.val % 8 / 4] ∧ win6_1.index t = ![0, t.val % 4]
    ∧ win6_2.index t = ![t.val / 8, t.val % 8 / 4, t.val % 4] :=
  (by decide +kernel : ∀ t : Fin grid6.N, _)

theorem final_up_dw : (dat6 V c).arrAt 2 cfg6.N = dweight (V c main_v11_1) (V c main_arg1) := by
  refine (dat6 V c).arrAt_eq_of_covers 2 _ (by decide +kernel) fun t hf y => ?_
  blk_simp
  rw [after6_2, up_dw_block]
  refine sum_mul_congr (fun k => ?_) fun k => ?_
  · blk_ext [iblk6, idx6 t]
  · blk_ext [iblk6, idx6 t]

end Cert.Kernel2Ideal.Ffn

end
-- ==== Proof.FfnInput.lean ====
/-
  The launch that forms the gradient of the feed-forward layer's input from both factors' gradients.
-/
module

public import proofs.«01_k».proof.Proof.Gen.Kernel2Ideal.Frame
public import proofs.«01_k».proof.Proof.FfnTile

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen FfnTile

variable (V : (c : Dev nD) → (b : Ref sig .tc) → Buf (Elt Ideal) ((c : Thread nD τ).loc b)) (c : Dev nD)

/-! ## The input's gradient: rows of tile `t / 4`, columns of tile `t % 4` -/

theorem up_dx_block (x0 : S2x512x2816.Idx → EReal) (x1 : S2x2816x512.Idx → EReal) (x2 : S2x512x2816.Idx → EReal) (x3 : S2x2816x512.Idx → EReal)
    (y : S512x512.Idx) : out7_4 (F := Ideal) x0 x1 x2 x3 y
      = (∑ n : Fin 2816, x0 (ix3 0 (y 0) n) * x1 (ix3 0 n (y 1))) + (∑ n : Fin 2816, x0 (ix3 1 (y 0) n) * x1 (ix3 1 n (y 1)))
        + (∑ n : Fin 2816, x2 (ix3 0 (y 0) n) * x3 (ix3 0 n (y 1))) + ∑ n : Fin 2816, x2 (ix3 1 (y 0) n) * x3 (ix3 1 n (y 1)) := by
  unfold out7_4 r7_0 r7_1 r7_2 r7_3 r7_4
  rw [View.canon_unit_zero (by funext a; fin_cases a <;> rfl)]
  open_payloads
  pointwise []

theorem idx7 : ∀ t : Fin cfg7.N, win7_0.index t = ![0, t.val / 4, 0] ∧ win7_1.index t = ![0, 0, t.val % 4] ∧ win7_2.index t = ![0, t.val / 4, 0]
    ∧ win7_3.index t = ![0, 0, t.val % 4] ∧ win7_4.index t = ![t.val / 4, t.val % 4] :=
  (by decide +kernel : ∀ t : Fin grid7.N, _)

/-- The blocks as rows and columns of the arrays. -/
theorem read7_0 (t : Fin cfg7.N) (ht : t.val < 32) (j : Fin 2) (p : Fin 512) (n : Fin 2816) :
    iblk7 V c 0 t (ix3 j p n) = V c main_v11_0 (ix3 j ⟨t.val / 4 * 512 + p.val, by omega⟩ n) := by
  blk_ext [iblk7, idx7 t]

theorem read7_1 (t : Fin cfg7.N) (ht : t.val < 32) (j : Fin 2) (n : Fin 2816) (q : Fin 512) :
    iblk7 V c 1 t (ix3 j n q) = V c main_v3 (ix3 j n ⟨t.val % 4 * 512 + q.val, by omega⟩) := by
  blk_ext [iblk7, idx7 t]

theorem read7_2 (t : Fin cfg7.N) (ht : t.val < 32) (j : Fin 2) (p : Fin 512) (n : Fin 2816) :
    iblk7 V c 2 t (ix3 j p n) = V c main_v11_1 (ix3 j ⟨t.val / 4 * 512 + p.val, by omega⟩ n) := by
  blk_ext [iblk7, idx7 t]

theorem read7_3 (t : Fin cfg7.N) (ht : t.val < 32) (j : Fin 2) (n : Fin 2816) (q : Fin 512) :
    iblk7 V c 3 t (ix3 j n q) = V c main_v5 (ix3 j n ⟨t.val % 4 * 512 + q.val, by omega⟩) := by
  blk_ext [iblk7, idx7 t]

theorem final_up_dx : (dat7 V c).arrAt 4 cfg7.N = dinput (V c main_v11_0) (V c main_v3) (V c main_v11_1) (V c main_v5) := by
  refine (dat7 V c).arrAt_eq_of_covers 4 _ (by decide +kernel) fun t hf y => ?_
  blk_simp
  rw [after7_4, up_dx_block]
  have ht : t.val < 32 := t.isLt
  refine Eq.trans ?_ (congrArg (dinput (V c main_v11_0) (V c main_v3) (V c main_v11_1) (V c main_v5))
    (ext2 (a := (⟨t.val / 4 * 512 + (y 0).val, ?_⟩ : Fin 4096)) (b := (⟨t.val % 4 * 512 + (y 1).val, ?_⟩ : Fin 2048)) ?_ ?_).symm)
  · exact add4_congr (sum_mul_congr (fun k => read7_0 V c t ht 0 (y 0) k) fun k => read7_1 V c t ht 0 k (y 1))
      (sum_mul_congr (fun k => read7_0 V c t ht 1 (y 0) k) fun k => read7_1 V c t ht 1 k (y 1))
      (sum_mul_congr (fun k => read7_2 V c t ht 0 (y 0) k) fun k => read7_3 V c t ht 0 k (y 1))
      (sum_mul_congr (fun k => read7_2 V c t ht 1 (y 0) k) fun k => read7_3 V c t ht 1 k (y 1))
  all_goals (try blk_simp [idx7 t]) <;> idx_bounds y <;> omega

end Cert.Kernel2Ideal.Ffn

end
-- ==== Proof.FfnGate.lean ====
/-
  The launch that carries the gradient back through the second weight and the gated activation.
-/
module

public import proofs.«01_k».proof.Proof.Gen.Kernel2Ideal.Frame
public import proofs.«01_k».proof.Proof.FfnTile
public import proofs.«01_k».proof.Proof.SoftmaxReal

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen FfnTile SoftmaxReal

variable (V : (c : Dev nD) → (b : Ref sig .tc) → Buf (Elt Ideal) ((c : Thread nD τ).loc b)) (c : Dev nD)

/-- The gate's block and the other factor's block at a grid point. -/
theorem dgate_block (x0 : S512x2048.Idx → EReal) (x1 : S1x2816x2048.Idx → EReal) (x2 x3 : S1x512x2816.Idx → EReal) (y : S1x512x2816.Idx) :
    out3_4 (F := Ideal) x0 x1 x2 x3 y
      = dgateAt (∑ k : Fin 2048, x0 (ix2 (y 1) k) * x1 (ix3 0 (y 2) k)) (x3 (ix3 0 (y 1) (y 2))) (x2 (ix3 0 (y 1) (y 2))) := by
  unfold out3_4 r3_2
  rw [View.canon_unit_zero (by funext a; fin_cases a <;> rfl)]
  open_payloads
  pointwise []
  have e : y = ix3 0 (y 1) (y 2) := ext3 (congrArg Fin.val (Subsingleton.elim (α := Fin 1) (y 0) 0)) rfl rfl
  exact congr3 dgateAt rfl (congrArg x3 e) (congrArg x2 e)

theorem dup_block (x0 : S512x2048.Idx → EReal) (x1 : S1x2816x2048.Idx → EReal) (x2 x3 : S1x512x2816.Idx → EReal) (y : S1x512x2816.Idx) :
    out3_5 (F := Ideal) x0 x1 x2 x3 y
      = dupAt (∑ k : Fin 2048, x0 (ix2 (y 1) k) * x1 (ix3 0 (y 2) k)) (x2 (ix3 0 (y 1) (y 2))) := by
  unfold out3_5 r3_2
  rw [View.canon_unit_zero (by funext a; fin_cases a <;> rfl)]
  open_payloads
  pointwise []
  have e : y = ix3 0 (y 1) (y 2) := ext3 (congrArg Fin.val (Subsingleton.elim (α := Fin 1) (y 0) 0)) rfl rfl
  exact congr2 dupAt rfl (congrArg x2 e)

theorem idx3 : ∀ t : Fin cfg3.N, win3_0.index t = ![t.val % 8, 0] ∧ win3_1.index t = ![t.val / 8, 0, 0] ∧ win3_2.index t = ![t.val / 8, t.val % 8, 0]
    ∧ win3_3.index t = ![t.val / 8, t.val % 8, 0] ∧ win3_4.index t = ![t.val / 8, t.val % 8, 0] ∧ win3_5.index t = ![t.val / 8, t.val % 8, 0] :=
  (by decide +kernel : ∀ t : Fin grid3.N, _)

/-- The blocks as rows and groups of the arrays. -/
theorem read3_0 (t : Fin cfg3.N) (ht : t.val < 16) (p : Fin 512) (k : Fin 2048) :
    iblk3 V c 0 t (ix2 p k) = V c main_v10_3 (ix2 ⟨t.val % 8 * 512 + p.val, by omega⟩ k) := by
  blk_ext [iblk3, idx3 t]

theorem read3_1 (t : Fin cfg3.N) (ht : t.val < 16) (n : Fin 2816) (k : Fin 2048) :
    iblk3 V c 1 t (ix3 0 n k) = V c main_v7 (ix3 ⟨t.val / 8, by omega⟩ n k) := by
  blk_ext [iblk3, idx3 t]

theorem read3_2 (t : Fin cfg3.N) (ht : t.val < 16) (p : Fin 512) (n : Fin 2816) :
    iblk3 V c 2 t (ix3 0 p n) = V c main_v8 (ix3 ⟨t.val / 8, by omega⟩ ⟨t.val % 8 * 512 + p.val, by omega⟩ n) := by
  blk_ext [iblk3, idx3 t]

theorem read3_3 (t : Fin cfg3.N) (ht : t.val < 16) (p : Fin 512) (n : Fin 2816) :
    iblk3 V c 3 t (ix3 0 p n) = V c main_v9 (ix3 ⟨t.val / 8, by omega⟩ ⟨t.val % 8 * 512 + p.val, by omega⟩ n) := by
  blk_ext [iblk3, idx3 t]

theorem final_dgate : (dat3 V c).arrAt 4 cfg3.N = dgate (V c main_v10_3) (V c main_v7) (V c main_v8) (V c main_v9) := by
  refine (dat3 V c).arrAt_eq_of_covers 4 _ (by decide +kernel) fun t hf y => ?_
  blk_simp
  rw [after3_4, dgate_block]
  have ht : t.val < 16 := t.isLt
  refine Eq.trans ?_ (congrArg (dgate (V c main_v10_3) (V c main_v7) (V c main_v8) (V c main_v9))
    (ext3 (a := (⟨t.val / 8, ?_⟩ : Fin 2)) (b := (⟨t.val % 8 * 512 + (y 1).val, ?_⟩ : Fin 4096)) (d := (y 2 : Fin 2816)) ?_ ?_ ?_).symm)
  · exact congr3 dgateAt (sum_mul_congr (fun k => read3_0 V c t ht (y 1) k) fun k => read3_1 V c t ht (y 2) k)
      (read3_3 V c t ht (y 1) (y 2)) (read3_2 V c t ht (y 1) (y 2))
  all_goals (try blk_simp [idx3 t]) <;> idx_bounds y <;> omega

theorem final_dup : (dat3 V c).arrAt 5 cfg3.N = dup (V c main_v10_3) (V c main_v7) (V c main_v8) := by
  refine (dat3 V c).arrAt_eq_of_covers 5 _ (by decide +kernel) fun t hf y => ?_
  blk_simp
  rw [after3_5, dup_block]
  have ht : t.val < 16 := t.isLt
  refine Eq.trans ?_ (congrArg (dup (V c main_v10_3) (V c main_v7) (V c main_v8))
    (ext3 (a := (⟨t.val / 8, ?_⟩ : Fin 2)) (b := (⟨t.val % 8 * 512 + (y 1).val, ?_⟩ : Fin 4096)) (d := (y 2 : Fin 2816)) ?_ ?_ ?_).symm)
  · exact congr2 dupAt (sum_mul_congr (fun k => read3_0 V c t ht (y 1) k) fun k => read3_1 V c t ht (y 2) k)
      (read3_2 V c t ht (y 1) (y 2))
  all_goals (try blk_simp [idx3 t]) <;> idx_bounds y <;> omega

end Cert.Kernel2Ideal.Ffn

end
-- ==== Proof.FfnDown.lean ====
/-
  The launch of the activation, the second product, the difference from the target and the loss.
-/
module

public import proofs.«01_k».proof.Proof.Gen.Kernel2Ideal.Frame
public import proofs.«01_k».proof.Proof.FfnTile
public import proofs.«01_k».proof.Proof.SoftmaxReal

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen FfnTile SoftmaxReal

variable (V : (c : Dev nD) → (b : Ref sig .tc) → Buf (Elt Ideal) ((c : Thread nD τ).loc b)) (c : Dev nD)

/-! ## One tile of 256 tokens -/

/-- The difference from the target, in a tile. -/
def errB (x0 x1 : S2x256x2816.Idx → EReal) (x2 : S2x2816x2048.Idx → EReal) (x3 x4 : S256x2048.Idx → EReal) (r : Fin 256) (d : Fin 2048) : EReal :=
  (∑ n : Fin 2816, actAt (x0 (ix3 0 r n)) (x1 (ix3 0 r n)) * x2 (ix3 0 n d)) + (∑ n : Fin 2816, actAt (x0 (ix3 1 r n)) (x1 (ix3 1 r n)) * x2 (ix3 1 n d))
    + x3 (ix2 r d) - x4 (ix2 r d)

/-- Its squares' sum. -/
def sqB (x0 x1 : S2x256x2816.Idx → EReal) (x2 : S2x2816x2048.Idx → EReal) (x3 x4 : S256x2048.Idx → EReal) : EReal :=
  ∑ r : Fin 256, ∑ d : Fin 2048, errB x0 x1 x2 x3 x4 r d * errB x0 x1 x2 x3 x4 r d

theorem loss_first (t : Fin cfg2.N) (h0 : t.val % 16 = 0) (h1 : ¬t.val % 16 = 15) (y : S8x128.Idx) : (outsAt2 V c t.val t.isLt).2.2.1 y
    = sqB (iblk2 V c 0 t) (iblk2 V c 1 t) (iblk2 V c 2 t) (iblk2 V c 3 t) (iblk2 V c 4 t) := by
  rw [outsAt2_A V c t h0 h1]
  frame_out
  open_payloads
  pointwise []
  rfl

theorem loss_next (t : Fin cfg2.N) (h0 : ¬t.val % 16 = 0) (h1 : ¬t.val % 16 = 15) (y : S8x128.Idx) : (outsAt2 V c t.val t.isLt).2.2.1 y
    = (outsAt2 V c (t.val - 1) (by have := t.isLt; omega)).2.2.1 y + sqB (iblk2 V c 0 t) (iblk2 V c 1 t) (iblk2 V c 2 t) (iblk2 V c 3 t) (iblk2 V c 4 t) := by
  rw [outsAt2_B V c t h0 h1]
  frame_out
  open_payloads
  pointwise []
  rfl

theorem loss_last (t : Fin cfg2.N) (h0 : ¬t.val % 16 = 0) (h1 : t.val % 16 = 15) (y : S8x128.Idx) : (outsAt2 V c t.val t.isLt).2.2.1 y
    = ((outsAt2 V c (t.val - 1) (by have := t.isLt; omega)).2.2.1 y + sqB (iblk2 V c 0 t) (iblk2 V c 1 t) (iblk2 V c 2 t) (iblk2 V c 3 t) (iblk2 V c 4 t))
      * Ideal.ofBits .f32 964689920#32 := by
  rw [outsAt2_C V c t h0 h1]
  frame_out
  open_payloads
  pointwise []
  rfl

theorem dx_block (t : Fin cfg2.N) (y : S256x2048.Idx) : (outsAt2 V c t.val t.isLt).1 y
    = errB (iblk2 V c 0 t) (iblk2 V c 1 t) (iblk2 V c 2 t) (iblk2 V c 3 t) (iblk2 V c 4 t) (y 0) (y 1) * Ideal.ofBits .f32 973078528#32 := by
  obtain ⟨r, d, rfl⟩ : ∃ (r : Fin 256) (d : Fin 2048), y = ix2 r d := ⟨_, _, eq_ix2 y⟩
  by_cases h0 : t.val % 16 = 0
  · have h1 : ¬t.val % 16 = 15 := by omega
    rw [outsAt2_A V c t h0 h1]
    frame_out
    open_payloads
    pointwise []
    rfl
  by_cases h1 : t.val % 16 = 15
  · rw [outsAt2_C V c t h0 h1]
    frame_out
    open_payloads
    pointwise []
    rfl
  · rw [outsAt2_B V c t h0 h1]
    frame_out
    open_payloads
    pointwise []
    rfl

theorem dxb_block (t : Fin cfg2.N) (y : S256x2048.Idx) : (outsAt2 V c t.val t.isLt).2.2.2 y
    = errB (iblk2 V c 0 t) (iblk2 V c 1 t) (iblk2 V c 2 t) (iblk2 V c 3 t) (iblk2 V c 4 t) (y 0) (y 1) * Ideal.ofBits .f32 973078528#32 := by
  obtain ⟨r, d, rfl⟩ : ∃ (r : Fin 256) (d : Fin 2048), y = ix2 r d := ⟨_, _, eq_ix2 y⟩
  by_cases h0 : t.val % 16 = 0
  · have h1 : ¬t.val % 16 = 15 := by omega
    rw [outsAt2_A V c t h0 h1]
    frame_out
    open_payloads
    pointwise []
    rfl
  by_cases h1 : t.val % 16 = 15
  · rw [outsAt2_C V c t h0 h1]
    frame_out
    open_payloads
    pointwise []
    rfl
  · rw [outsAt2_B V c t h0 h1]
    frame_out
    open_payloads
    pointwise []
    rfl

/-- The activation's stores, the second group's and the first's. -/
theorem act_block (t : Fin cfg2.N) (y : S2x256x2816.Idx) : (outsAt2 V c t.val t.isLt).2.1 y
    = actAt (iblk2 V c 0 t y) (iblk2 V c 1 t y) := by
  by_cases h0 : t.val % 16 = 0
  · have h1 : ¬t.val % 16 = 15 := by omega
    rw [outsAt2_A V c t h0 h1]
    frame_out
    canon_tiles x h
    all_goals
      open_payloads
      pointwise []
    · rw [show y = ix3 1 (x 1) (x 2) from ext3 (by show (y 0).val = 1; omega) h1 h2]; rfl
    · rw [show y = ix3 0 (x 1) (x 2) from ext3 (by show (y 0).val = 0; omega) h1 h2]; rfl
  by_cases h1 : t.val % 16 = 15
  · rw [outsAt2_C V c t h0 h1]
    frame_out
    canon_tiles x h
    all_goals
      open_payloads
      pointwise []
    · rw [show y = ix3 1 (x 1) (x 2) from ext3 (by show (y 0).val = 1; omega) h1 h2]; rfl
    · rw [show y = ix3 0 (x 1) (x 2) from ext3 (by show (y 0).val = 0; omega) h1 h2]; rfl
  · rw [outsAt2_B V c t h0 h1]
    frame_out
    canon_tiles x h
    all_goals
      open_payloads
      pointwise []
    · rw [show y = ix3 1 (x 1) (x 2) from ext3 (by show (y 0).val = 1; omega) h1 h2]; rfl
    · rw [show y = ix3 0 (x 1) (x 2) from ext3 (by show (y 0).val = 0; omega) h1 h2]; rfl

theorem idx2 : ∀ t : Fin cfg2.N, win2_0.index t = ![0, t.val, 0] ∧ win2_1.index t = ![0, t.val, 0] ∧ win2_2.index t = ![0, 0, 0]
    ∧ win2_3.index t = ![t.val, 0] ∧ win2_4.index t = ![t.val, 0] ∧ win2_5.index t = ![t.val, 0] ∧ win2_6.index t = ![0, t.val, 0]
    ∧ win2_7.index t = ![0, 0] ∧ win2_8.index t = ![t.val, 0] :=
  (by decide +kernel : ∀ t : Fin grid2.N, _)

/-- The blocks as rows of the arrays. -/
theorem read2_0 (t : Fin cfg2.N) (ht : t.val < 16) (j : Fin 2) (p : Fin 256) (n : Fin 2816) :
    iblk2 V c 0 t (ix3 j p n) = V c main_v8 (ix3 j ⟨t.val * 256 + p.val, by omega⟩ n) := by
  blk_ext [iblk2, idx2 t]

theorem read2_1 (t : Fin cfg2.N) (ht : t.val < 16) (j : Fin 2) (p : Fin 256) (n : Fin 2816) :
    iblk2 V c 1 t (ix3 j p n) = V c main_v9 (ix3 j ⟨t.val * 256 + p.val, by omega⟩ n) := by
  blk_ext [iblk2, idx2 t]

theorem read2_2 (t : Fin cfg2.N) (j : Fin 2) (n : Fin 2816) (k : Fin 2048) :
    iblk2 V c 2 t (ix3 j n k) = V c main_v7 (ix3 j n k) := by
  blk_ext [iblk2, idx2 t]

theorem read2_3 (t : Fin cfg2.N) (ht : t.val < 16) (p : Fin 256) (k : Fin 2048) :
    iblk2 V c 3 t (ix2 p k) = V c main_arg0 (ix2 ⟨t.val * 256 + p.val, by omega⟩ k) := by
  blk_ext [iblk2, idx2 t]

theorem read2_4 (t : Fin cfg2.N) (ht : t.val < 16) (p : Fin 256) (k : Fin 2048) :
    iblk2 V c 4 t (ix2 p k) = V c main_arg5 (ix2 ⟨t.val * 256 + p.val, by omega⟩ k) := by
  blk_ext [iblk2, idx2 t]

/-- The whole difference from the target. -/
def errV : ST.Idx → EReal := err (V c main_v8) (V c main_v9) (V c main_v7) (V c main_arg0) (V c main_arg5)

theorem errB_eq (t : Fin cfg2.N) (ht : t.val < 16) (p : Fin 256) (k : Fin 2048) :
    errB (iblk2 V c 0 t) (iblk2 V c 1 t) (iblk2 V c 2 t) (iblk2 V c 3 t) (iblk2 V c 4 t) p k
      = errV V c (ix2 ⟨t.val * 256 + p.val, by omega⟩ k) :=
  congr4 (fun a b x y : EReal => a + b + x - y)
    (sum_mul_congr (fun n => congr2 actAt (read2_0 V c t ht 0 p n) (read2_1 V c t ht 0 p n)) fun n => read2_2 V c t 0 n k)
    (sum_mul_congr (fun n => congr2 actAt (read2_0 V c t ht 1 p n) (read2_1 V c t ht 1 p n)) fun n => read2_2 V c t 1 n k)
    (read2_3 V c t ht p k) (read2_4 V c t ht p k)

theorem final_dx : (dat2 V c).arrAt 5 cfg2.N = fun i => errV V c i * Ideal.ofBits .f32 973078528#32 := by
  refine (dat2 V c).arrAt_eq_of_covers 5 _ (by decide +kernel) fun t hf y => ?_
  blk_simp
  rw [after2_5, dx_block]
  have ht : t.val < 16 := t.isLt
  refine Eq.trans ?_ (congrArg (fun i => errV V c i * Ideal.ofBits .f32 973078528#32)
    (ext2 (a := (⟨t.val * 256 + (y 0).val, ?_⟩ : Fin 4096)) (b := (y 1 : Fin 2048)) ?_ ?_).symm)
  · exact congrArg (· * Ideal.ofBits .f32 973078528#32) (errB_eq V c t ht (y 0) (y 1))
  all_goals (try blk_simp [idx2 t]) <;> idx_bounds y <;> omega

theorem final_dxb : (dat2 V c).arrAt 8 cfg2.N = fun i => errV V c i * Ideal.ofBits .f32 973078528#32 := by
  refine (dat2 V c).arrAt_eq_of_covers 8 _ (by decide +kernel) fun t hf y => ?_
  blk_simp
  rw [after2_8, dxb_block]
  have ht : t.val < 16 := t.isLt
  refine Eq.trans ?_ (congrArg (fun i => errV V c i * Ideal.ofBits .f32 973078528#32)
    (ext2 (a := (⟨t.val * 256 + (y 0).val, ?_⟩ : Fin 4096)) (b := (y 1 : Fin 2048)) ?_ ?_).symm)
  · exact congrArg (· * Ideal.ofBits .f32 973078528#32) (errB_eq V c t ht (y 0) (y 1))
  all_goals (try blk_simp [idx2 t]) <;> idx_bounds y <;> omega

theorem final_act : (dat2 V c).arrAt 6 cfg2.N = act (V c main_v8) (V c main_v9) := by
  refine (dat2 V c).arrAt_eq_of_covers 6 _ (by decide +kernel) fun t hf y => ?_
  blk_simp
  rw [after2_6, act_block]
  have ht : t.val < 16 := t.isLt
  have e : y = ix3 (y 0) (y 1) (y 2) := eq_ix3 y
  refine Eq.trans ?_ (congrArg (act (V c main_v8) (V c main_v9))
    (ext3 (a := (y 0 : Fin 2)) (b := (⟨t.val * 256 + (y 1).val, ?_⟩ : Fin 4096)) (d := (y 2 : Fin 2816)) ?_ ?_ ?_).symm)
  · exact congr2 actAt ((congrArg _ e).trans (read2_0 V c t ht (y 0) (y 1) (y 2))) ((congrArg _ e).trans (read2_1 V c t ht (y 0) (y 1) (y 2)))
  all_goals (try blk_simp [idx2 t]) <;> idx_bounds y <;> omega

/-- A tile's part of the loss, as a function of the tile's number. -/
def sqV (t : ℕ) : EReal := if ht : t < 16 then
  ∑ p : Fin 256, ∑ k : Fin 2048, errV V c (ix2 ⟨t * 256 + p.val, by omega⟩ k) * errV V c (ix2 ⟨t * 256 + p.val, by omega⟩ k) else 0

theorem sqB_eq (t : Fin cfg2.N) (ht : t.val < 16) :
    sqB (iblk2 V c 0 t) (iblk2 V c 1 t) (iblk2 V c 2 t) (iblk2 V c 3 t) (iblk2 V c 4 t) = sqV V c t.val := by
  rw [sqV, dif_pos ht]
  exact Finset.sum_congr rfl fun p _ => sum_mul_congr (fun k => errB_eq V c t ht p k) fun k => errB_eq V c t ht p k

/-- The loss before the last tile: the sum of the tiles so far. -/
theorem loss_upto (y : S8x128.Idx) : ∀ n (hn : n < cfg2.N), n < 15 → (outsAt2 V c n hn).2.2.1 y = ∑ s ∈ Finset.range (n + 1), sqV V c s
  | 0, hn, _ => by
    rw [loss_first V c ⟨0, hn⟩ (Nat.zero_mod 16) (by show ¬0 % 16 = 15; omega) y, sqB_eq V c ⟨0, hn⟩ (by show 0 < 16; omega)]
    exact (Finset.sum_range_one _).symm
  | n + 1, hn, h => by
    rw [loss_next V c ⟨n + 1, hn⟩ (by show ¬(n + 1) % 16 = 0; omega) (by show ¬(n + 1) % 16 = 15; omega) y, sqB_eq V c ⟨n + 1, hn⟩ (by show n + 1 < 16; omega),
      Finset.sum_range_succ]
    exact congrArg (· + sqV V c (n + 1)) (loss_upto y n (by omega) (by omega))

theorem final_loss : (dat2 V c).arrAt 7 cfg2.N = fun _ => (∑ s ∈ Finset.range 16, sqV V c s) * Ideal.ofBits .f32 964689920#32 := by
  refine (dat2 V c).arrAt_eq_of_covers 7 _ (by decide +kernel) fun t hf y => ?_
  have h15 : t.val % 16 = 15 := (flush2_7 t).mp hf
  have ht : t.val < 16 := t.isLt
  have h : t.val = 15 := by omega
  rw [after2_7]
  refine (loss_last V c t (by omega) h15 _).trans ?_
  rw [sqB_eq V c t ht, loss_upto V c _ _ _ (by omega), show t.val - 1 + 1 = 15 by omega, h]
  exact congrArg (· * Ideal.ofBits .f32 964689920#32) (Finset.sum_range_succ _ _).symm

end Cert.Kernel2Ideal.Ffn

end
-- ==== Proof.FfnHost.lean ====
/-
  The host lines around the launches: the weights by groups of units before them, the weights' gradients put back into
  the arguments' layout after them.
-/
module

public import proofs.«01_k».proof.Proof.Gen.Kernel2Ideal.Frame
public import proofs.«01_k».proof.Proof.FfnSpec
import Idealize.ShloMosaic.Lib.Pipeline.ValueKit

@[expose] public section

set_option maxRecDepth 16384

noncomputable section

open Idealize.ShloMosaic Idealize.ShloMosaic.TcCoe Idealize.ShloMosaic.StableHlo Idealize.SL.Sem

namespace Cert.Kernel2Ideal.Ffn

open Cert.Kernel2Ideal Cert.Kernel2Ideal.Gen FfnTile FfnSpec

variable (V : Valuation τ sig (Elt Ideal))

/-- The gate's weight, transposed and cut into two groups. -/
theorem host_v3 : after hostOps0 V (Proc.devRef .tc main_v3) = grpW fun n k => V (Proc.devRef .tc main_arg2) (ix2 k n) := by
  after_results
  funext i
  obtain ⟨j, n, k, rfl⟩ : ∃ (j : Fin 2) (n : Fin 2816) (k : Fin 2048), i = ix3 j n k := ⟨_, _, _, eq_ix3 i⟩
  pointwise []
  rfl

/-- The other factor's weight, transposed and cut into two groups. -/
theorem host_v5 : after hostOps0 V (Proc.devRef .tc main_v5) = grpW fun n k => V (Proc.devRef .tc main_arg3) (ix2 k n) := by
  after_results
  funext i
  obtain ⟨j, n, k, rfl⟩ : ∃ (j : Fin 2) (n : Fin 2816) (k : Fin 2048), i = ix3 j n k := ⟨_, _, _, eq_ix3 i⟩
  pointwise []
  rfl

/-- The second weight, cut into two groups. -/
theorem host_v7 : after hostOps0 V (Proc.devRef .tc main_v7) = grpW fun n k => V (Proc.devRef .tc main_arg4) (ix2 n k) := by
  after_results
  funext i
  obtain ⟨j, n, k, rfl⟩ : ∃ (j : Fin 2) (n : Fin 2816) (k : Fin 2048), i = ix3 j n k := ⟨_, _, _, eq_ix3 i⟩
  pointwise []
  rfl

/-- An entry of the grouped layout at the group and the place of a unit. -/
theorem grpW_unit (f : Fin 5632 → Fin 2048 → EReal) (n : Fin 5632) (k : Fin 2048) (h0 : n.val / 2816 < 2) (h1 : n.val % 2816 < 2816) :
    grpW f (ix3 ⟨n.val / 2816, h0⟩ ⟨n.val % 2816, h1⟩ k) = f n k :=
  congrArg (fun u => f u k) (Fin.ext (by show n.val / 2816 * 2816 + n.val % 2816 = n.val; omega))

variable {V}

/-- The weights' gradients in the arguments' layout. -/
theorem host_v22 {f : Fin 5632 → Fin 2048 → EReal} (h : V (Proc.devRef .tc main_v12) = grpW f) :
    after hostOps8 V (Proc.devRef .tc main_v22) = fun i => f (i 0) (i 1) := by
  after_results
  funext i
  obtain ⟨n, k, rfl⟩ : ∃ (n : Fin 5632) (k : Fin 2048), i = ix2 n k := ⟨_, _, eq_ix2 i⟩
  rw [h]
  pointwise []
  exact grpW_unit f n k _ _

theorem host_v19 {f : Fin 5632 → Fin 2048 → EReal} (h : V (Proc.devRef .tc main_v13) = grpW f) :
    after hostOps8 V (Proc.devRef .tc main_v19) = fun i => f (i 1) (i 0) := by
  after_results
  funext i
  obtain ⟨k, n, rfl⟩ : ∃ (k : Fin 2048) (n : Fin 5632), i = ix2 k n := ⟨_, _, eq_ix2 i⟩
  rw [h]
  pointwise []
  exact grpW_unit f n k _ _

theorem host_v21 {f : Fin 5632 → Fin 2048 → EReal} (h : V (Proc.devRef .tc main_v14) = grpW f) :
    after hostOps8 V (Proc.devRef .tc main_v21) = fun i => f (i 1) (i 0) := by
  after_results
  funext i
  obtain ⟨k, n, rfl⟩ : ∃ (k : Fin 2048) (n : Fin 5632), i = ix2 k n := ⟨_, _, eq_ix2 i⟩
  rw [h]
  pointwise []
  exact grpW_unit f n k _ _

/-- The loss out of its block. -/
theorem host_v17 {a : EReal} (h : V (Proc.devRef .tc main_v10_2) = fun _ => a) :
    after hostOps8 V (Proc.devRef .tc main_v17) = fun _ => a := by
  after_results
  funext i
  rw [h]
  pointwise []

end Cert.Kernel2Ideal.Ffn

end
-- ==== Proof.FfnRun.lean ====
/-
  The run of the feed-forward layer's launches: what the program's results hold at the end.
-/
module

public import proofs.«01_k».proof.Proof.FfnProducts
public import proofs.«01_k».proof.Proof.FfnInput
public import proofs.«01_k».proof.Proof.FfnGate
public import proofs.«01_k».proof.Proof.FfnDown
public import proofs.«01_k».proof.Proof.FfnHost

@[expose] public section

set_option maxRecDepth 16384

noncomputable section

open Idealize.SL Idealize.SL.RA Idealize.SL.BI Idealize.ShloMosaic Idealize.ShloMosaic.TcCoe Idealize.ShloMosaic.StableHlo
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Ffn

open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, the launches end with every buffer of @main at the last boundary's contents. -/
theorem run_boundary : θ_run defs (onTc (τ := τ) (main (F := F))) ⟨m, fun _ => 0, ρ⟩ (fun r =>
      ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h _ => h)

end Cert.Kernel2Ideal.Ffn

namespace Cert.Kernel2Ideal.Ffn

open Cert.Kernel2Ideal Cert.Kernel2Ideal.Gen FfnTile FfnSpec

variable (m : (ℓ : Loc nD τ sig) → Buf (Elt Ideal) ℓ) (ρ : Dev nD → PrngReg) (c : Dev nD)

/-- The arguments' contents. -/
abbrev X : ST.Idx → EReal := m ((c : Thread nD τ).loc main_arg0)
abbrev H : ST.Idx → EReal := m ((c : Thread nD τ).loc main_arg1)
abbrev G : SI.Idx → EReal := m ((c : Thread nD τ).loc main_arg2)
abbrev U : SI.Idx → EReal := m ((c : Thread nD τ).loc main_arg3)
abbrev D : SO.Idx → EReal := m ((c : Thread nD τ).loc main_arg4)
abbrev Y : ST.Idx → EReal := m ((c : Thread nD τ).loc main_arg5)

/-- The weights by groups, before the launches. -/
theorem v3_1 : W1 m ρ c (Proc.devRef .tc main_v3) = grpW fun n k => G m c (ix2 k n) := host_v3 (W0 m ρ c)

theorem v5_1 : W1 m ρ c (Proc.devRef .tc main_v5) = grpW fun n k => U m c (ix2 k n) := host_v5 (W0 m ρ c)

theorem v7_1 : W1 m ρ c (Proc.devRef .tc main_v7) = grpW fun n d => D m c (ix2 n d) := host_v7 (W0 m ρ c)

/-- The two projections. -/
theorem gate_2 : W2 m ρ c (Proc.devRef .tc main_v8) = grp (Proj (H m c) (G m c)) := (W2_arr m ρ c 2).trans ((final_gate (V1 m ρ) c).trans (congr2 proj (W1_args m ρ c main_arg1 (by decide)) (v3_1 m ρ c)))

theorem up_3 : W3 m ρ c (Proc.devRef .tc main_v9) = grp (Proj (H m c) (U m c)) := (W3_arr m ρ c 2).trans ((final_up (V2 m ρ) c).trans (congr2 proj (W2_args m ρ c main_arg1 (by decide)) ((W2_of m ρ c main_v5 (by decide +kernel)).trans (v5_1 m ρ c))))

/-- The difference from the target, as the third launch forms it. -/
theorem err_3 : errV (V3 m ρ) c = fun i => Err (X m c) (H m c) (G m c) (U m c) (D m c) (Y m c) (i 0) (i 1) := by
  have e8 : V3 m ρ c main_v8 = grp (Proj (H m c) (G m c)) := (W3_of m ρ c main_v8 (by decide +kernel)).trans (gate_2 m ρ c)
  have e9 : V3 m ρ c main_v9 = grp (Proj (H m c) (U m c)) := up_3 m ρ c
  have e7 : V3 m ρ c main_v7 = grpW fun n d => D m c (ix2 n d) := ((W3_of m ρ c main_v7 (by decide +kernel)).trans (W2_of m ρ c main_v7 (by decide +kernel))).trans (v7_1 m ρ c)
  have e0 : V3 m ρ c main_arg0 = X m c := W3_args m ρ c main_arg0 (by decide)
  have e5 : V3 m ρ c main_arg5 = Y m c := W3_args m ρ c main_arg5 (by decide)
  unfold errV
  rw [e8, e9, e7, e0, e5]
  unfold FfnTile.err
  rw [act_grp, down_grp]
  funext i
  obtain ⟨t, d, rfl⟩ : ∃ (t : Fin 4096) (d : Fin 2048), i = ix2 t d := ⟨_, _, eq_ix2 i⟩
  rfl

/-- The gradient at the layer's output, twice; the activation; the loss. -/
theorem dx_4 : W4 m ρ c (Proc.devRef .tc main_v10_0) = fun i => GradX (X m c) (H m c) (G m c) (U m c) (D m c) (Y m c) (i 0) (i 1) := (W4_arr m ρ c 5).trans ((final_dx (V3 m ρ) c).trans (congrArg (fun (e : ST.Idx → EReal) i => e i * mean) (err_3 m ρ c)))

theorem dxb_4 : W4 m ρ c (Proc.devRef .tc main_v10_3) = fun i => GradX (X m c) (H m c) (G m c) (U m c) (D m c) (Y m c) (i 0) (i 1) := (W4_arr m ρ c 8).trans ((final_dxb (V3 m ρ) c).trans (congrArg (fun (e : ST.Idx → EReal) i => e i * mean) (err_3 m ρ c)))

theorem act_4 : W4 m ρ c (Proc.devRef .tc main_v10_1) = grp (Act (H m c) (G m c) (U m c)) := (W4_arr m ρ c 6).trans ((final_act (V3 m ρ) c).trans (congr2 FfnTile.act ((W3_of m ρ c main_v8 (by decide +kernel)).trans (gate_2 m ρ c)) (up_3 m ρ c)))

/-- The tiles' sums of squares together. -/
theorem sum_sqV (V : (c : Dev nD) → (b : Ref sig .tc) → Buf (Elt Ideal) ((c : Thread nD τ).loc b)) (E : Fin 4096 → Fin 2048 → EReal)
    (h : errV V c = fun i => E (i 0) (i 1)) : ∑ s ∈ Finset.range 16, sqV V c s = ∑ t : Fin 4096, ∑ d : Fin 2048, E t d * E t d := by
  rw [Finset.sum_range, ← sum_tiles]
  refine Finset.sum_congr rfl fun s _ => ?_
  rw [sqV, dif_pos s.isLt, h]
  rfl

theorem loss_4 : W4 m ρ c (Proc.devRef .tc main_v10_2) = fun _ => Loss (X m c) (H m c) (G m c) (U m c) (D m c) (Y m c) :=
  (W4_arr m ρ c 7).trans ((final_loss (V3 m ρ) c).trans (funext fun _ =>
    (congrArg (· * Ideal.ofBits .f32 964689920#32) (sum_sqV c (V3 m ρ) _ (err_3 m ρ c))).trans (by unfold Loss half; rfl)))

/-- The gradients at the two projections. -/
theorem dgate_5 : W5 m ρ c (Proc.devRef .tc main_v11_0) = grp (GradGate (X m c) (H m c) (G m c) (U m c) (D m c) (Y m c)) := by
  have e8 : V4 m ρ c main_v8 = grp (Proj (H m c) (G m c)) := ((W4_of m ρ c main_v8 (by decide +kernel)).trans (W3_of m ρ c main_v8 (by decide +kernel))).trans (gate_2 m ρ c)
  have e9 : V4 m ρ c main_v9 = grp (Proj (H m c) (U m c)) := (W4_of m ρ c main_v9 (by decide +kernel)).trans (up_3 m ρ c)
  have e7 : V4 m ρ c main_v7 = grpW fun n d => D m c (ix2 n d) := ((W4_of m ρ c main_v7 (by decide +kernel)).trans ((W3_of m ρ c main_v7 (by decide +kernel)).trans (W2_of m ρ c main_v7 (by decide +kernel)))).trans (v7_1 m ρ c)
  have e3 : V4 m ρ c main_v10_3 = fun i => GradX (X m c) (H m c) (G m c) (U m c) (D m c) (Y m c) (i 0) (i 1) := dxb_4 m ρ c
  refine (W5_arr m ρ c 4).trans ((final_dgate (V4 m ρ) c).trans ?_)
  rw [e8, e9, e7, e3]
  rfl

theorem dup_5 : W5 m ρ c (Proc.devRef .tc main_v11_1) = grp (GradUp (X m c) (H m c) (G m c) (U m c) (D m c) (Y m c)) := by
  have e8 : V4 m ρ c main_v8 = grp (Proj (H m c) (G m c)) := ((W4_of m ρ c main_v8 (by decide +kernel)).trans (W3_of m ρ c main_v8 (by decide +kernel))).trans (gate_2 m ρ c)
  have e7 : V4 m ρ c main_v7 = grpW fun n d => D m c (ix2 n d) := ((W4_of m ρ c main_v7 (by decide +kernel)).trans ((W3_of m ρ c main_v7 (by decide +kernel)).trans (W2_of m ρ c main_v7 (by decide +kernel)))).trans (v7_1 m ρ c)
  have e3 : V4 m ρ c main_v10_3 = fun i => GradX (X m c) (H m c) (G m c) (U m c) (D m c) (Y m c) (i 0) (i 1) := dxb_4 m ρ c
  refine (W5_arr m ρ c 5).trans ((final_dup (V4 m ρ) c).trans ?_)
  rw [e8, e7, e3]
  rfl

/-- The weights' gradients, by groups. -/
theorem dwd_6 : W6 m ρ c (Proc.devRef .tc main_v12) = grpW (GradDownW (X m c) (H m c) (G m c) (U m c) (D m c) (Y m c)) := (W6_arr m ρ c 2).trans ((final_down_dw (V5 m ρ) c).trans (congr2 dweight ((W5_of m ρ c main_v10_1 (by decide +kernel)).trans (act_4 m ρ c)) ((W5_of m ρ c main_v10_3 (by decide +kernel)).trans (dxb_4 m ρ c))))

theorem dwg_7 : W7 m ρ c (Proc.devRef .tc main_v13) = grpW fun n k => GradGateW (X m c) (H m c) (G m c) (U m c) (D m c) (Y m c) k n := (W7_arr m ρ c 2).trans ((final_gate_dw (V6 m ρ) c).trans (congr2 dweight ((W6_of m ρ c main_v11_0 (by decide +kernel)).trans (dgate_5 m ρ c)) (W6_args m ρ c main_arg1 (by decide))))

theorem dwu_8 : W8 m ρ c (Proc.devRef .tc main_v14) = grpW fun n k => GradUpW (X m c) (H m c) (G m c) (U m c) (D m c) (Y m c) k n := (W8_arr m ρ c 2).trans ((final_up_dw (V7 m ρ) c).trans (congr2 dweight (((W7_of m ρ c main_v11_1 (by decide +kernel)).trans (W6_of m ρ c main_v11_1 (by decide +kernel))).trans (dup_5 m ρ c)) (W7_args m ρ c main_arg1 (by decide))))

/-- The input's gradient. -/
theorem dh_9 : W9 m ρ c (Proc.devRef .tc main_v15) = fun i => GradH (X m c) (H m c) (G m c) (U m c) (D m c) (Y m c) (i 0) (i 1) := by
  have e0 : V8 m ρ c main_v11_0 = grp (GradGate (X m c) (H m c) (G m c) (U m c) (D m c) (Y m c)) := ((W8_of m ρ c main_v11_0 (by decide +kernel)).trans ((W7_of m ρ c main_v11_0 (by decide +kernel)).trans (W6_of m ρ c main_v11_0 (by decide +kernel)))).trans (dgate_5 m ρ c)
  have e1 : V8 m ρ c main_v11_1 = grp (GradUp (X m c) (H m c) (G m c) (U m c) (D m c) (Y m c)) := ((W8_of m ρ c main_v11_1 (by decide +kernel)).trans ((W7_of m ρ c main_v11_1 (by decide +kernel)).trans (W6_of m ρ c main_v11_1 (by decide +kernel)))).trans (dup_5 m ρ c)
  have e3 : V8 m ρ c main_v3 = grpW fun n k => G m c (ix2 k n) := ((W8_of m ρ c main_v3 (by decide +kernel)).trans ((W7_of m ρ c main_v3 (by decide +kernel)).trans ((W6_of m ρ c main_v3 (by decide +kernel)).trans ((W5_of m ρ c main_v3 (by decide +kernel)).trans ((W4_of m ρ c main_v3 (by decide +kernel)).trans ((W3_of m ρ c main_v3 (by decide +kernel)).trans (W2_of m ρ c main_v3 (by decide +kernel)))))))).trans (v3_1 m ρ c)
  have e5 : V8 m ρ c main_v5 = grpW fun n k => U m c (ix2 k n) := ((W8_of m ρ c main_v5 (by decide +kernel)).trans ((W7_of m ρ c main_v5 (by decide +kernel)).trans ((W6_of m ρ c main_v5 (by decide +kernel)).trans ((W5_of m ρ c main_v5 (by decide +kernel)).trans ((W4_of m ρ c main_v5 (by decide +kernel)).trans ((W3_of m ρ c main_v5 (by decide +kernel)).trans (W2_of m ρ c main_v5 (by decide +kernel)))))))).trans (v5_1 m ρ c)
  refine (W9_arr m ρ c 4).trans ((final_up_dx (V8 m ρ) c).trans ?_)
  rw [e0, e1, e3, e5, dinput_grp]
  rfl

/-- The results at the end. -/
theorem end_loss : W10 m ρ c (Proc.devRef .tc main_v17) = fun _ => Loss (X m c) (H m c) (G m c) (U m c) (D m c) (Y m c) := host_v17 (((W9_of m ρ c main_v10_2 (by decide +kernel)).trans ((W8_of m ρ c main_v10_2 (by decide +kernel)).trans ((W7_of m ρ c main_v10_2 (by decide +kernel)).trans ((W6_of m ρ c main_v10_2 (by decide +kernel)).trans (W5_of m ρ c main_v10_2 (by decide +kernel)))))).trans (loss_4 m ρ c))

theorem end_dx : W10 m ρ c (Proc.devRef .tc main_v10_0) = fun i => GradX (X m c) (H m c) (G m c) (U m c) (D m c) (Y m c) (i 0) (i 1) := (W10_of m ρ c main_v10_0 (by decide)).trans (((W9_of m ρ c main_v10_0 (by decide +kernel)).trans ((W8_of m ρ c main_v10_0 (by decide +kernel)).trans ((W7_of m ρ c main_v10_0 (by decide +kernel)).trans ((W6_of m ρ c main_v10_0 (by decide +kernel)).trans (W5_of m ρ c main_v10_0 (by decide +kernel)))))).trans (dx_4 m ρ c))

theorem end_dh : W10 m ρ c (Proc.devRef .tc main_v15) = fun i => GradH (X m c) (H m c) (G m c) (U m c) (D m c) (Y m c) (i 0) (i 1) := (W10_of m ρ c main_v15 (by decide)).trans (dh_9 m ρ c)

theorem end_dwg : W10 m ρ c (Proc.devRef .tc main_v19) = fun i => GradGateW (X m c) (H m c) (G m c) (U m c) (D m c) (Y m c) (i 0) (i 1) := host_v19 (((W9_of m ρ c main_v13 (by decide +kernel)).trans (W8_of m ρ c main_v13 (by decide +kernel))).trans (dwg_7 m ρ c))

theorem end_dwu : W10 m ρ c (Proc.devRef .tc main_v21) = fun i => GradUpW (X m c) (H m c) (G m c) (U m c) (D m c) (Y m c) (i 0) (i 1) := host_v21 ((W9_of m ρ c main_v14 (by decide +kernel)).trans (dwu_8 m ρ c))

theorem end_dwd : W10 m ρ c (Proc.devRef .tc main_v22) = fun i => GradDownW (X m c) (H m c) (G m c) (U m c) (D m c) (Y m c) (i 0) (i 1) := host_v22 (((W9_of m ρ c main_v12 (by decide +kernel)).trans ((W8_of m ρ c main_v12 (by decide +kernel)).trans (W7_of m ρ c main_v12 (by decide +kernel)))).trans (dwd_6 m ρ c))

end Cert.Kernel2Ideal.Ffn

end
-- ==== Proof.FfnRef.lean ====
/-
  The reference's results for the feed-forward layer, read at an index: on finite arguments each of them is the function
  `FfnSpec` names.
-/
module

public import proofs.«01_k».proof.Proof.Gen.Reference2Ideal.Read
public import proofs.«01_k».proof.Proof.FfnSpec

@[expose] public section

set_option maxRecDepth 16384

noncomputable section

open Idealize.ShloMosaic Idealize.ShloMosaic.TcCoe Idealize.SL.Sem

namespace Cert.Reference2Ideal.Ffn

open Cert.Reference2Ideal Cert.Reference2Ideal.Read FfnTile FfnSpec
open AttnSpec (Finite)
open SoftmaxReal (one_eq)

variable (x0 x1 : ST.Idx → EReal) (x2 x3 : SI.Idx → EReal) (x4 : SO.Idx → EReal) (x5 : ST.Idx → EReal)

theorem gate (t : Fin 4096) (n : Fin 5632) : val_main_v1 (F := Ideal) x1 x2 (ix2 t n) = Proj x1 x2 t n :=
  (val_main_v1_apply x1 x2 _).trans (sum_mul_congr (fun k => congrArg x1 (ext2 rfl rfl)) fun k => congrArg x2 (ext2 rfl rfl))

theorem up (t : Fin 4096) (n : Fin 5632) : val_main_v3 (F := Ideal) x1 x3 (ix2 t n) = Proj x1 x3 t n :=
  (val_main_v3_apply x1 x3 _).trans (sum_mul_congr (fun k => congrArg x1 (ext2 rfl rfl)) fun k => congrArg x3 (ext2 rfl rfl))

theorem one (t : Fin 4096) (n : Fin 5632) : val_main_call0_v2 (F := Ideal) (ix2 t n) = 1 := by
  rw [val_main_call0_v2_apply, val_main_call0_cst_apply]; exact one_eq

theorem one' (t : Fin 4096) (n : Fin 5632) : val_main_call0_v4 (F := Ideal) (ix2 t n) = 1 := by
  rw [val_main_call0_v4_apply, val_main_call0_cst_0_apply]; exact one_eq

theorem one'' (t : Fin 4096) (n : Fin 5632) : val_main_call0_v6 (F := Ideal) (ix2 t n) = 1 := by
  rw [val_main_call0_v6_apply, val_main_call0_cst_1_apply]; exact one_eq

/-- The logistic function of the gate. -/
theorem sigma (t : Fin 4096) (n : Fin 5632) : val_main_v2_2 (F := Ideal) x1 x2 (ix2 t n) = sigm (Proj x1 x2 t n) := by
  have e : val_main_v2_2 (F := Ideal) x1 x2 (ix2 t n)
      = Ideal.div (val_main_call0_v4 (F := Ideal) (ix2 t n)) (val_main_call0_v2 (F := Ideal) (ix2 t n) + Ideal.exp (-(val_main_v1 (F := Ideal) x1 x2 (ix2 t n)))) := rfl
  rw [e, one, one', gate, sigm, zero_sub]

theorem silu (t : Fin 4096) (n : Fin 5632) : val_main_v2_0 (F := Ideal) x1 x2 (ix2 t n) = Proj x1 x2 t n * sigm (Proj x1 x2 t n) := by
  have e : val_main_v2_0 (F := Ideal) x1 x2 (ix2 t n) = val_main_v1 (F := Ideal) x1 x2 (ix2 t n) * val_main_v2_2 (F := Ideal) x1 x2 (ix2 t n) := rfl
  rw [e, gate, sigma]

theorem slope (t : Fin 4096) (n : Fin 5632) :
    val_main_v2_1 (F := Ideal) x1 x2 (ix2 t n) = sigm (Proj x1 x2 t n) * (1 - sigm (Proj x1 x2 t n)) := by
  have e : val_main_v2_1 (F := Ideal) x1 x2 (ix2 t n)
      = val_main_v2_2 (F := Ideal) x1 x2 (ix2 t n) * (val_main_call0_v6 (F := Ideal) (ix2 t n) - val_main_v2_2 (F := Ideal) x1 x2 (ix2 t n)) := rfl
  rw [e, sigma, one'']

theorem act (t : Fin 4096) (n : Fin 5632) : val_main_v4 (F := Ideal) x1 x2 x3 (ix2 t n) = Act x1 x2 x3 t n := by
  have e : val_main_v4 (F := Ideal) x1 x2 x3 (ix2 t n) = val_main_v2_0 (F := Ideal) x1 x2 (ix2 t n) * val_main_v3 (F := Ideal) x1 x3 (ix2 t n) := rfl
  rw [e, silu, up]
  rfl

theorem down (t : Fin 4096) (d : Fin 2048) :
    val_main_v5 (F := Ideal) x1 x2 x3 x4 (ix2 t d) = ∑ n : Fin 5632, Act x1 x2 x3 t n * x4 (ix2 n d) :=
  (val_main_v5_apply x1 x2 x3 x4 _).trans (sum_mul_congr
    (fun n => (congrArg (val_main_v4 (F := Ideal) x1 x2 x3) (ext2 (a := t) (b := n) rfl rfl)).trans (act x1 x2 x3 t n))
    fun k => congrArg x4 (ext2 rfl rfl))

theorem err (t : Fin 4096) (d : Fin 2048) : val_main_v7 (F := Ideal) x0 x1 x2 x3 x4 x5 (ix2 t d) = Err x0 x1 x2 x3 x4 x5 t d := by
  have e : val_main_v7 (F := Ideal) x0 x1 x2 x3 x4 x5 (ix2 t d) = x0 (ix2 t d) + val_main_v5 (F := Ideal) x1 x2 x3 x4 (ix2 t d) - x5 (ix2 t d) := rfl
  rw [e, down, add_comm]
  rfl

/-! ## The loss and its gradient at the layer's output -/

theorem c2 : Ideal.ofBits FTy.f32 0x40000000#32 = ((2 : ℝ) : EReal) := by
  simp [Ideal.ofBits, Ideal.ieee, -EReal.coe_mul]; norm_num
theorem c2048 : Ideal.ofBits FTy.f32 0x45000000#32 = ((2048 : ℝ) : EReal) := by
  simp [Ideal.ofBits, Ideal.ieee, -EReal.coe_mul]; norm_num
theorem chalf : Ideal.ofBits FTy.f32 0x3F000000#32 = ((1 / 2 : ℝ) : EReal) := by
  simp [Ideal.ofBits, Ideal.ieee, -EReal.coe_mul]; norm_num

theorem two (t : Fin 4096) (d : Fin 2048) : val_main_v9 (F := Ideal) (ix2 t d) = ((2 : ℝ) : EReal) := by
  rw [val_main_v9_apply, val_main_cst_apply]; exact c2

theorem scale (t : Fin 4096) (d : Fin 2048) : val_main_v20 (F := Ideal) (ix2 t d) = ((1 / 4096 : ℝ) : EReal) := by
  rw [val_main_v20_apply]
  have e : ∀ i, val_main_v19 (F := Ideal) i = Ideal.div (val_main_v17 (F := Ideal) i) (val_main_v18 (F := Ideal) i) := fun _ => rfl
  have e16 : ∀ i, val_main_v16 (F := Ideal) i = val_main_cst_4 (F := Ideal) i * val_main_cst_5 (F := Ideal) i := fun _ => rfl
  rw [e, val_main_v17_apply, val_main_v18_apply, val_main_cst_6_apply, e16, val_main_cst_4_apply, val_main_cst_5_apply]
  have h : Ideal.div (Ideal.ofBits FTy.f32 0x3F000000#32 * Ideal.ofBits FTy.f32 0x3F800000#32) (Ideal.ofBits FTy.f32 0x45000000#32) = ((1 / 4096 : ℝ) : EReal) := by
    rw [c2048, Ideal.div_coe (by norm_num), one_eq, mul_one, chalf, ← EReal.coe_mul]
    norm_num
  exact h

theorem gradX (t : Fin 4096) (d : Fin 2048) : val_main_v21 (F := Ideal) x0 x1 x2 x3 x4 x5 (ix2 t d) = GradX x0 x1 x2 x3 x4 x5 t d := by
  have e : val_main_v21 (F := Ideal) x0 x1 x2 x3 x4 x5 (ix2 t d)
      = val_main_v20 (F := Ideal) (ix2 t d) * (val_main_v9 (F := Ideal) (ix2 t d) * val_main_v7 (F := Ideal) x0 x1 x2 x3 x4 x5 (ix2 t d)) := rfl
  rw [e, scale, two, err, ← mul_assoc, ← EReal.coe_mul, GradX, mean_eq, mul_comm]
  exact congrArg (fun r : ℝ => Err x0 x1 x2 x3 x4 x5 t d * (r : EReal)) (by norm_num)

/-- The mean of a token's squares. -/
theorem tokenMean (t : Fin 4096) : val_main_v13 (F := Ideal) x0 x1 x2 x3 x4 x5 (ix1 t)
    = (∑ d : Fin 2048, Err x0 x1 x2 x3 x4 x5 t d * Err x0 x1 x2 x3 x4 x5 t d) * ((1 / 2048 : ℝ) : EReal) := by
  have e : val_main_v13 (F := Ideal) x0 x1 x2 x3 x4 x5 (ix1 t)
      = Ideal.div (val_main_v11 (F := Ideal) x0 x1 x2 x3 x4 x5 (ix1 t)) (val_main_v12 (F := Ideal) (ix1 t)) := rfl
  have z : ∀ i, val_main_cst_0 (F := Ideal) i = 0 := fun _ => Ideal.ofBits_zero_f32
  have c : val_main_v12 (F := Ideal) (ix1 t) = ((2048 : ℝ) : EReal) := by
    rw [val_main_v12_apply, val_main_cst_1_apply]; exact c2048
  rw [e, c, Ideal.div_coe (by norm_num), val_main_v11_apply, z, zero_add]
  refine congrArg (· * ((1 / 2048 : ℝ) : EReal)) (sum_mul_congr (fun d => ?_) fun d => ?_) <;>
  exact (congrArg (val_main_v7 (F := Ideal) x0 x1 x2 x3 x4 x5) (ext2 (a := t) (b := d) rfl rfl)).trans (err x0 x1 x2 x3 x4 x5 t d)

/-- A product with a positive real distributes over a sum of squares. -/
theorem sum_mul_pos {ι : Type} (s : Finset ι) (f : ι → EReal) (hf : ∀ i, 0 ≤ f i) (r : EReal) : ∑ i ∈ s, f i * r = (∑ i ∈ s, f i) * r := by
  classical
  induction s using Finset.induction_on with
  | empty => simp
  | insert a s ha ih =>
    rw [Finset.sum_insert ha, Finset.sum_insert ha, ih, EReal.right_distrib_of_nonneg (hf a) (Finset.sum_nonneg fun i _ => hf i)]

theorem square_nonneg (a : EReal) : 0 ≤ a * a := by
  rcases le_total 0 a with h | h
  · exact mul_nonneg h h
  · rw [← neg_mul_neg]; exact mul_nonneg (EReal.neg_nonneg.2 h) (EReal.neg_nonneg.2 h)

/-- A sum over the indices of a vector. -/
theorem sum_vec (f : S4096.Idx → EReal) : ∑ j, f j = ∑ t : Fin 4096, f (ix1 t) :=
  (Equiv.sum_comp (⟨fun t => ix1 t, fun i => i 0, fun _ => rfl, fun i => (eq_ix1 i).symm⟩ : Fin 4096 ≃ S4096.Idx) f).symm

theorem loss (i : S_.Idx) : val_main_v15 (F := Ideal) x0 x1 x2 x3 x4 x5 i = Loss x0 x1 x2 x3 x4 x5 := by
  have e : val_main_v15 (F := Ideal) x0 x1 x2 x3 x4 x5 i = Ideal.ofBits FTy.f32 0x3F000000#32 * val_main_v14 (F := Ideal) x0 x1 x2 x3 x4 x5 i := rfl
  have z : ∀ i, val_main_cst_2 (F := Ideal) i = 0 := fun _ => Ideal.ofBits_zero_f32
  rw [e, chalf, val_main_v14_apply, z, zero_add, sum_vec, Loss, half_eq, mul_comm]
  rw [Finset.sum_congr rfl fun t _ => tokenMean x0 x1 x2 x3 x4 x5 t,
    sum_mul_pos _ _ fun t => Finset.sum_nonneg fun d _ => square_nonneg (Err x0 x1 x2 x3 x4 x5 t d), mul_assoc, ← EReal.coe_mul]
  exact congrArg (fun r : ℝ => _ * (r : EReal)) (by norm_num)

/-! ## The gradients -/

theorem gradAct (t : Fin 4096) (n : Fin 5632) : val_main_v24 (F := Ideal) x0 x1 x2 x3 x4 x5 (ix2 t n) = GradAct x0 x1 x2 x3 x4 x5 t n :=
  (val_main_v24_apply x0 x1 x2 x3 x4 x5 _).trans (sum_mul_congr
    (fun d => (congrArg (val_main_v21 (F := Ideal) x0 x1 x2 x3 x4 x5) (ext2 (a := t) (b := d) rfl rfl)).trans (gradX x0 x1 x2 x3 x4 x5 t d))
    fun k => congrArg x4 (ext2 rfl rfl))

theorem gradUp (t : Fin 4096) (n : Fin 5632) : val_main_v25 (F := Ideal) x0 x1 x2 x3 x4 x5 (ix2 t n) = GradUp x0 x1 x2 x3 x4 x5 t n := by
  have e : val_main_v25 (F := Ideal) x0 x1 x2 x3 x4 x5 (ix2 t n)
      = val_main_v2_0 (F := Ideal) x1 x2 (ix2 t n) * val_main_v24 (F := Ideal) x0 x1 x2 x3 x4 x5 (ix2 t n) := rfl
  rw [e, silu, gradAct, GradUp, dupAt, mul_comm, mul_assoc]

theorem gradGate (h0 : Finite x0) (h1 : Finite x1) (h2 : Finite x2) (h3 : Finite x3) (h4 : Finite x4) (h5 : Finite x5) (t : Fin 4096) (n : Fin 5632) :
    val_main_v30 (F := Ideal) x0 x1 x2 x3 x4 x5 (ix2 t n) = GradGate x0 x1 x2 x3 x4 x5 t n := by
  have e : val_main_v30 (F := Ideal) x0 x1 x2 x3 x4 x5 (ix2 t n)
      = val_main_v24 (F := Ideal) x0 x1 x2 x3 x4 x5 (ix2 t n) * val_main_v3 (F := Ideal) x1 x3 (ix2 t n) * val_main_v2_2 (F := Ideal) x1 x2 (ix2 t n)
        + val_main_v1 (F := Ideal) x1 x2 (ix2 t n) * (val_main_v24 (F := Ideal) x0 x1 x2 x3 x4 x5 (ix2 t n) * val_main_v3 (F := Ideal) x1 x3 (ix2 t n))
          * val_main_v2_1 (F := Ideal) x1 x2 (ix2 t n) := rfl
  rw [e, gradAct, up, sigma, slope, gate]
  exact dgate_split (fin_gradAct h0 h1 h2 h3 h4 h5 t n) (fin_proj h1 h3 t n) (fin_proj h1 h2 t n)

theorem gradDownW (n : Fin 5632) (d : Fin 2048) : val_main_v37 (F := Ideal) x0 x1 x2 x3 x4 x5 (ix2 n d) = GradDownW x0 x1 x2 x3 x4 x5 n d := by
  have e : val_main_v37 (F := Ideal) x0 x1 x2 x3 x4 x5 (ix2 n d) = val_main_v23 (F := Ideal) x0 x1 x2 x3 x4 x5 (ix2 n d) := rfl
  rw [e, val_main_v23_apply, val_main_v22_apply]
  refine Finset.sum_congr rfl fun t _ => (mul_comm _ _).trans (congr2 (· * ·) ?_ ?_)
  · exact (congrArg (val_main_v4 (F := Ideal) x1 x2 x3) (ext2 (a := t) (b := n) rfl rfl)).trans (act x1 x2 x3 t n)
  · exact (congrArg (val_main_v21 (F := Ideal) x0 x1 x2 x3 x4 x5) (ext2 (a := t) (b := d) rfl rfl)).trans (gradX x0 x1 x2 x3 x4 x5 t d)

theorem gradUpW (k : Fin 2048) (n : Fin 5632) : val_main_v36 (F := Ideal) x0 x1 x2 x3 x4 x5 (ix2 k n) = GradUpW x0 x1 x2 x3 x4 x5 k n := by
  have e : val_main_v36 (F := Ideal) x0 x1 x2 x3 x4 x5 (ix2 k n) = val_main_v28 (F := Ideal) x0 x1 x2 x3 x4 x5 (ix2 k n) := rfl
  rw [e, val_main_v28_apply, val_main_v27_apply]
  refine sum_mul_congr (fun t => ?_) fun t => congrArg x1 (ext2 rfl rfl)
  exact (congrArg (val_main_v25 (F := Ideal) x0 x1 x2 x3 x4 x5) (ext2 (a := t) (b := n) rfl rfl)).trans (gradUp x0 x1 x2 x3 x4 x5 t n)

variable {x0 x1 x2 x3 x4 x5}

theorem gradGateW (h0 : Finite x0) (h1 : Finite x1) (h2 : Finite x2) (h3 : Finite x3) (h4 : Finite x4) (h5 : Finite x5) (k : Fin 2048) (n : Fin 5632) :
    val_main_v35 (F := Ideal) x0 x1 x2 x3 x4 x5 (ix2 k n) = GradGateW x0 x1 x2 x3 x4 x5 k n := by
  have e : val_main_v35 (F := Ideal) x0 x1 x2 x3 x4 x5 (ix2 k n) = val_main_v32 (F := Ideal) x0 x1 x2 x3 x4 x5 (ix2 k n) := rfl
  rw [e, val_main_v32_apply, val_main_v31_apply]
  refine sum_mul_congr (fun t => ?_) fun t => congrArg x1 (ext2 rfl rfl)
  exact (congrArg (val_main_v30 (F := Ideal) x0 x1 x2 x3 x4 x5) (ext2 (a := t) (b := n) rfl rfl)).trans (gradGate x0 x1 x2 x3 x4 x5 h0 h1 h2 h3 h4 h5 t n)

theorem gradH (h0 : Finite x0) (h1 : Finite x1) (h2 : Finite x2) (h3 : Finite x3) (h4 : Finite x4) (h5 : Finite x5) (t : Fin 4096) (k : Fin 2048) :
    val_main_v34 (F := Ideal) x0 x1 x2 x3 x4 x5 (ix2 t k) = GradH x0 x1 x2 x3 x4 x5 t k := by
  have e : val_main_v34 (F := Ideal) x0 x1 x2 x3 x4 x5 (ix2 t k)
      = val_main_v29 (F := Ideal) x0 x1 x2 x3 x4 x5 (ix2 t k) + val_main_v33 (F := Ideal) x0 x1 x2 x3 x4 x5 (ix2 t k) := rfl
  rw [e, val_main_v29_apply, val_main_v33_apply, add_comm]
  refine congr2 (· + ·) (sum_mul_congr (fun n => ?_) fun n => congrArg x2 (ext2 rfl rfl)) (sum_mul_congr (fun n => ?_) fun n => congrArg x3 (ext2 rfl rfl))
  · exact (congrArg (val_main_v30 (F := Ideal) x0 x1 x2 x3 x4 x5) (ext2 (a := t) (b := n) rfl rfl)).trans (gradGate x0 x1 x2 x3 x4 x5 h0 h1 h2 h3 h4 h5 t n)
  · exact (congrArg (val_main_v25 (F := Ideal) x0 x1 x2 x3 x4 x5) (ext2 (a := t) (b := n) rfl rfl)).trans (gradUp x0 x1 x2 x3 x4 x5 t n)

end Cert.Reference2Ideal.Ffn

end
-- ==== Proof.FfnClaim.lean ====
/-
  The claims about the feed-forward layer's program and its reference.
-/
module

public import proofs.«01_k».proof.Proof.Finite2
public import proofs.«01_k».proof.Proof.FfnRun
public import proofs.«01_k».proof.Proof.FfnRef
public import proofs.«01_k».proof.Proof.Gen.Kernel2.Frame

@[expose] public section

set_option maxRecDepth 16384

noncomputable section

open Idealize.ShloMosaic Idealize.ShloMosaic.TcCoe Idealize.SL.Sem

namespace Cert.FfnClaim

open FfnTile FfnSpec

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Pre_finite2.Facts := Cert.FiniteArgs2.facts

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_kernelIdeal_finite : Cert.quiescent_Kernel2Ideal_pre_finite2 := fun m ρ _ => Cert.Kernel2Ideal.Gen.frame m ρ

/-- The reference's run read at its arguments; it declares no semaphore. -/
theorem frame_reference : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

theorem frame_reference_finite : Cert.quiescent_Reference2Ideal_pre_finite2 := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

/-- An array from its entries. -/
theorem of_entries {n0 n1 : ℕ} {x : (⟨2, ![n0, n1]⟩ : Shape).Idx → EReal} {f : Fin n0 → Fin n1 → EReal} (h : ∀ a b, x (ix2 a b) = f a b) :
    x = fun i => f (i 0) (i 1) := funext fun i => (congrArg x (eq_ix2 i)).trans (h (i 0) (i 1))

/-- On finite arguments the kernels and the reference both end with the loss and its gradients. -/
theorem algebraic : Cert.algebraic_Kernel2Ideal_Reference2Ideal_pre_finite2 := by
  intro m g m' g' hpre hag
  have hfin := fun c => Cert.FiniteArgs2.of_pre (hpre c)
  refine ⟨fun c _ => Loss (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c),
    fun c i => GradX (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c) (i 0) (i 1),
    fun c i => GradH (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c) (i 0) (i 1),
    fun c i => GradGateW (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c) (i 0) (i 1),
    fun c i => GradUpW (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c) (i 0) (i 1),
    fun c i => GradDownW (Cert.Kernel2Ideal.Ffn.X m c) (Cert.Kernel2Ideal.Ffn.H m c) (Cert.Kernel2Ideal.Ffn.G m c) (Cert.Kernel2Ideal.Ffn.U m c) (Cert.Kernel2Ideal.Ffn.D m c) (Cert.Kernel2Ideal.Ffn.Y m c) (i 0) (i 1), ?_, ?_⟩
  · refine (θ_run Cert.Kernel2Ideal.defs _ _).mono (fun r h c => ?_) (Cert.Kernel2Ideal.Ffn.run_boundary (F := Ideal) m g)
    exact ⟨(h c _ (Cert.Kernel2Ideal.Gen.mem_uc Cert.Kernel2Ideal.main_v17 (by decide))).trans (Cert.Kernel2Ideal.Ffn.end_loss m g c),
      (h c _ (Cert.Kernel2Ideal.Gen.mem_uc Cert.Kernel2Ideal.main_v10_0 (by decide))).trans (Cert.Kernel2Ideal.Ffn.end_dx m g c),
      (h c _ (Cert.Kernel2Ideal.Gen.mem_uc Cert.Kernel2Ideal.main_v15 (by decide))).trans (Cert.Kernel2Ideal.Ffn.end_dh m g c),
      (h c _ (Cert.Kernel2Ideal.Gen.mem_uc Cert.Kernel2Ideal.main_v19 (by decide))).trans (Cert.Kernel2Ideal.Ffn.end_dwg m g c),
      (h c _ (Cert.Kernel2Ideal.Gen.mem_uc Cert.Kernel2Ideal.main_v21 (by decide))).trans (Cert.Kernel2Ideal.Ffn.end_dwu m g c),
      (h c _ (Cert.Kernel2Ideal.Gen.mem_uc Cert.Kernel2Ideal.main_v22 (by decide))).trans (Cert.Kernel2Ideal.Ffn.end_dwd m g c),
      (h c _ (Cert.Kernel2Ideal.Gen.mem_uc Cert.Kernel2Ideal.main_arg0 (by decide))).trans (Cert.Kernel2Ideal.Gen.W10_main_arg0 m g c),
      (h c _ (Cert.Kernel2Ideal.Gen.mem_uc Cert.Kernel2Ideal.main_arg1 (by decide))).trans (Cert.Kernel2Ideal.Gen.W10_main_arg1 m g c),
      (h c _ (Cert.Kernel2Ideal.Gen.mem_uc Cert.Kernel2Ideal.main_arg2 (by decide))).trans (Cert.Kernel2Ideal.Gen.W10_main_arg2 m g c),
      (h c _ (Cert.Kernel2Ideal.Gen.mem_uc Cert.Kernel2Ideal.main_arg3 (by decide))).trans (Cert.Kernel2Ideal.Gen.W10_main_arg3 m g c),
      (h c _ (Cert.Kernel2Ideal.Gen.mem_uc Cert.Kernel2Ideal.main_arg4 (by decide))).trans (Cert.Kernel2Ideal.Gen.W10_main_arg4 m g c),
      (h c _ (Cert.Kernel2Ideal.Gen.mem_uc Cert.Kernel2Ideal.main_arg5 (by decide))).trans (Cert.Kernel2Ideal.Gen.W10_main_arg5 m g c)⟩
  · refine (θ_run Cert.Reference2Ideal.defs _ _).mono (fun r h c => ?_) (Cert.Reference2Ideal.Value.run (F := Ideal) m' g')
    obtain ⟨h0, h1, h2, h3, h4, h5⟩ := hfin c
    obtain ⟨a0, a1, a2, a3, a4, a5⟩ := hag c
    obtain ⟨r0, r1, r2, r3, r4, r5, rest⟩ := h c
    refine ⟨?_, ?_, ?_, ?_, ?_, ?_, rest⟩
    · refine r0.trans ((Cert.Reference2Ideal.Read.val_main_v15_eq _ _ _ _ _ _).trans ?_)
      rw [a0, a1, a2, a3, a4, a5]; exact funext fun i => Cert.Reference2Ideal.Ffn.loss _ _ _ _ _ _ i
    · refine r1.trans ((Cert.Reference2Ideal.Read.val_main_v21_eq _ _ _ _ _ _).trans ?_)
      rw [a0, a1, a2, a3, a4, a5]; exact of_entries fun a b => Cert.Reference2Ideal.Ffn.gradX _ _ _ _ _ _ a b
    · refine r2.trans ((Cert.Reference2Ideal.Read.val_main_v34_eq m' c).trans ?_)
      rw [a0, a1, a2, a3, a4, a5]; exact of_entries fun a b => Cert.Reference2Ideal.Ffn.gradH h0 h1 h2 h3 h4 h5 a b
    · refine r3.trans ((Cert.Reference2Ideal.Read.val_main_v35_eq m' c).trans ?_)
      rw [a0, a1, a2, a3, a4, a5]; exact of_entries fun a b => Cert.Reference2Ideal.Ffn.gradGateW h0 h1 h2 h3 h4 h5 a b
    · refine r4.trans ((Cert.Reference2Ideal.Read.val_main_v36_eq _ _ _ _ _ _).trans ?_)
      rw [a0, a1, a2, a3, a4, a5]; exact of_entries fun a b => Cert.Reference2Ideal.Ffn.gradUpW _ _ _ _ _ _ a b
    · refine r5.trans ((Cert.Reference2Ideal.Read.val_main_v37_eq _ _ _ _ _ _).trans ?_)
      rw [a0, a1, a2, a3, a4, a5]; exact of_entries fun a b => Cert.Reference2Ideal.Ffn.gradDownW _ _ _ _ _ _ a b

end Cert.FfnClaim

end
-- ==== Proof.NormGrad.lean ====
/-
  The gradient of a row's normalisation `x ↦ x · r`, with `r` the inverse root of the row's mean square, over extended reals.

  One form scales the difference of the cotangent and its part along the row; the other adds the cotangent's part through the row
  and its part through the mean square, the latter once for each of the square's factors.  The two agree on every row and every
  cotangent, infinite entries included: a row with an infinite entry has `r = 0`, and both forms are zero there; a row of real
  numbers has a positive real `r`, by which sums of extended reals may be multiplied term by term.
-/
module

public import proofs.«01_k».proof.Proof.SoftmaxReal

@[expose] public section

noncomputable section

open Idealize.ShloMosaic

namespace NormGrad

/-- The number of features, the constant beside the mean square, and minus one half. -/
abbrev cN : EReal := Ideal.ofBits .f32 0x45000000#32
abbrev cE : EReal := Ideal.ofBits .f32 0x358637BD#32
abbrev cH : EReal := Ideal.ofBits .f32 0xBF000000#32

theorem cN_eq : cN = ((2048 : ℝ) : EReal) := by
  simp [cN, Ideal.ofBits, Ideal.ieee, -EReal.coe_mul]; norm_num

theorem cH_eq : cH = ((-(1 / 2) : ℝ) : EReal) := by
  simp [cH, Ideal.ofBits, Ideal.ieee, -EReal.coe_mul]; norm_num

theorem cE_eq : ∃ e : ℝ, 0 < e ∧ cE = (e : EReal) := by
  refine ⟨_, ?_, by simp [cE, Ideal.ofBits, Ideal.ieee, -EReal.coe_mul]; exact rfl⟩
  norm_num

/-- Dividing by the number of features is multiplying by a real number. -/
theorem div_cN (x : EReal) : Ideal.div x cN = x * ((1 / 2048 : ℝ) : EReal) := by
  rw [cN_eq]
  exact Ideal.div_coe (by norm_num : (2048 : ℝ) ≠ 0) x

variable {n : ℕ}

/-- The mean square with its constant, and its inverse root. -/
def msq (x : Fin n → EReal) : EReal := Ideal.div (∑ k, x k * x k) cN + cE
def inv (x : Fin n → EReal) : EReal := Ideal.rsqrt (msq x)

/-- The gradient, as the scaled difference. -/
def byDifference (x d : Fin n → EReal) (j : Fin n) : EReal :=
  inv x * (d j - x j * inv x * Ideal.div (∑ k, d k * (x k * inv x)) cN)

/-- The gradient, through the mean square's two factors. -/
def through (x d : Fin n → EReal) : EReal := Ideal.div ((∑ k, x k * d k) * (cH * Ideal.div (inv x) (msq x))) cN
def byFactors (x d : Fin n → EReal) (j : Fin n) : EReal := d j * inv x + x j * through x d + through x d * x j

/-- A square is not negative. -/
theorem sq_nonneg (a : EReal) : 0 ≤ a * a := by
  induction a with
  | bot => simp
  | top => simp
  | coe a => exact_mod_cast mul_self_nonneg a

/-- A row with an infinite entry has no inverse root. -/
theorem inv_infinite (x : Fin n → EReal) (k : Fin n) (h : x k = ⊤ ∨ x k = ⊥) : msq x = ⊤ ∧ inv x = 0 := by
  have hk : x k * x k = ⊤ := by rcases h with h | h <;> simp [h]
  have hs : ∑ k, x k * x k = ⊤ := by
    refine top_le_iff.1 ?_
    rw [← hk]
    exact Finset.single_le_sum (f := fun k => x k * x k) (fun i _ => sq_nonneg _) (Finset.mem_univ k)
  have hm : msq x = ⊤ := by
    obtain ⟨e, he, h⟩ := cE_eq
    rw [msq, hs, div_cN, h, EReal.top_mul_coe_of_pos (by norm_num)]
    exact EReal.top_add_coe e
  exact ⟨hm, by rw [inv, hm]; rfl⟩

/-- A row of real numbers has a positive mean square `m`, and its inverse root is a positive real number. -/
theorem inv_real (x : Fin n → ℝ) : ∃ m : ℝ, 0 < m ∧ msq (fun k => (x k : EReal)) = (m : EReal)
    ∧ inv (fun k => (x k : EReal)) = (((Real.sqrt m)⁻¹ : ℝ) : EReal) := by
  obtain ⟨e, he, h⟩ := cE_eq
  have hm : msq (fun k => (x k : EReal)) = (((∑ k, x k * x k) * (1 / 2048) + e : ℝ) : EReal) := by
    rw [msq, div_cN, h, EReal.coe_add, EReal.coe_mul, SoftmaxReal.coe_sum]
    simp only [EReal.coe_mul]
  have hp : 0 < (∑ k, x k * x k) * (1 / 2048) + e := by
    have : 0 ≤ ∑ k, x k * x k := Finset.sum_nonneg fun k _ => mul_self_nonneg _
    positivity
  refine ⟨_, hp, hm, ?_⟩
  rw [inv, hm]
  show (if _ then _ else if _ then _ else _) = _
  rw [if_neg (not_lt.2 hp.le), if_neg hp.ne']

/-- A sum of extended reals times a real number that is not negative. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A real number that is not negative times a difference. -/
theorem real_mul_sub (r : ℝ) (hr : 0 ≤ r) (a b : EReal) : (r : EReal) * (a - b) = (r : EReal) * a - (r : EReal) * b := by
  rw [sub_eq_add_neg, EReal.left_distrib_of_nonneg_of_ne_top (by exact_mod_cast hr) (EReal.coe_ne_top r), mul_neg, ← sub_eq_add_neg]

/-- Twice a negative multiple. -/
theorem neg_twice (t : EReal) (b : ℝ) (hb : 0 < b) : t * ((-b : ℝ) : EReal) + t * ((-b : ℝ) : EReal) = -(t * ((2 * b : ℝ) : EReal)) := by
  have hb2 : 0 < 2 * b := by linarith
  induction t with
  | bot => rw [EReal.bot_mul_coe_of_neg (by linarith), EReal.bot_mul_coe_of_pos hb2]; rfl
  | top => rw [EReal.top_mul_coe_of_neg (by linarith), EReal.top_mul_coe_of_pos hb2]; rfl
  | coe t => norm_cast; ring

/-- The two forms agree. -/
theorem byDifference_eq (x d : Fin n → EReal) (j : Fin n) : byDifference x d j = byFactors x d j := by
  by_cases hx : ∃ k, x k = ⊤ ∨ x k = ⊥
  · obtain ⟨k, hk⟩ := hx
    obtain ⟨hm, hr⟩ := inv_infinite x k hk
    have ht : through x d = 0 := by
      have h0 : Ideal.div (0 : EReal) ⊤ = 0 := by
        rw [Ideal.div, if_neg EReal.top_ne_zero, zero_mul]
      rw [through, hr, hm, h0, mul_zero, mul_zero, div_cN, zero_mul]
    rw [byDifference, byFactors, hr, ht, zero_mul, mul_zero, mul_zero, zero_mul, add_zero, add_zero]
  · have hr : ∀ k, ∃ a : ℝ, x k = (a : EReal) := fun k => by
      have h := not_exists.1 hx k
      exact ⟨_, (EReal.coe_toReal (fun e => h (.inl e)) (fun e => h (.inr e))).symm⟩
    choose a ha using hr
    obtain rfl : x = fun k => (a k : EReal) := funext ha
    obtain ⟨m, hm, em, er⟩ := inv_real a
    have hs : 0 < Real.sqrt m := Real.sqrt_pos.2 hm
    have hmm : Real.sqrt m * Real.sqrt m = m := Real.mul_self_sqrt hm.le
    have hq : ∑ k, d k * ((a k : EReal) * (((Real.sqrt m)⁻¹ : ℝ) : EReal))
        = (∑ k, (a k : EReal) * d k) * (((Real.sqrt m)⁻¹ : ℝ) : EReal) := by
      rw [sum_mul_real _ _ _ (inv_pos.2 hs).le]
      exact Finset.sum_congr rfl fun k _ => by ac_rfl
    rw [byDifference, byFactors, through, em, er, hq, div_cN, div_cN, Ideal.div_coe hm.ne', cH_eq]
    generalize ∑ k, (a k : EReal) * d k = q
    rw [real_mul_sub _ (inv_pos.2 hs).le]
    have e1 : (((Real.sqrt m)⁻¹ : ℝ) : EReal) * ((a j : EReal) * (((Real.sqrt m)⁻¹ : ℝ) : EReal) * (q * (((Real.sqrt m)⁻¹ : ℝ) : EReal) * ((1 / 2048 : ℝ) : EReal)))
        = ((a j : EReal) * q) * ((2 * (1 / 2 * ((Real.sqrt m)⁻¹ * (1 / m)) * (1 / 2048)) : ℝ) : EReal) := by
      have : (2 * (1 / 2 * ((Real.sqrt m)⁻¹ * (1 / m)) * (1 / 2048)) : ℝ) = (Real.sqrt m)⁻¹ * (Real.sqrt m)⁻¹ * (Real.sqrt m)⁻¹ * (1 / 2048) := by
        rw [show (1 / m : ℝ) = (Real.sqrt m)⁻¹ * (Real.sqrt m)⁻¹ by rw [← mul_inv, hmm, one_div]]; ring
      rw [this, EReal.coe_mul, EReal.coe_mul, EReal.coe_mul]
      ac_rfl
    have e2 : (a j : EReal) * (q * (((-(1 / 2) : ℝ) : EReal) * ((((Real.sqrt m)⁻¹ : ℝ) : EReal) * ((1 / m : ℝ) : EReal))) * ((1 / 2048 : ℝ) : EReal))
        = ((a j : EReal) * q) * ((-(1 / 2 * ((Real.sqrt m)⁻¹ * (1 / m)) * (1 / 2048)) : ℝ) : EReal) := by
      have : (-(1 / 2 * ((Real.sqrt m)⁻¹ * (1 / m)) * (1 / 2048)) : ℝ) = -(1 / 2) * ((Real.sqrt m)⁻¹ * (1 / m)) * (1 / 2048) := by ring
      rw [this, EReal.coe_mul, EReal.coe_mul, EReal.coe_mul]
      ac_rfl
    rw [e1, mul_comm _ (a j : EReal), e2, add_assoc, neg_twice _ _ (by positivity), mul_comm _ (d j), sub_eq_add_neg]

end NormGrad

end
-- ==== Proof.InSpec.lean ====
/-
  The input projection `z = norm(x) · w` and its gradients, entry by entry, over extended reals.

  A token's row `x` is normalised to `x · r · g`, with `r` the inverse root of the row's mean square.  The cotangent of `z` comes in
  five pieces of 1024, 1536, 512, 512 and 768 columns.
-/
module

public import proofs.«01_k».proof.Proof.NormGrad
public import proofs.«01_k».proof.Proof.FfnTile

@[expose] public section

noncomputable section

open Idealize.ShloMosaic

namespace InSpec

open NormGrad FfnTile

/-- The weight; the cotangent's pieces. -/
abbrev SW : Shape := ⟨2, ![2048, 4352]⟩
abbrev SA : Shape := ⟨2, ![4096, 1024]⟩
abbrev SB : Shape := ⟨2, ![4096, 1536]⟩
abbrev SC : Shape := ⟨2, ![4096, 512]⟩
abbrev SE : Shape := ⟨2, ![4096, 768]⟩

/-- The transposed weight, as the kernels hold it; the projection. -/
abbrev SV : Shape := ⟨2, ![4352, 2048]⟩
abbrev SZ : Shape := ⟨2, ![4096, 4352]⟩

/-- A row of a matrix. -/
def row {a b : ℕ} (x : (⟨2, ![a, b]⟩ : Shape).Idx → EReal) (t : Fin a) : Fin b → EReal := fun k => x (ix2 t k)

/-- Multiplication, at a fixed type. -/
abbrev mulE (a b : EReal) : EReal := a * b

/-- Rows times the rows of the transposed weight. -/
def project (h : ST.Idx → EReal) (v : SV.Idx → EReal) : SZ.Idx → EReal := fun i => ∑ k : Fin 2048, h (ix2 (i 0) k) * v (ix2 (i 1) k)

/-- A normalised row. -/
def normAt (x g : Fin 2048 → EReal) (d : Fin 2048) : EReal := x d * inv x * g d

/-- A row in five pieces. -/
def five (a : Fin 1024 → EReal) (b : Fin 1536 → EReal) (p q : Fin 512 → EReal) (e : Fin 768 → EReal) (n : Fin 4352) : EReal :=
  if h : n.val < 1024 then a ⟨n.val, h⟩
  else if h : n.val < 2560 then b ⟨n.val - 1024, by omega⟩
  else if h : n.val < 3072 then p ⟨n.val - 2560, by omega⟩
  else if h : n.val < 3584 then q ⟨n.val - 3072, by omega⟩
  else e ⟨n.val - 3584, by omega⟩

/-- Its product with a column, piece by piece. -/
def dot5 (a : Fin 1024 → EReal) (b : Fin 1536 → EReal) (p q : Fin 512 → EReal) (e : Fin 768 → EReal) (v : Fin 4352 → EReal) : EReal :=
  (∑ k : Fin 1024, a k * v ⟨k.val, by omega⟩) + (∑ k : Fin 1536, b k * v ⟨1024 + k.val, by omega⟩)
    + (∑ k : Fin 512, p k * v ⟨2560 + k.val, by omega⟩) + (∑ k : Fin 512, q k * v ⟨3072 + k.val, by omega⟩)
    + ∑ k : Fin 768, e k * v ⟨3584 + k.val, by omega⟩

section pieces

variable (a : Fin 1024 → EReal) (b : Fin 1536 → EReal) (p q : Fin 512 → EReal) (e : Fin 768 → EReal)

theorem five_a (k : Fin 1024) : five a b p q e ⟨k.val, by omega⟩ = a k := by
  have := k.isLt
  rw [five, dif_pos (show k.val < 1024 by omega)]

theorem five_b (k : Fin 1536) : five a b p q e ⟨1024 + k.val, by omega⟩ = b k := by
  have := k.isLt
  rw [five, dif_neg (show ¬1024 + k.val < 1024 by omega), dif_pos (show 1024 + k.val < 2560 by omega)]
  exact congrArg b (Fin.ext (by show 1024 + k.val - 1024 = k.val; omega))

theorem five_p (k : Fin 512) : five a b p q e ⟨2560 + k.val, by omega⟩ = p k := by
  have := k.isLt
  rw [five, dif_neg (show ¬2560 + k.val < 1024 by omega), dif_neg (show ¬2560 + k.val < 2560 by omega), dif_pos (show 2560 + k.val < 3072 by omega)]
  exact congrArg p (Fin.ext (by show 2560 + k.val - 2560 = k.val; omega))

theorem five_q (k : Fin 512) : five a b p q e ⟨3072 + k.val, by omega⟩ = q k := by
  have := k.isLt
  rw [five, dif_neg (show ¬3072 + k.val < 1024 by omega), dif_neg (show ¬3072 + k.val < 2560 by omega), dif_neg (show ¬3072 + k.val < 3072 by omega),
    dif_pos (show 3072 + k.val < 3584 by omega)]
  exact congrArg q (Fin.ext (by show 3072 + k.val - 3072 = k.val; omega))

theorem five_e (k : Fin 768) : five a b p q e ⟨3584 + k.val, by omega⟩ = e k := by
  have := k.isLt
  rw [five, dif_neg (show ¬3584 + k.val < 1024 by omega), dif_neg (show ¬3584 + k.val < 2560 by omega), dif_neg (show ¬3584 + k.val < 3072 by omega),
    dif_neg (show ¬3584 + k.val < 3584 by omega)]
  exact congrArg e (Fin.ext (by show 3584 + k.val - 3584 = k.val; omega))

/-- A sum over all columns, piece by piece. -/
theorem sum_pieces (f : Fin 4352 → EReal) : ∑ n, f n
    = (∑ k : Fin 1024, f ⟨k.val, by omega⟩) + (∑ k : Fin 1536, f ⟨1024 + k.val, by omega⟩) + (∑ k : Fin 512, f ⟨2560 + k.val, by omega⟩)
      + (∑ k : Fin 512, f ⟨3072 + k.val, by omega⟩) + ∑ k : Fin 768, f ⟨3584 + k.val, by omega⟩ := by
  have h4 := Fin.sum_univ_add (a := 3584) (b := 768) f
  have h3 := Fin.sum_univ_add (a := 3072) (b := 512) fun k => f (Fin.castAdd 768 k)
  have h2 := Fin.sum_univ_add (a := 2560) (b := 512) fun k => f (Fin.castAdd 768 (Fin.castAdd 512 k))
  have h1 := Fin.sum_univ_add (a := 1024) (b := 1536) fun k => f (Fin.castAdd 768 (Fin.castAdd 512 (Fin.castAdd 512 k)))
  exact h4.trans (congrArg (· + _) (h3.trans (congrArg (· + _) (h2.trans (congrArg (· + _) h1)))))

theorem sum_five (v : Fin 4352 → EReal) : ∑ n, five a b p q e n * v n = dot5 a b p q e v := by
  rw [sum_pieces]
  unfold dot5
  simp only [five_a, five_b, five_p, five_q, five_e]

end pieces

variable (x : ST.Idx → EReal) (g : Fin 2048 → EReal) (w : SW.Idx → EReal)

/-- The normalised tokens, and the projection. -/
def Norm (t : Fin 4096) (k : Fin 2048) : EReal := normAt (row x t) g k
def Proj (t : Fin 4096) (n : Fin 4352) : EReal := ∑ k : Fin 2048, Norm x g t k * w (ix2 k n)

variable (a : SA.Idx → EReal) (b : SB.Idx → EReal) (p q : SC.Idx → EReal) (e : SE.Idx → EReal)

/-- The projection's cotangent. -/
def Ct (t : Fin 4096) (n : Fin 4352) : EReal := five (row a t) (row b t) (row p t) (row q t) (row e t) n

/-- The cotangent's columns in each piece. -/
theorem Ct_a (t : Fin 4096) (n : Fin 4352) (h1 : n.val < 1024) : Ct a b p q e t n = a (ix2 t ⟨n.val, by omega⟩) := by
  rw [Ct, five, dif_pos (show n.val < 1024 by omega)]
  rfl

theorem Ct_b (t : Fin 4096) (n : Fin 4352) (h0 : 1024 ≤ n.val) (h1 : n.val < 2560) : Ct a b p q e t n = b (ix2 t ⟨n.val - 1024, by omega⟩) := by
  rw [Ct, five, dif_neg (show ¬n.val < 1024 by omega), dif_pos (show n.val < 2560 by omega)]
  rfl

theorem Ct_p (t : Fin 4096) (n : Fin 4352) (h0 : 2560 ≤ n.val) (h1 : n.val < 3072) : Ct a b p q e t n = p (ix2 t ⟨n.val - 2560, by omega⟩) := by
  rw [Ct, five, dif_neg (show ¬n.val < 1024 by omega), dif_neg (show ¬n.val < 2560 by omega), dif_pos (show n.val < 3072 by omega)]
  rfl

theorem Ct_q (t : Fin 4096) (n : Fin 4352) (h0 : 3072 ≤ n.val) (h1 : n.val < 3584) : Ct a b p q e t n = q (ix2 t ⟨n.val - 3072, by omega⟩) := by
  rw [Ct, five, dif_neg (show ¬n.val < 1024 by omega), dif_neg (show ¬n.val < 2560 by omega), dif_neg (show ¬n.val < 3072 by omega), dif_pos (show n.val < 3584 by omega)]
  rfl

theorem Ct_e (t : Fin 4096) (n : Fin 4352) (h0 : 3584 ≤ n.val) : Ct a b p q e t n = e (ix2 t ⟨n.val - 3584, by omega⟩) := by
  rw [Ct, five, dif_neg (show ¬n.val < 1024 by omega), dif_neg (show ¬n.val < 2560 by omega), dif_neg (show ¬n.val < 3072 by omega), dif_neg (show ¬n.val < 3584 by omega)]
  rfl

/-- The gradient at the normalised tokens, piece by piece. -/
def GradN (t : Fin 4096) (k : Fin 2048) : EReal := dot5 (row a t) (row b t) (row p t) (row q t) (row e t) fun n => w (ix2 k n)

theorem GradN_eq (t : Fin 4096) (k : Fin 2048) : ∑ n : Fin 4352, Ct a b p q e t n * w (ix2 k n) = GradN w a b p q e t k := sum_five _ _ _ _ _ _

/-- The weight's gradient, transposed, from any factor. -/
def weigh (h : ST.Idx → EReal) : SV.Idx → EReal := fun i => ∑ t : Fin 4096, Ct a b p q e t (i 0) * h (ix2 t (i 1))

/-- The gradients of the weight, of the scale and of the tokens. -/
def GradW (k : Fin 2048) (n : Fin 4352) : EReal := ∑ t : Fin 4096, Ct a b p q e t n * Norm x g t k
def GradG (k : Fin 2048) : EReal := ∑ t : Fin 4096, GradN w a b p q e t k * (x (ix2 t k) * inv (row x t))
def GradX (d : ST.Idx → EReal) (t : Fin 4096) (k : Fin 2048) : EReal :=
  d (ix2 t k) + byDifference (row x t) (fun j => GradN w a b p q e t j * g j) k

end InSpec

end
-- ==== Proof.InForward.lean ====
/-
  The launches of the norm and of the input projection.
-/
module

public import proofs.«01_k».proof.Proof.Gen.Kernel3Ideal.Frame
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen FfnTile InSpec NormGrad

variable (V : (c : Dev nD) → (b : Ref sig .tc) → Buf (Elt Ideal) ((c : Thread nD τ).loc b)) (c : Dev nD)

/-! ## The norm: 256 tokens a tile -/

theorem norm_block (x0 : Vec Ideal S256x2048 .f32) (x1 : Vec Ideal S1x2048 .f32) (y : S256x2048.Idx) :
    out0_2 x0 x1 y = normAt (fun k => x0 (ix2 (y 0) k)) (fun k => x1 (ix2 0 k)) (y 1) := by
  obtain ⟨r, d, rfl⟩ : ∃ (r : Fin 256) (d : Fin 2048), y = ix2 r d := ⟨_, _, eq_ix2 y⟩
  unfold out0_2 r0_0 r0_1
  rw [View.canon_unit_zero (by funext a; fin_cases a <;> rfl)]
  open_payloads
  pointwise []
  rfl

theorem idx0 : ∀ t : Fin cfg0.N, win0_0.index t = ![t.val, 0] ∧ win0_1.index t = ![0, 0] ∧ win0_2.index t = ![t.val, 0] :=
  (by decide +kernel : ∀ t : Fin grid0.N, _)

theorem read0_0 (t : Fin cfg0.N) (ht : t.val < 16) (p : Fin 256) (k : Fin 2048) :
    iblk0 V c 0 t (ix2 p k) = V c main_arg0 (ix2 ⟨t.val * 256 + p.val, by omega⟩ k) := by
  blk_ext [iblk0, idx0 t]

theorem read0_1 (t : Fin cfg0.N) (k : Fin 2048) : iblk0 V c 1 t (ix2 0 k) = V c main_v2 (ix2 0 k) := by
  blk_ext [iblk0, idx0 t]

theorem final_norm : (dat0 V c).arrAt 2 cfg0.N = fun i : ST.Idx => Norm (V c main_arg0) (fun k => V c main_v2 (ix2 0 k)) (i 0) (i 1) := by
  refine (dat0 V c).arrAt_eq_of_covers 2 _ (by decide +kernel) fun t hf y => ?_
  blk_simp
  rw [after0_2, norm_block]
  have ht : t.val < 16 := t.isLt
  refine Eq.trans ?_ (congrArg (fun i : ST.Idx => Norm (V c main_arg0) (fun k => V c main_v2 (ix2 0 k)) (i 0) (i 1))
    (ext2 (a := (⟨t.val * 256 + (y 0).val, ?_⟩ : Fin 4096)) (b := (y 1 : Fin 2048)) ?_ ?_).symm)
  · exact congr2 (fun u v => normAt u v (y 1 : Fin 2048)) (funext fun k => read0_0 V c t ht (y 0) k) (funext fun k => read0_1 V c t k)
  all_goals (try blk_simp [idx0 t]) <;> idx_bounds y <;> omega

/-! ## The projection: 512 tokens by 2176 columns a tile -/

theorem proj_block (x0 : Vec Ideal S512x2048 .bf16) (x1 : Vec Ideal S2176x2048 .bf16) (y : S512x2176.Idx) :
    out1_2 x0 x1 y = ∑ k : Fin 2048, x0 (ix2 (y 0) k) * x1 (ix2 (y 1) k) := by
  obtain ⟨r, d, rfl⟩ : ∃ (r : Fin 512) (d : Fin 2176), y = ix2 r d := ⟨_, _, eq_ix2 y⟩
  unfold out1_2 r1_0 r1_1 r1_2
  rw [View.canon_unit_zero (by funext a; fin_cases a <;> rfl)]
  open_payloads
  pointwise []

theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

theorem final_proj : (dat1 V c).arrAt 2 cfg1.N
    = project (V c main_v3) (V c main_v1) := by
  refine (dat1 V c).arrAt_eq_of_covers 2 _ (by decide +kernel) fun t hf y => ?_
  blk_simp
  rw [after1_2, proj_block]
  have ht : t.val < 16 := t.isLt
  refine sum_mul_congr (fun k => ?_) fun k => ?_
  all_goals blk_ext [iblk1, idx1 t]

end Cert.Kernel3Ideal.In

end
-- ==== Proof.InWeight.lean ====
/-
  The launch of the projection's weight gradient: 256 of the 4352 columns a tile, from the cotangent's piece they lie in.
-/
module

public import proofs.«01_k».proof.Proof.Gen.Kernel3Ideal.Frame
public import proofs.«01_k».proof.Proof.InSpec

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen FfnTile InSpec NormGrad

variable (V : (c : Dev nD) → (b : Ref sig .tc) → Buf (Elt Ideal) ((c : Thread nD τ).loc b)) (c : Dev nD)

theorem dw_A (t : Fin cfg2.N) (h : t.val < 4) (y : S256x2048.Idx) : outsAt2 V c t.val t.isLt y
    = ∑ k : Fin 4096, mulE (iblk2 V c 0 t (ix2 k (y 0))) (iblk2 V c 5 t (ix2 k (y 1))) := by
  obtain ⟨r, d, rfl⟩ : ∃ (r : Fin 256) (d : Fin 2048), y = ix2 r d := ⟨_, _, eq_ix2 y⟩
  have ht : t.val < 17 := t.isLt
  rw [outsAt2_A V c t (by omega) (by omega) (by omega) (by omega) (by omega)]
  frame_out
  open_payloads
  pointwise []

theorem dw_B (t : Fin cfg2.N) (h : 4 ≤ t.val % 17 ∧ t.val % 17 ≤ 9) (y : S256x2048.Idx) : outsAt2 V c t.val t.isLt y
    = ∑ k : Fin 4096, mulE (iblk2 V c 1 t (ix2 k (y 0))) (iblk2 V c 5 t (ix2 k (y 1))) := by
  obtain ⟨r, d, rfl⟩ : ∃ (r : Fin 256) (d : Fin 2048), y = ix2 r d := ⟨_, _, eq_ix2 y⟩
  have ht : t.val < 17 := t.isLt
  rw [outsAt2_B V c t (by omega) (by omega) (by omega) (by omega) (by omega)]
  frame_out
  open_payloads
  pointwise []

theorem dw_C (t : Fin cfg2.N) (h : 10 ≤ t.val % 17 ∧ t.val % 17 ≤ 11) (y : S256x2048.Idx) : outsAt2 V c t.val t.isLt y
    = ∑ k : Fin 4096, mulE (iblk2 V c 2 t (ix2 k (y 0))) (iblk2 V c 5 t (ix2 k (y 1))) := by
  obtain ⟨r, d, rfl⟩ : ∃ (r : Fin 256) (d : Fin 2048), y = ix2 r d := ⟨_, _, eq_ix2 y⟩
  have ht : t.val < 17 := t.isLt
  rw [outsAt2_C V c t (by omega) (by omega) (by omega) (by omega) (by omega)]
  frame_out
  open_payloads
  pointwise []

theorem dw_D (t : Fin cfg2.N) (h : 12 ≤ t.val % 17 ∧ t.val % 17 ≤ 13) (y : S256x2048.Idx) : outsAt2 V c t.val t.isLt y
    = ∑ k : Fin 4096, mulE (iblk2 V c 3 t (ix2 k (y 0))) (iblk2 V c 5 t (ix2 k (y 1))) := by
  obtain ⟨r, d, rfl⟩ : ∃ (r : Fin 256) (d : Fin 2048), y = ix2 r d := ⟨_, _, eq_ix2 y⟩
  have ht : t.val < 17 := t.isLt
  rw [outsAt2_D V c t (by omega) (by omega) (by omega) (by omega) (by omega)]
  frame_out
  open_payloads
  pointwise []

theorem dw_E (t : Fin cfg2.N) (h : 14 ≤ t.val) (y : S256x2048.Idx) : outsAt2 V c t.val t.isLt y
    = ∑ k : Fin 4096, mulE (iblk2 V c 4 t (ix2 k (y 0))) (iblk2 V c 5 t (ix2 k (y 1))) := by
  obtain ⟨r, d, rfl⟩ : ∃ (r : Fin 256) (d : Fin 2048), y = ix2 r d := ⟨_, _, eq_ix2 y⟩
  have ht : t.val < 17 := t.isLt
  rw [outsAt2_E V c t (by omega) (by omega) (by omega) (by omega) (by omega)]
  frame_out
  open_payloads
  pointwise []

theorem idx2 : ∀ t : Fin cfg2.N, win2_0.index t = ![0, min t.val 3] ∧ win2_1.index t = ![0, min (t.val - 4) 5] ∧ win2_2.index t = ![0, min (t.val - 10) 1]
    ∧ win2_3.index t = ![0, min (t.val - 12) 1] ∧ win2_4.index t = ![0, min (t.val - 14) 2] ∧ win2_5.index t = ![0, 0] ∧ win2_6.index t = ![t.val, 0] :=
  (by decide +kernel : ∀ t : Fin grid2.N, _)

theorem read2_0 (t : Fin cfg2.N) (h1 : t.val < 4) (k : Fin 4096) (r : Fin 256) :
    iblk2 V c 0 t (ix2 k r) = V c main_arg3 (ix2 k ⟨t.val * 256 + r.val, by omega⟩) := by
  blk_ext [iblk2, idx2 t]

theorem read2_1 (t : Fin cfg2.N) (h0 : 4 ≤ t.val) (h1 : t.val < 10) (k : Fin 4096) (r : Fin 256) :
    iblk2 V c 1 t (ix2 k r) = V c main_arg4 (ix2 k ⟨t.val * 256 + r.val - 1024, by omega⟩) := by
  blk_ext [iblk2, idx2 t]

theorem read2_2 (t : Fin cfg2.N) (h0 : 10 ≤ t.val) (h1 : t.val < 12) (k : Fin 4096) (r : Fin 256) :
    iblk2 V c 2 t (ix2 k r) = V c main_arg5 (ix2 k ⟨t.val * 256 + r.val - 2560, by omega⟩) := by
  blk_ext [iblk2, idx2 t]

theorem read2_3 (t : Fin cfg2.N) (h0 : 12 ≤ t.val) (h1 : t.val < 14) (k : Fin 4096) (r : Fin 256) :
    iblk2 V c 3 t (ix2 k r) = V c main_arg6 (ix2 k ⟨t.val * 256 + r.val - 3072, by omega⟩) := by
  blk_ext [iblk2, idx2 t]

theorem read2_4 (t : Fin cfg2.N) (h0 : 14 ≤ t.val) (h1 : t.val < 17) (k : Fin 4096) (r : Fin 256) :
    iblk2 V c 4 t (ix2 k r) = V c main_arg7 (ix2 k ⟨t.val * 256 + r.val - 3584, by omega⟩) := by
  blk_ext [iblk2, idx2 t]

theorem read2_5 (t : Fin cfg2.N) (k : Fin 4096) (d : Fin 2048) : iblk2 V c 5 t (ix2 k d) = V c main_v3 (ix2 k d) := by
  blk_ext [iblk2, idx2 t]

/-- A tile's entries, as entries of the whole gradient. -/
theorem dw_at (t : Fin cfg2.N) (ht : t.val < 17) (y : S256x2048.Idx) : outsAt2 V c t.val t.isLt y
    = weigh (V c main_arg3) (V c main_arg4) (V c main_arg5) (V c main_arg6) (V c main_arg7) (V c main_v3) (ix2 ⟨t.val * 256 + (y 0).val, by have h : (y 0).val < 256 := (y 0).isLt; omega⟩ (y 1)) := by
  obtain ⟨r, d, rfl⟩ : ∃ (r : Fin 256) (d : Fin 2048), y = ix2 r d := ⟨_, _, eq_ix2 y⟩
  by_cases h1 : t.val < 4
  · exact (dw_A V c t (by omega) (ix2 r d)).trans (sum_mul_congr (fun k => (read2_0 V c t (by omega) k r).trans
      (Ct_a (V c main_arg3) (V c main_arg4) (V c main_arg5) (V c main_arg6) (V c main_arg7) k ⟨t.val * 256 + r.val, by omega⟩ (by show t.val * 256 + r.val < _; omega)).symm) fun k => read2_5 V c t k d)
  by_cases h2 : t.val < 10
  · exact (dw_B V c t (by omega) (ix2 r d)).trans (sum_mul_congr (fun k => (read2_1 V c t (by omega) (by omega) k r).trans
      (Ct_b (V c main_arg3) (V c main_arg4) (V c main_arg5) (V c main_arg6) (V c main_arg7) k ⟨t.val * 256 + r.val, by omega⟩ (by show _ ≤ t.val * 256 + r.val; omega) (by show t.val * 256 + r.val < _; omega)).symm) fun k => read2_5 V c t k d)
  by_cases h3 : t.val < 12
  · exact (dw_C V c t (by omega) (ix2 r d)).trans (sum_mul_congr (fun k => (read2_2 V c t (by omega) (by omega) k r).trans
      (Ct_p (V c main_arg3) (V c main_arg4) (V c main_arg5) (V c main_arg6) (V c main_arg7) k ⟨t.val * 256 + r.val, by omega⟩ (by show _ ≤ t.val * 256 + r.val; omega) (by show t.val * 256 + r.val < _; omega)).symm) fun k => read2_5 V c t k d)
  by_cases h4 : t.val < 14
  · exact (dw_D V c t (by omega) (ix2 r d)).trans (sum_mul_congr (fun k => (read2_3 V c t (by omega) (by omega) k r).trans
      (Ct_q (V c main_arg3) (V c main_arg4) (V c main_arg5) (V c main_arg6) (V c main_arg7) k ⟨t.val * 256 + r.val, by omega⟩ (by show _ ≤ t.val * 256 + r.val; omega) (by show t.val * 256 + r.val < _; omega)).symm) fun k => read2_5 V c t k d)
  · exact (dw_E V c t (by omega) (ix2 r d)).trans (sum_mul_congr (fun k => (read2_4 V c t (by omega) (by omega) k r).trans
      (Ct_e (V c main_arg3) (V c main_arg4) (V c main_arg5) (V c main_arg6) (V c main_arg7) k ⟨t.val * 256 + r.val, by omega⟩ (by show _ ≤ t.val * 256 + r.val; omega)).symm) fun k => read2_5 V c t k d)

theorem final_weight : (dat2 V c).arrAt 6 cfg2.N
    = weigh (V c main_arg3) (V c main_arg4) (V c main_arg5) (V c main_arg6) (V c main_arg7) (V c main_v3) := by
  refine (dat2 V c).arrAt_eq_of_covers 6 _ (by decide +kernel) fun t hf y => ?_
  blk_simp
  rw [after2_6]
  have ht : t.val < 17 := t.isLt
  refine Eq.trans (dw_at V c t ht y) (congrArg (weigh (V c main_arg3) (V c main_arg4) (V c main_arg5) (V c main_arg6) (V c main_arg7) (V c main_v3)) (ext2 ?_ ?_).symm)
  all_goals (try blk_simp [idx2 t]) <;> idx_bounds y <;> omega

end Cert.Kernel3Ideal.In

end
-- ==== Proof.InInput.lean ====
/-
  The launch of the gradients of the tokens and of the norm's scale: 256 tokens a tile, the scale's gradient summed over the tiles.
-/
module

public import proofs.«01_k».proof.Proof.Gen.Kernel3Ideal.Frame
public import proofs.«01_k».proof.Proof.InSpec
public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen FfnTile InSpec NormGrad

variable (V : (c : Dev nD) → (b : Ref sig .tc) → Buf (Elt Ideal) ((c : Thread nD τ).loc b)) (c : Dev nD)

/-! ## One tile of 256 tokens -/

/-- The gradient at the normalised tokens, in a tile. -/
def dhB (x0 : S256x1024.Idx → EReal) (x1 : S256x1536.Idx → EReal) (x2 x3 : S256x512.Idx → EReal) (x4 : S256x768.Idx → EReal) (x5 : S4352x2048.Idx → EReal)
    (r : Fin 256) (d : Fin 2048) : EReal :=
  dot5 (fun k => x0 (ix2 r k)) (fun k => x1 (ix2 r k)) (fun k => x2 (ix2 r k)) (fun k => x3 (ix2 r k)) (fun k => x4 (ix2 r k)) fun n => x5 (ix2 n d)

theorem pay7_apply (v3 : Vec Ideal S256x1024 .bf16) (v4 : Vec Ideal S1024x2048 .bf16) (v7 : Vec Ideal S256x1536 .bf16) (v8 : Vec Ideal S1536x2048 .bf16)
    (v12 : Vec Ideal S256x512 .bf16) (v13 : Vec Ideal S512x2048 .bf16) (v17 : Vec Ideal S256x512 .bf16) (v18 : Vec Ideal S512x2048 .bf16)
    (v22 : Vec Ideal S256x768 .bf16) (v23 : Vec Ideal S768x2048 .bf16) (r : Fin 256) (d : Fin 2048) :
    k3_pay7 v3 v4 v7 v8 v12 v13 v17 v18 v22 v23 (ix2 r d)
      = (∑ k : Fin 1024, mulE (v3 (ix2 r k)) (v4 (ix2 k d))) + (∑ k : Fin 1536, mulE (v7 (ix2 r k)) (v8 (ix2 k d)))
        + (∑ k : Fin 512, mulE (v12 (ix2 r k)) (v13 (ix2 k d))) + (∑ k : Fin 512, mulE (v17 (ix2 r k)) (v18 (ix2 k d)))
        + ∑ k : Fin 768, mulE (v22 (ix2 r k)) (v23 (ix2 k d)) := by
  unfold k3_pay7
  pointwise []

theorem pay1_apply (x : FVec Ideal S256x2048 .f32) (r : Fin 256) :
    k3_pay1 (mulf x x) (ix2 r 0) = inv (fun k => x (ix2 r k)) := by
  unfold k3_pay1
  pointwise []
  rfl

theorem pay2_apply (x : FVec Ideal S256x2048 .f32) (r : Fin 256) (d : Fin 2048) :
    k3_pay2 x (mulf x x) (ix2 r d) = mulE (x (ix2 r d)) (inv (fun k => x (ix2 r k))) := by
  have e : k3_pay2 x (mulf x x) (ix2 r d) = mulE (x (ix2 r d)) (k3_pay1 (mulf x x) (ix2 r 0)) := by
    unfold k3_pay2
    pointwise []
  rw [e, pay1_apply]

theorem pay3_apply (h x d : FVec Ideal S256x2048 .f32) (g : Vec Ideal S1x2048 .f32) (r : Fin 256) (j : Fin 2048) :
    k3_pay3 h x (mulf x x) g d (ix2 r j)
      = d (ix2 r j) + byDifference (fun k => x (ix2 r k)) (fun k => mulE (h (ix2 r k)) (g (ix2 0 k))) j := by
  have e : k3_pay3 h x (mulf x x) g d (ix2 r j) = d (ix2 r j) + k3_pay1 (mulf x x) (ix2 r 0)
      * (mulE (h (ix2 r j)) (g (ix2 0 j)) - k3_pay2 x (mulf x x) (ix2 r j)
        * Ideal.div (∑ k : Fin 2048, mulE (h (ix2 r k)) (g (ix2 0 k)) * k3_pay2 x (mulf x x) (ix2 r k)) cN) := by
    unfold k3_pay3
    generalize k3_pay2 x (mulf x x) = y
    generalize k3_pay1 (mulf x x) = z
    pointwise []
  rw [e]
  simp only [pay1_apply, pay2_apply]
  rfl

theorem pay5_apply (h x : FVec Ideal S256x2048 .f32) (g : Vec Ideal S1x2048 .f32) (j : Fin 2048) :
    k3_pay5 h x (mulf x x) g (ix2 0 j)
      = g (ix2 0 j) + ∑ r : Fin 256, mulE (h (ix2 r j)) (mulE (x (ix2 r j)) (inv (fun k => x (ix2 r k)))) := by
  have e : k3_pay5 h x (mulf x x) g (ix2 0 j)
      = g (ix2 0 j) + ∑ r : Fin 256, mulE (h (ix2 r j)) (k3_pay2 x (mulf x x) (ix2 r j)) := by
    unfold k3_pay5
    generalize k3_pay2 x (mulf x x) = y
    pointwise []
  rw [e]
  simp only [pay2_apply]

/-- A tile's new rows, and its part of the scale's gradient. -/
def dxB (x0 : S256x1024.Idx → EReal) (x1 : S256x1536.Idx → EReal) (x2 x3 : S256x512.Idx → EReal) (x4 : S256x768.Idx → EReal) (x5 : S4352x2048.Idx → EReal)
    (x6 : S256x2048.Idx → EReal) (x7 : S1x2048.Idx → EReal) (x8 : S256x2048.Idx → EReal) (r : Fin 256) (d : Fin 2048) : EReal :=
  x8 (ix2 r d) + byDifference (fun k => x6 (ix2 r k)) (fun k => mulE (dhB x0 x1 x2 x3 x4 x5 r k) (x7 (ix2 0 k))) d

def dgB (x0 : S256x1024.Idx → EReal) (x1 : S256x1536.Idx → EReal) (x2 x3 : S256x512.Idx → EReal) (x4 : S256x768.Idx → EReal) (x5 : S4352x2048.Idx → EReal)
    (x6 : S256x2048.Idx → EReal) (d : Fin 2048) : EReal :=
  ∑ r : Fin 256, mulE (dhB x0 x1 x2 x3 x4 x5 r d) (mulE (x6 (ix2 r d)) (inv (fun k => x6 (ix2 r k))))

/-- A slice of the weight's rows. -/
theorem slice_apply {n o : ℕ} (x : Vec Ideal S4352x2048 .bf16) (h : ∀ a, (![o, 0] : Fin 2 → ℕ) a + (![n, 2048] : Fin 2 → ℕ) a ≤ S4352x2048.size a)
    (k : Fin n) (d : Fin 2048) (hk : o + k.val < 4352) :
    View.ld x (Rect.unit (s := S4352x2048) ![o, 0] ![n, 2048] h) (ix2 k d) = x (ix2 ⟨o + k.val, hk⟩ d) := by
  rw [View.ld_apply]
  exact congrArg x (ext2 (by rw [Rect.idx_unit_val]; rfl) (by rw [Rect.idx_unit_val]; exact Nat.zero_add _))

theorem add5_congr {a b c d e a' b' c' d' e' : EReal} (ha : a = a') (hb : b = b') (hc : c = c') (hd : d = d') (he : e = e') :
    a + b + c + d + e = a' + b' + c' + d' + e' := by rw [ha, hb, hc, hd, he]

/-- The tile's product with the whole weight. -/
theorem dh_apply (x0 : Vec Ideal S256x1024 .bf16) (x1 : Vec Ideal S256x1536 .bf16) (x2 x3 : Vec Ideal S256x512 .bf16) (x4 : Vec Ideal S256x768 .bf16)
    (x5 : Vec Ideal S4352x2048 .bf16) (r : Fin 256) (d : Fin 2048) :
    k3_pay7 x0 (View.ld x5 (Rect.unit ![0, 0] ![1024, 2048] inb_S4352x2048_S1024x2048_0_0)) x1 (View.ld x5 (Rect.unit ![1024, 0] ![1536, 2048] inb_S4352x2048_S1536x2048_1024_0)) x2 (View.ld x5 (Rect.unit ![2560, 0] ![512, 2048] inb_S4352x2048_S512x2048_2560_0)) x3 (View.ld x5 (Rect.unit ![3072, 0] ![512, 2048] inb_S4352x2048_S512x2048_3072_0)) x4 (View.ld x5 (Rect.unit ![3584, 0] ![768, 2048] inb_S4352x2048_S768x2048_3584_0)) (ix2 r d)
      = dhB x0 x1 x2 x3 x4 x5 r d := by
  rw [pay7_apply]
  unfold dhB dot5
  refine add5_congr (sum_mul_congr (fun k => rfl) fun k => ?_) (sum_mul_congr (fun k => rfl) fun k => ?_) (sum_mul_congr (fun k => rfl) fun k => ?_)
    (sum_mul_congr (fun k => rfl) fun k => ?_) (sum_mul_congr (fun k => rfl) fun k => ?_)
  · exact (slice_apply x5 _ k d (by omega)).trans (congrArg x5 (ext2 (by show 0 + k.val = k.val; omega) rfl))
  all_goals exact slice_apply x5 _ k d (by omega)

theorem dx_block (t : Fin cfg3.N) (y : S256x2048.Idx) : (outsAt3 V c t.val t.isLt).1 y
    = dxB (iblk3 V c 0 t) (iblk3 V c 1 t) (iblk3 V c 2 t) (iblk3 V c 3 t) (iblk3 V c 4 t) (iblk3 V c 5 t) (iblk3 V c 6 t) (iblk3 V c 7 t) (iblk3 V c 8 t) (y 0) (y 1) := by
  obtain ⟨r, d, rfl⟩ : ∃ (r : Fin 256) (d : Fin 2048), y = ix2 r d := ⟨_, _, eq_ix2 y⟩
  by_cases h0 : t.val % 16 = 0
  · rw [outsAt3_A V c t h0]
    frame_out
    exact (pay3_apply _ _ _ _ r d).trans (congrArg (fun f => HAdd.hAdd (α := EReal) (iblk3 V c 8 t (ix2 r d)) (byDifference (fun k => iblk3 V c 6 t (ix2 r k)) f d))
      (funext fun k => congrArg (mulE · (iblk3 V c 7 t (ix2 0 k))) (dh_apply (iblk3 V c 0 t) (iblk3 V c 1 t) (iblk3 V c 2 t) (iblk3 V c 3 t) (iblk3 V c 4 t) (iblk3 V c 5 t) r k)))
  · rw [outsAt3_B V c t h0]
    frame_out
    exact (pay3_apply _ _ _ _ r d).trans (congrArg (fun f => HAdd.hAdd (α := EReal) (iblk3 V c 8 t (ix2 r d)) (byDifference (fun k => iblk3 V c 6 t (ix2 r k)) f d))
      (funext fun k => congrArg (mulE · (iblk3 V c 7 t (ix2 0 k))) (dh_apply (iblk3 V c 0 t) (iblk3 V c 1 t) (iblk3 V c 2 t) (iblk3 V c 3 t) (iblk3 V c 4 t) (iblk3 V c 5 t) r k)))

theorem dxb_block (t : Fin cfg3.N) (y : S256x2048.Idx) : (outsAt3 V c t.val t.isLt).2.1 y
    = dxB (iblk3 V c 0 t) (iblk3 V c 1 t) (iblk3 V c 2 t) (iblk3 V c 3 t) (iblk3 V c 4 t) (iblk3 V c 5 t) (iblk3 V c 6 t) (iblk3 V c 7 t) (iblk3 V c 8 t) (y 0) (y 1) := by
  obtain ⟨r, d, rfl⟩ : ∃ (r : Fin 256) (d : Fin 2048), y = ix2 r d := ⟨_, _, eq_ix2 y⟩
  by_cases h0 : t.val % 16 = 0
  · rw [outsAt3_A V c t h0]
    frame_out
    exact (pay3_apply _ _ _ _ r d).trans (congrArg (fun f => HAdd.hAdd (α := EReal) (iblk3 V c 8 t (ix2 r d)) (byDifference (fun k => iblk3 V c 6 t (ix2 r k)) f d))
      (funext fun k => congrArg (mulE · (iblk3 V c 7 t (ix2 0 k))) (dh_apply (iblk3 V c 0 t) (iblk3 V c 1 t) (iblk3 V c 2 t) (iblk3 V c 3 t) (iblk3 V c 4 t) (iblk3 V c 5 t) r k)))
  · rw [outsAt3_B V c t h0]
    frame_out
    exact (pay3_apply _ _ _ _ r d).trans (congrArg (fun f => HAdd.hAdd (α := EReal) (iblk3 V c 8 t (ix2 r d)) (byDifference (fun k => iblk3 V c 6 t (ix2 r k)) f d))
      (funext fun k => congrArg (mulE · (iblk3 V c 7 t (ix2 0 k))) (dh_apply (iblk3 V c 0 t) (iblk3 V c 1 t) (iblk3 V c 2 t) (iblk3 V c 3 t) (iblk3 V c 4 t) (iblk3 V c 5 t) r k)))

theorem dg_first (t : Fin cfg3.N) (h0 : t.val % 16 = 0) (d : Fin 2048) : (outsAt3 V c t.val t.isLt).2.2 (ix2 0 d)
    = dgB (iblk3 V c 0 t) (iblk3 V c 1 t) (iblk3 V c 2 t) (iblk3 V c 3 t) (iblk3 V c 4 t) (iblk3 V c 5 t) (iblk3 V c 6 t) d := by
  rw [outsAt3_A V c t h0]
  frame_out
  refine (pay5_apply _ _ _ d).trans ((congrArg (· + _) ?_).trans ((zero_add _).trans (Finset.sum_congr rfl fun r _ => congrArg (mulE · _) (dh_apply (iblk3 V c 0 t) (iblk3 V c 1 t) (iblk3 V c 2 t) (iblk3 V c 3 t) (iblk3 V c 4 t) (iblk3 V c 5 t) r d))))
  unfold k3_pay6
  pointwise []

theorem dg_next (t : Fin cfg3.N) (h0 : ¬t.val % 16 = 0) (d : Fin 2048) : (outsAt3 V c t.val t.isLt).2.2 (ix2 0 d)
    = (outsAt3 V c (t.val - 1) (by have := t.isLt; omega)).2.2 (ix2 0 d) + dgB (iblk3 V c 0 t) (iblk3 V c 1 t) (iblk3 V c 2 t) (iblk3 V c 3 t) (iblk3 V c 4 t) (iblk3 V c 5 t) (iblk3 V c 6 t) d := by
  rw [outsAt3_B V c t h0]
  frame_out
  exact (pay5_apply _ _ _ d).trans (congrArg (_ + ·) (Finset.sum_congr rfl fun r _ => congrArg (mulE · _) (dh_apply (iblk3 V c 0 t) (iblk3 V c 1 t) (iblk3 V c 2 t) (iblk3 V c 3 t) (iblk3 V c 4 t) (iblk3 V c 5 t) r d)))

/-! ## The whole arrays -/

theorem idx3 : ∀ t : Fin cfg3.N, win3_0.index t = ![t.val, 0] ∧ win3_1.index t = ![t.val, 0] ∧ win3_2.index t = ![t.val, 0]
    ∧ win3_3.index t = ![t.val, 0] ∧ win3_4.index t = ![t.val, 0] ∧ win3_5.index t = ![0, 0] ∧ win3_6.index t = ![t.val, 0]
    ∧ win3_7.index t = ![0, 0] ∧ win3_8.index t = ![t.val, 0] ∧ win3_9.index t = ![t.val, 0] ∧ win3_10.index t = ![t.val, 0]
    ∧ win3_11.index t = ![0, 0] :=
  (by decide +kernel : ∀ t : Fin grid3.N, _)

theorem read3_0 (t : Fin cfg3.N) (ht : t.val < 16) (p : Fin 256) (k : Fin 1024) :
    iblk3 V c 0 t (ix2 p k) = V c main_arg3 (ix2 ⟨t.val * 256 + p.val, by omega⟩ k) := by
  blk_ext [iblk3, idx3 t]

theorem read3_1 (t : Fin cfg3.N) (ht : t.val < 16) (p : Fin 256) (k : Fin 1536) :
    iblk3 V c 1 t (ix2 p k) = V c main_arg4 (ix2 ⟨t.val * 256 + p.val, by omega⟩ k) := by
  blk_ext [iblk3, idx3 t]

theorem read3_2 (t : Fin cfg3.N) (ht : t.val < 16) (p : Fin 256) (k : Fin 512) :
    iblk3 V c 2 t (ix2 p k) = V c main_arg5 (ix2 ⟨t.val * 256 + p.val, by omega⟩ k) := by
  blk_ext [iblk3, idx3 t]

theorem read3_3 (t : Fin cfg3.N) (ht : t.val < 16) (p : Fin 256) (k : Fin 512) :
    iblk3 V c 3 t (ix2 p k) = V c main_arg6 (ix2 ⟨t.val * 256 + p.val, by omega⟩ k) := by
  blk_ext [iblk3, idx3 t]

theorem read3_4 (t : Fin cfg3.N) (ht : t.val < 16) (p : Fin 256) (k : Fin 768) :
    iblk3 V c 4 t (ix2 p k) = V c main_arg7 (ix2 ⟨t.val * 256 + p.val, by omega⟩ k) := by
  blk_ext [iblk3, idx3 t]

theorem read3_5 (t : Fin cfg3.N) (n : Fin 4352) (k : Fin 2048) : iblk3 V c 5 t (ix2 n k) = V c main_v1 (ix2 n k) := by
  blk_ext [iblk3, idx3 t]

theorem read3_6 (t : Fin cfg3.N) (ht : t.val < 16) (p : Fin 256) (k : Fin 2048) :
    iblk3 V c 6 t (ix2 p k) = V c main_arg0 (ix2 ⟨t.val * 256 + p.val, by omega⟩ k) := by
  blk_ext [iblk3, idx3 t]

theorem read3_7 (t : Fin cfg3.N) (k : Fin 2048) : iblk3 V c 7 t (ix2 0 k) = V c main_v6 (ix2 0 k) := by
  blk_ext [iblk3, idx3 t]

theorem read3_8 (t : Fin cfg3.N) (ht : t.val < 16) (p : Fin 256) (k : Fin 2048) :
    iblk3 V c 8 t (ix2 p k) = V c main_arg8 (ix2 ⟨t.val * 256 + p.val, by omega⟩ k) := by
  blk_ext [iblk3, idx3 t]

/-- The gradient at the normalised tokens, from the transposed weight. -/
def dnV (t : Fin 4096) (d : Fin 2048) : EReal :=
  GradN (fun i => V c main_v1 (ix2 (i 1) (i 0))) (V c main_arg3) (V c main_arg4) (V c main_arg5) (V c main_arg6) (V c main_arg7) t d

theorem dhB_eq (t : Fin cfg3.N) (ht : t.val < 16) (p : Fin 256) (d : Fin 2048) :
    dhB (iblk3 V c 0 t) (iblk3 V c 1 t) (iblk3 V c 2 t) (iblk3 V c 3 t) (iblk3 V c 4 t) (iblk3 V c 5 t) p d = dnV V c ⟨t.val * 256 + p.val, by omega⟩ d := by
  unfold dhB dnV GradN
  rw [show (fun k => iblk3 V c 0 t (ix2 p k)) = row (V c main_arg3) ⟨t.val * 256 + p.val, by omega⟩ from funext fun k => read3_0 V c t ht p k,
    show (fun k => iblk3 V c 1 t (ix2 p k)) = row (V c main_arg4) ⟨t.val * 256 + p.val, by omega⟩ from funext fun k => read3_1 V c t ht p k,
    show (fun k => iblk3 V c 2 t (ix2 p k)) = row (V c main_arg5) ⟨t.val * 256 + p.val, by omega⟩ from funext fun k => read3_2 V c t ht p k,
    show (fun k => iblk3 V c 3 t (ix2 p k)) = row (V c main_arg6) ⟨t.val * 256 + p.val, by omega⟩ from funext fun k => read3_3 V c t ht p k,
    show (fun k => iblk3 V c 4 t (ix2 p k)) = row (V c main_arg7) ⟨t.val * 256 + p.val, by omega⟩ from funext fun k => read3_4 V c t ht p k,
    show (fun n => iblk3 V c 5 t (ix2 n d)) = fun n => V c main_v1 (ix2 n d) from funext fun n => read3_5 V c t n d]
  rfl

/-- The new rows' gradient. -/
def dxV (t : Fin 4096) (d : Fin 2048) : EReal :=
  HAdd.hAdd (α := EReal) (V c main_arg8 (ix2 t d)) (byDifference (row (V c main_arg0) t) (fun k => mulE (dnV V c t k) (V c main_v6 (ix2 0 k))) d)

theorem dxB_eq (t : Fin cfg3.N) (ht : t.val < 16) (p : Fin 256) (d : Fin 2048) :
    dxB (iblk3 V c 0 t) (iblk3 V c 1 t) (iblk3 V c 2 t) (iblk3 V c 3 t) (iblk3 V c 4 t) (iblk3 V c 5 t) (iblk3 V c 6 t) (iblk3 V c 7 t) (iblk3 V c 8 t) p d = dxV V c ⟨t.val * 256 + p.val, by omega⟩ d := by
  unfold dxB dxV
  rw [show (fun k => iblk3 V c 6 t (ix2 p k)) = row (V c main_arg0) ⟨t.val * 256 + p.val, by omega⟩ from funext fun k => read3_6 V c t ht p k,
    show (fun k => mulE (dhB (iblk3 V c 0 t) (iblk3 V c 1 t) (iblk3 V c 2 t) (iblk3 V c 3 t) (iblk3 V c 4 t) (iblk3 V c 5 t) p k) (iblk3 V c 7 t (ix2 0 k)))
      = fun k => mulE (dnV V c ⟨t.val * 256 + p.val, by omega⟩ k) (V c main_v6 (ix2 0 k))
      from funext fun k => congr2 mulE (dhB_eq V c t ht p k) (read3_7 V c t k)]
  exact congrArg (HAdd.hAdd (α := EReal) · _) (read3_8 V c t ht p d)

theorem final_dx : (dat3 V c).arrAt 9 cfg3.N = fun i : ST.Idx => dxV V c (i 0) (i 1) := by
  refine (dat3 V c).arrAt_eq_of_covers 9 _ (by decide +kernel) fun t hf y => ?_
  blk_simp
  rw [after3_9, dx_block]
  have ht : t.val < 16 := t.isLt
  refine Eq.trans ?_ (congrArg (fun i : ST.Idx => dxV V c (i 0) (i 1))
    (ext2 (a := (⟨t.val * 256 + (y 0).val, ?_⟩ : Fin 4096)) (b := (y 1 : Fin 2048)) ?_ ?_).symm)
  · exact dxB_eq V c t ht (y 0) (y 1)
  all_goals (try blk_simp [idx3 t]) <;> idx_bounds y <;> omega

theorem final_dxb : (dat3 V c).arrAt 10 cfg3.N = fun i : ST.Idx => dxV V c (i 0) (i 1) := by
  refine (dat3 V c).arrAt_eq_of_covers 10 _ (by decide +kernel) fun t hf y => ?_
  blk_simp
  rw [after3_10, dxb_block]
  have ht : t.val < 16 := t.isLt
  refine Eq.trans ?_ (congrArg (fun i : ST.Idx => dxV V c (i 0) (i 1))
    (ext2 (a := (⟨t.val * 256 + (y 0).val, ?_⟩ : Fin 4096)) (b := (y 1 : Fin 2048)) ?_ ?_).symm)
  · exact dxB_eq V c t ht (y 0) (y 1)
  all_goals (try blk_simp [idx3 t]) <;> idx_bounds y <;> omega

/-- A token's part of the scale's gradient; a tile's part, as a function of the tile's number. -/
def dgV (t : Fin 4096) (d : Fin 2048) : EReal := mulE (dnV V c t d) (mulE (V c main_arg0 (ix2 t d)) (inv (row (V c main_arg0) t)))
def dgTile (d : Fin 2048) (s : ℕ) : EReal := if hs : s < 16 then ∑ p : Fin 256, dgV V c ⟨s * 256 + p.val, by omega⟩ d else 0

theorem dgB_eq (t : Fin cfg3.N) (ht : t.val < 16) (d : Fin 2048) : dgB (iblk3 V c 0 t) (iblk3 V c 1 t) (iblk3 V c 2 t) (iblk3 V c 3 t) (iblk3 V c 4 t) (iblk3 V c 5 t) (iblk3 V c 6 t) d = dgTile V c d t.val := by
  rw [dgTile, dif_pos ht]
  refine Finset.sum_congr rfl fun p _ => congr2 mulE (dhB_eq V c t ht p d) (congr2 mulE (read3_6 V c t ht p d) ?_)
  exact congrArg inv (funext fun k => read3_6 V c t ht p k)

/-- The scale's gradient after a tile: the sum of the tiles so far. -/
theorem dg_upto (d : Fin 2048) : ∀ n (hn : n < cfg3.N), (outsAt3 V c n hn).2.2 (ix2 0 d) = ∑ s ∈ Finset.range (n + 1), dgTile V c d s
  | 0, hn => by
    rw [dg_first V c ⟨0, hn⟩ (Nat.zero_mod 16) d, dgB_eq V c ⟨0, hn⟩ (by show 0 < 16; omega)]
    exact (Finset.sum_range_one _).symm
  | n + 1, hn => by
    have h : n + 1 < 16 := hn
    rw [dg_next V c ⟨n + 1, hn⟩ (by show ¬(n + 1) % 16 = 0; omega) d, dgB_eq V c ⟨n + 1, hn⟩ h, Finset.sum_range_succ]
    exact congrArg (· + dgTile V c d (n + 1)) (dg_upto d n (by omega))

theorem sum_dgTile (d : Fin 2048) : ∑ s ∈ Finset.range 16, dgTile V c d s = ∑ t : Fin 4096, dgV V c t d := by
  rw [Finset.sum_range, ← FfnSpec.sum_tiles]
  refine Finset.sum_congr rfl fun s _ => ?_
  rw [dgTile, dif_pos s.isLt]

theorem final_dg : (dat3 V c).arrAt 11 cfg3.N = fun i : S1x2048.Idx => ∑ t : Fin 4096, dgV V c t (i 1) := by
  refine (dat3 V c).arrAt_eq_of_covers 11 _ (by decide +kernel) fun t hf y => ?_
  have h15 : t.val % 16 = 15 := (flush3_11 t).mp hf
  have ht : t.val < 16 := t.isLt
  have h : t.val = 15 := by omega
  rw [after3_11]
  have ey : y = ix2 (0 : Fin 1) (y 1 : Fin 2048) := ext2 (by have h1 : (y 0).val < 1 := (y 0).isLt; show (y 0).val = 0; omega) rfl
  refine Eq.trans ?_ (congrArg (fun i : S1x2048.Idx => ∑ t : Fin 4096, dgV V c t (i 1)) (ext2 (a := (0 : Fin 1)) (b := (y 1 : Fin 2048)) ?_ ?_).symm)
  · refine ((congrArg _ ey).trans (dg_upto V c (y 1) t.val t.isLt)).trans ?_
    rw [h]
    exact sum_dgTile V c (y 1)
  all_goals (try blk_simp [idx3 t]) <;> idx_bounds y <;> omega

end Cert.Kernel3Ideal.In

end
-- ==== Proof.InHost.lean ====
/-
  The host lines around the input projection's launches: the weight transposed before them, the scale as one row, the
  weight's gradient transposed back and the scale's gradient as a vector after them.
-/
module

public import proofs.«01_k».proof.Proof.Gen.Kernel3Ideal.Frame
public import proofs.«01_k».proof.Proof.InSpec
import Idealize.ShloMosaic.Lib.Pipeline.ValueKit

@[expose] public section

set_option maxRecDepth 16384

noncomputable section

open Idealize.ShloMosaic Idealize.ShloMosaic.TcCoe Idealize.ShloMosaic.StableHlo Idealize.SL.Sem

namespace Cert.Kernel3Ideal.In

open Cert.Kernel3Ideal Cert.Kernel3Ideal.Gen FfnTile InSpec

variable (V : Valuation τ sig (Elt Ideal))

/-- The weight, transposed. -/
theorem host_v1 : after hostOps0 V (Proc.devRef .tc main_v1) = fun i : SV.Idx => V (Proc.devRef .tc main_arg2) (ix2 (i 1) (i 0)) := by
  after_results
  funext i
  obtain ⟨n, k, rfl⟩ : ∃ (n : Fin 4352) (k : Fin 2048), i = ix2 n k := ⟨_, _, eq_ix2 i⟩
  pointwise []

/-- The scale as one row, twice. -/
theorem host_v2 : after hostOps0 V (Proc.devRef .tc main_v2) = fun i : S1x2048.Idx => V (Proc.devRef .tc main_arg1) (ix1 (i 1)) := by
  after_results
  funext i
  obtain ⟨z, k, rfl⟩ : ∃ (z : Fin 1) (k : Fin 2048), i = ix2 z k := ⟨_, _, eq_ix2 i⟩
  pointwise []

theorem host_v6 : after hostOps3 V (Proc.devRef .tc main_v6) = fun i : S1x2048.Idx => V (Proc.devRef .tc main_arg1) (ix1 (i 1)) := by
  after_results
  funext i
  obtain ⟨z, k, rfl⟩ : ∃ (z : Fin 1) (k : Fin 2048), i = ix2 z k := ⟨_, _, eq_ix2 i⟩
  pointwise []

/-- The weight's gradient in the argument's layout. -/
theorem host_v8 : after hostOps4 V (Proc.devRef .tc main_v8) = fun i : SW.Idx => V (Proc.devRef .tc main_v5) (ix2 (i 1) (i 0)) := by
  after_results
  funext i
  obtain ⟨k, n, rfl⟩ : ∃ (k : Fin 2048) (n : Fin 4352), i = ix2 k n := ⟨_, _, eq_ix2 i⟩
  pointwise []

/-- The scale's gradient as a vector. -/
theorem host_v9 : after hostOps4 V (Proc.devRef .tc main_v9) = fun i : S2048.Idx => V (Proc.devRef .tc main_v7_2) (ix2 0 (i 0)) := by
  after_results
  funext i
  obtain ⟨k, rfl⟩ : ∃ k : Fin 2048, i = ix1 k := ⟨_, eq_ix1 i⟩
  pointwise []

end Cert.Kernel3Ideal.In

end
-- ==== Proof.InRun.lean ====
/-
  The run of the input projection's launches: what the program's results hold at the end.
-/
module

public import proofs.«01_k».proof.Proof.InForward
public import proofs.«01_k».proof.Proof.InWeight
public import proofs.«01_k».proof.Proof.InInput
public import proofs.«01_k».proof.Proof.InHost

@[expose] public section

set_option maxRecDepth 16384

noncomputable section

open Idealize.SL Idealize.SL.RA Idealize.SL.BI Idealize.ShloMosaic Idealize.ShloMosaic.TcCoe Idealize.ShloMosaic.StableHlo
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.In

open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, the launches end with every buffer of @main at the last boundary's contents. -/
theorem run_boundary : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Cert.Kernel3Ideal.In

namespace Cert.Kernel3Ideal.In

open Cert.Kernel3Ideal Cert.Kernel3Ideal.Gen FfnTile InSpec NormGrad

variable (m : (ℓ : Loc nD τ sig) → Buf (Elt Ideal) ℓ) (ρ : Dev nD → PrngReg) (c : Dev nD)

/-- The arguments' contents. -/
abbrev X : ST.Idx → EReal := m ((c : Thread nD τ).loc main_arg0)
abbrev G : Fin 2048 → EReal := fun k => (m ((c : Thread nD τ).loc main_arg1) : S2048.Idx → EReal) (ix1 k)
abbrev W : SW.Idx → EReal := m ((c : Thread nD τ).loc main_arg2)
abbrev A : SA.Idx → EReal := m ((c : Thread nD τ).loc main_arg3)
abbrev B : SB.Idx → EReal := m ((c : Thread nD τ).loc main_arg4)
abbrev P : SC.Idx → EReal := m ((c : Thread nD τ).loc main_arg5)
abbrev Q : SC.Idx → EReal := m ((c : Thread nD τ).loc main_arg6)
abbrev E : SE.Idx → EReal := m ((c : Thread nD τ).loc main_arg7)
abbrev D : ST.Idx → EReal := m ((c : Thread nD τ).loc main_arg8)

/-- The transposed weight at the launches that read it. -/
theorem v1_1 : W1 m ρ c (Proc.devRef .tc main_v1) = fun i : SV.Idx => W m c (ix2 (i 1) (i 0)) := host_v1 (W0 m ρ c)

theorem v1_2 : W2 m ρ c (Proc.devRef .tc main_v1) = fun i : SV.Idx => W m c (ix2 (i 1) (i 0)) :=
  (W2_of m ρ c main_v1 (by decide +kernel)).trans (v1_1 m ρ c)

theorem v1_5 : W5 m ρ c (Proc.devRef .tc main_v1) = fun i : SV.Idx => W m c (ix2 (i 1) (i 0)) :=
  (W5_of m ρ c main_v1 (by decide)).trans ((W4_of m ρ c main_v1 (by decide +kernel)).trans
    ((W3_of m ρ c main_v1 (by decide +kernel)).trans (v1_2 m ρ c)))

/-- The normalised tokens. -/
theorem norm_2 : W2 m ρ c (Proc.devRef .tc main_v3) = fun i : ST.Idx => Norm (X m c) (G m c) (i 0) (i 1) := by
  have e0 : V1 m ρ c main_arg0 = X m c := W1_args m ρ c main_arg0 (by decide)
  have e2 : V1 m ρ c main_v2 = fun i : S1x2048.Idx => G m c (i 1) := host_v2 (W0 m ρ c)
  refine (W2_arr m ρ c 2).trans ((final_norm (V1 m ρ) c).trans ?_)
  rw [e0, e2]
  rfl

theorem norm_3 : W3 m ρ c (Proc.devRef .tc main_v3) = fun i : ST.Idx => Norm (X m c) (G m c) (i 0) (i 1) :=
  (W3_of m ρ c main_v3 (by decide +kernel)).trans (norm_2 m ρ c)

/-- The projection. -/
theorem z_3 : W3 m ρ c (Proc.devRef .tc main_v4) = fun i : SZ.Idx => Proj (X m c) (G m c) (W m c) (i 0) (i 1) := by
  have e3 : V2 m ρ c main_v3 = fun i : ST.Idx => Norm (X m c) (G m c) (i 0) (i 1) := norm_2 m ρ c
  have e1 : V2 m ρ c main_v1 = fun i : SV.Idx => W m c (ix2 (i 1) (i 0)) := v1_2 m ρ c
  refine (W3_arr m ρ c 2).trans ((final_proj (V2 m ρ) c).trans ?_)
  rw [e3, e1]
  rfl

theorem end_z : W7 m ρ c (Proc.devRef .tc main_v4) = fun i : SZ.Idx => Proj (X m c) (G m c) (W m c) (i 0) (i 1) :=
  (W7_of m ρ c main_v4 (by decide)).trans ((W6_of m ρ c main_v4 (by decide +kernel)).trans ((W5_of m ρ c main_v4 (by decide)).trans
    ((W4_of m ρ c main_v4 (by decide +kernel)).trans (z_3 m ρ c))))

/-- The weight's gradient, transposed. -/
theorem dw_4 : W4 m ρ c (Proc.devRef .tc main_v5)
    = weigh (A m c) (B m c) (P m c) (Q m c) (E m c) fun i : ST.Idx => Norm (X m c) (G m c) (i 0) (i 1) := by
  have e3 : V3 m ρ c main_v3 = fun i : ST.Idx => Norm (X m c) (G m c) (i 0) (i 1) := norm_3 m ρ c
  have ea : V3 m ρ c main_arg3 = A m c := W3_args m ρ c main_arg3 (by decide)
  have eb : V3 m ρ c main_arg4 = B m c := W3_args m ρ c main_arg4 (by decide)
  have ep : V3 m ρ c main_arg5 = P m c := W3_args m ρ c main_arg5 (by decide)
  have eq : V3 m ρ c main_arg6 = Q m c := W3_args m ρ c main_arg6 (by decide)
  have ee : V3 m ρ c main_arg7 = E m c := W3_args m ρ c main_arg7 (by decide)
  refine (W4_arr m ρ c 6).trans ((final_weight (V3 m ρ) c).trans ?_)
  rw [e3, ea, eb, ep, eq, ee]

theorem end_dw : W7 m ρ c (Proc.devRef .tc main_v8)
    = fun i : SW.Idx => GradW (X m c) (G m c) (A m c) (B m c) (P m c) (Q m c) (E m c) (i 0) (i 1) := by
  have e5 : W6 m ρ c (Proc.devRef .tc main_v5) = weigh (A m c) (B m c) (P m c) (Q m c) (E m c) fun i : ST.Idx => Norm (X m c) (G m c) (i 0) (i 1) :=
    (W6_of m ρ c main_v5 (by decide +kernel)).trans ((W5_of m ρ c main_v5 (by decide)).trans (dw_4 m ρ c))
  refine (host_v8 (W6 m ρ c)).trans ?_
  rw [e5]
  rfl

/-- The gradient at the normalised tokens, as the last launch forms it. -/
theorem dn_5 (t : Fin 4096) (k : Fin 2048) : dnV (V5 m ρ) c t k = GradN (W m c) (A m c) (B m c) (P m c) (Q m c) (E m c) t k := by
  have e1 : V5 m ρ c main_v1 = fun i : SV.Idx => W m c (ix2 (i 1) (i 0)) := v1_5 m ρ c
  have ea : V5 m ρ c main_arg3 = A m c := W5_args m ρ c main_arg3 (by decide)
  have eb : V5 m ρ c main_arg4 = B m c := W5_args m ρ c main_arg4 (by decide)
  have ep : V5 m ρ c main_arg5 = P m c := W5_args m ρ c main_arg5 (by decide)
  have eq : V5 m ρ c main_arg6 = Q m c := W5_args m ρ c main_arg6 (by decide)
  have ee : V5 m ρ c main_arg7 = E m c := W5_args m ρ c main_arg7 (by decide)
  unfold dnV
  rw [e1, ea, eb, ep, eq, ee]
  exact congrArg (fun w : SW.Idx → EReal => GradN w (A m c) (B m c) (P m c) (Q m c) (E m c) t k)
    (funext fun i => (congrArg (W m c) (eq_ix2 i)).symm)

theorem x_5 : V5 m ρ c main_arg0 = X m c := W5_args m ρ c main_arg0 (by decide)

theorem dx_5 (t : Fin 4096) (k : Fin 2048) :
    dxV (V5 m ρ) c t k = GradX (X m c) (G m c) (W m c) (A m c) (B m c) (P m c) (Q m c) (E m c) (D m c) t k := by
  have e8 : V5 m ρ c main_arg8 = D m c := W5_args m ρ c main_arg8 (by decide)
  have eg : V5 m ρ c main_v6 = fun i : S1x2048.Idx => G m c (i 1) :=
    (host_v6 (W4 m ρ c)).trans (congrArg (fun (g : S2048.Idx → EReal) (i : S1x2048.Idx) => g (ix1 (i 1))) (W4_args m ρ c main_arg1 (by decide)))
  have ed : ∀ t d, dnV (V5 m ρ) c t d = GradN (W m c) (A m c) (B m c) (P m c) (Q m c) (E m c) t d := dn_5 m ρ c
  unfold dxV
  simp only [ed]
  rw [x_5, e8, eg]
  rfl

theorem dg_5 (t : Fin 4096) (k : Fin 2048) :
    dgV (V5 m ρ) c t k = GradN (W m c) (A m c) (B m c) (P m c) (Q m c) (E m c) t k * (X m c (ix2 t k) * inv (row (X m c) t)) := by
  unfold dgV
  rw [dn_5, x_5]

theorem end_dx : W7 m ρ c (Proc.devRef .tc main_v7_0)
    = fun i : ST.Idx => GradX (X m c) (G m c) (W m c) (A m c) (B m c) (P m c) (Q m c) (E m c) (D m c) (i 0) (i 1) :=
  (W7_of m ρ c main_v7_0 (by decide)).trans ((W6_arr m ρ c 9).trans ((final_dx (V5 m ρ) c).trans (funext fun i => dx_5 m ρ c (i 0) (i 1))))

theorem end_dxb : W7 m ρ c (Proc.devRef .tc main_v7_1)
    = fun i : ST.Idx => GradX (X m c) (G m c) (W m c) (A m c) (B m c) (P m c) (Q m c) (E m c) (D m c) (i 0) (i 1) :=
  (W7_of m ρ c main_v7_1 (by decide)).trans ((W6_arr m ρ c 10).trans ((final_dxb (V5 m ρ) c).trans (funext fun i => dx_5 m ρ c (i 0) (i 1))))

theorem end_dg : W7 m ρ c (Proc.devRef .tc main_v9)
    = fun i : S2048.Idx => GradG (X m c) (W m c) (A m c) (B m c) (P m c) (Q m c) (E m c) (i 0) := by
  have e7 : W6 m ρ c (Proc.devRef .tc main_v7_2) = fun i : S1x2048.Idx => ∑ t : Fin 4096, dgV (V5 m ρ) c t (i 1) :=
    (W6_arr m ρ c 11).trans (final_dg (V5 m ρ) c)
  refine (host_v9 (W6 m ρ c)).trans ?_
  rw [e7]
  exact funext fun i => Finset.sum_congr rfl fun t _ => dg_5 m ρ c t (i 0)

end Cert.Kernel3Ideal.In

end
-- ==== Proof.InRef.lean ====
/-
  The reference's results for the input projection, read at an index: each of them is the function `InSpec` names.
-/
module

public import proofs.«01_k».proof.Proof.Gen.Reference3Ideal.Read
public import proofs.«01_k».proof.Proof.InSpec

@[expose] public section

set_option maxRecDepth 16384

noncomputable section

open Idealize.ShloMosaic Idealize.ShloMosaic.TcCoe Idealize.SL.Sem

namespace Cert.Reference3Ideal.In

open Cert.Reference3Ideal Cert.Reference3Ideal.Read FfnTile InSpec NormGrad

theorem zero_eq : Ideal.ofBits FTy.f32 0x00000000#32 = 0 := by
  simp [Ideal.ofBits, Ideal.ieee]

variable (x0 : ST.Idx → EReal) (x1 : S2048.Idx → EReal) (x2 : SW.Idx → EReal)
  (x3 : SA.Idx → EReal) (x4 : SB.Idx → EReal) (x5 x6 : SC.Idx → EReal) (x7 : SE.Idx → EReal) (x8 : ST.Idx → EReal)

/-- The scale. -/
abbrev scale : Fin 2048 → EReal := fun k => x1 (ix1 k)

/-! ## The norm and the projection -/

theorem sumsq (t : Fin 4096) : val_main_v3 (F := Ideal) x0 (ix1 t) = ∑ k : Fin 2048, row x0 t k * row x0 t k := by
  rw [val_main_v3_apply]
  refine (congrArg (· + _) zero_eq).trans ((zero_add _).trans ?_)
  exact sum_mul_congr (fun k => congrArg x0 (ext2 rfl rfl)) fun k => congrArg x0 (ext2 rfl rfl)

theorem ms (t : Fin 4096) : val_main_v8 (F := Ideal) x0 (ix2 t 0) = msq (row x0 t) := by
  have e : val_main_v8 (F := Ideal) x0 (ix2 t 0) = Ideal.div (val_main_v4 (F := Ideal) x0 (ix2 t 0)) cN + cE := rfl
  rw [e, msq, val_main_v4_apply]
  exact congrArg (fun a => Ideal.div a cN + cE) ((congrArg (val_main_v3 (F := Ideal) x0) (eq_ix1 _)).trans (sumsq x0 t))

theorem root (t : Fin 4096) : val_main_v9 (F := Ideal) x0 (ix2 t 0) = inv (row x0 t) := by
  have e : val_main_v9 (F := Ideal) x0 (ix2 t 0) = Ideal.rsqrt (val_main_v8 (F := Ideal) x0 (ix2 t 0)) := rfl
  rw [e, ms]
  rfl

theorem scaled (t : Fin 4096) (k : Fin 2048) : val_main_v14 (F := Ideal) x0 (ix2 t k) = x0 (ix2 t k) * inv (row x0 t) := by
  have e : val_main_v14 (F := Ideal) x0 (ix2 t k) = x0 (ix2 t k) * val_main_v13 (F := Ideal) x0 (ix2 t k) := rfl
  rw [e, val_main_v13_apply]
  exact congrArg (x0 (ix2 t k) * ·) ((congrArg (val_main_v9 (F := Ideal) x0) (ext2 rfl rfl)).trans (root x0 t))

theorem scale16 (t : Fin 4096) (k : Fin 2048) : val_main_v16 (F := Ideal) x1 (ix2 t k) = scale x1 k := by
  rw [val_main_v16_apply, val_main_v15_apply]
  exact congrArg x1 (eq_ix1 _)

theorem scale25 (t : Fin 4096) (k : Fin 2048) : val_main_v25 (F := Ideal) x1 (ix2 t k) = scale x1 k := by
  rw [val_main_v25_apply, val_main_v15_apply]
  exact congrArg x1 (eq_ix1 _)

theorem norm (t : Fin 4096) (k : Fin 2048) : val_main_v17 (F := Ideal) x0 x1 (ix2 t k) = Norm x0 (scale x1) t k := by
  have e : val_main_v17 (F := Ideal) x0 x1 (ix2 t k) = val_main_v14 (F := Ideal) x0 (ix2 t k) * val_main_v16 (F := Ideal) x1 (ix2 t k) := rfl
  rw [e, scaled, scale16]
  rfl

theorem z (t : Fin 4096) (n : Fin 4352) : val_main_v18 (F := Ideal) x0 x1 x2 (ix2 t n) = Proj x0 (scale x1) x2 t n :=
  (val_main_v18_apply x0 x1 x2 _).trans (sum_mul_congr
    (fun k => (congrArg (val_main_v17 (F := Ideal) x0 x1) (ext2 (a := t) (b := k) rfl rfl)).trans (norm x0 x1 t k)) fun k => congrArg x2 (ext2 rfl rfl))

/-! ## The cotangent -/

theorem ct (t : Fin 4096) (n : Fin 4352) : val_main_v1 (F := Ideal) x3 x4 x5 x6 x7 (ix2 t n) = Ct x3 x4 x5 x6 x7 t n := by
  have e : val_main_v1 (F := Ideal) x3 x4 x5 x6 x7 (ix2 t n) = val_main_v0 (F := Ideal) x3 x4 x5 x6 x7 (ix2 t n) := rfl
  rw [e]
  unfold val_main_v0
  by_cases h0 : n.val < 1024
  · rw [Ct_a _ _ _ _ _ t n (by omega)]
    exact concatenate_apply_piece (t := S4096x4352) 1 _ _ (ix2 t n) 0 (by simp) _ x3 rfl rfl 0 (by simp) (ix2 t ⟨n.val, by omega⟩)
      (fun b hb => by fin_cases b <;> first | rfl | exact absurd rfl hb) (by show 0 + (n.val) = n.val; omega)
  by_cases h1 : n.val < 2560
  · rw [Ct_b _ _ _ _ _ t n (by omega) (by omega)]
    exact concatenate_apply_piece (t := S4096x4352) 1 _ _ (ix2 t n) 1 (by simp) _ x4 rfl rfl 1024 (by simp) (ix2 t ⟨n.val - 1024, by omega⟩)
      (fun b hb => by fin_cases b <;> first | rfl | exact absurd rfl hb) (by show 1024 + (n.val - 1024) = n.val; omega)
  by_cases h2 : n.val < 3072
  · rw [Ct_p _ _ _ _ _ t n (by omega) (by omega)]
    exact concatenate_apply_piece (t := S4096x4352) 1 _ _ (ix2 t n) 2 (by simp) _ x5 rfl rfl 2560 (by simp) (ix2 t ⟨n.val - 2560, by omega⟩)
      (fun b hb => by fin_cases b <;> first | rfl | exact absurd rfl hb) (by show 2560 + (n.val - 2560) = n.val; omega)
  by_cases h3 : n.val < 3584
  · rw [Ct_q _ _ _ _ _ t n (by omega) (by omega)]
    exact concatenate_apply_piece (t := S4096x4352) 1 _ _ (ix2 t n) 3 (by simp) _ x6 rfl rfl 3072 (by simp) (ix2 t ⟨n.val - 3072, by omega⟩)
      (fun b hb => by fin_cases b <;> first | rfl | exact absurd rfl hb) (by show 3072 + (n.val - 3072) = n.val; omega)
  · rw [Ct_e _ _ _ _ _ t n (by omega)]
    exact concatenate_apply_piece (t := S4096x4352) 1 _ _ (ix2 t n) 4 (by simp) _ x7 rfl rfl 3584 (by simp) (ix2 t ⟨n.val - 3584, by omega⟩)
      (fun b hb => by fin_cases b <;> first | rfl | exact absurd rfl hb) (by show 3584 + (n.val - 3584) = n.val; omega)

theorem gradN (t : Fin 4096) (k : Fin 2048) : val_main_v21 (F := Ideal) x2 x3 x4 x5 x6 x7 (ix2 t k) = GradN x2 x3 x4 x5 x6 x7 t k :=
  ((val_main_v21_apply x2 x3 x4 x5 x6 x7 _).trans (sum_mul_congr
    (fun n => (congrArg (val_main_v1 (F := Ideal) x3 x4 x5 x6 x7) (ext2 (a := t) (b := n) rfl rfl)).trans (ct x3 x4 x5 x6 x7 t n)) fun n => congrArg x2 (ext2 rfl rfl))).trans
    (GradN_eq x2 x3 x4 x5 x6 x7 t k)

/-! ## The gradients of the weight and of the scale -/

theorem gradW (k : Fin 2048) (n : Fin 4352) : val_main_v44 (F := Ideal) x0 x1 x3 x4 x5 x6 x7 (ix2 k n) = GradW x0 (scale x1) x3 x4 x5 x6 x7 k n := by
  have e : val_main_v44 (F := Ideal) x0 x1 x3 x4 x5 x6 x7 (ix2 k n) = val_main_v20 (F := Ideal) x0 x1 x3 x4 x5 x6 x7 (ix2 k n) := rfl
  rw [e, val_main_v20_apply, val_main_v19_apply]
  exact sum_mul_congr
    (fun t => (congrArg (val_main_v1 (F := Ideal) x3 x4 x5 x6 x7) (ext2 (a := t) (b := n) rfl rfl)).trans (ct x3 x4 x5 x6 x7 t n))
    fun t => (congrArg (val_main_v17 (F := Ideal) x0 x1) (ext2 (a := t) (b := k) rfl rfl)).trans (norm x0 x1 t k)

theorem gradG (k : Fin 2048) : val_main_v27 (F := Ideal) x0 x2 x3 x4 x5 x6 x7 (ix1 k) = GradG x0 x2 x3 x4 x5 x6 x7 k := by
  rw [val_main_v27_apply]
  refine (congrArg (· + _) zero_eq).trans ((zero_add _).trans ((Fin.sum_univ_one _).trans ?_))
  rw [val_main_v24_apply, val_main_v23_apply]
  refine (congrArg (· + _) zero_eq).trans ((zero_add _).trans ?_)
  refine Finset.sum_congr rfl fun t _ => ?_
  have e : val_main_v22 (F := Ideal) x0 x2 x3 x4 x5 x6 x7 (ix2 t k)
      = val_main_v14 (F := Ideal) x0 (ix2 t k) * val_main_v21 (F := Ideal) x2 x3 x4 x5 x6 x7 (ix2 t k) := rfl
  refine (congrArg (val_main_v22 (F := Ideal) x0 x2 x3 x4 x5 x6 x7) (ext2 (a := t) (b := k) rfl ?_)).trans (e.trans ?_)
  · show 0 * 2048 + k.val = k.val
    omega
  · rw [scaled, gradN, mul_comm]

/-! ## The gradient of the tokens -/

theorem gradS (t : Fin 4096) (k : Fin 2048) : val_main_v26 (F := Ideal) x1 x2 x3 x4 x5 x6 x7 (ix2 t k) = GradN x2 x3 x4 x5 x6 x7 t k * scale x1 k := by
  have e : val_main_v26 (F := Ideal) x1 x2 x3 x4 x5 x6 x7 (ix2 t k)
      = val_main_v21 (F := Ideal) x2 x3 x4 x5 x6 x7 (ix2 t k) * val_main_v25 (F := Ideal) x1 (ix2 t k) := rfl
  rw [e, gradN, scale25]

/-- The cotangent of the row's normalisation. -/
abbrev cot (t : Fin 4096) : Fin 2048 → EReal := fun j => GradN x2 x3 x4 x5 x6 x7 t j * scale x1 j

theorem along (t : Fin 4096) : val_main_v30 (F := Ideal) x0 x1 x2 x3 x4 x5 x6 x7 (ix2 t 0) = ∑ k : Fin 2048, row x0 t k * cot x1 x2 x3 x4 x5 x6 x7 t k := by
  rw [val_main_v30_apply, val_main_v29_apply]
  refine (congrArg (· + _) zero_eq).trans ((zero_add _).trans ?_)
  refine Finset.sum_congr rfl fun k _ => ?_
  have e : val_main_v28 (F := Ideal) x0 x1 x2 x3 x4 x5 x6 x7 (ix2 t k) = x0 (ix2 t k) * val_main_v26 (F := Ideal) x1 x2 x3 x4 x5 x6 x7 (ix2 t k) := rfl
  refine (congrArg (val_main_v28 (F := Ideal) x0 x1 x2 x3 x4 x5 x6 x7) (ext2 (a := t) (b := k) ?_ rfl)).trans (e.trans ?_)
  · show (t.val * 1 + 0) = t.val
    omega
  · rw [gradS]
    rfl

theorem factor (t : Fin 4096) : val_main_v35 (F := Ideal) x0 x1 x2 x3 x4 x5 x6 x7 (ix2 t 0) = through (row x0 t) (cot x1 x2 x3 x4 x5 x6 x7 t) := by
  have e : val_main_v35 (F := Ideal) x0 x1 x2 x3 x4 x5 x6 x7 (ix2 t 0)
      = Ideal.div (val_main_v30 (F := Ideal) x0 x1 x2 x3 x4 x5 x6 x7 (ix2 t 0)
        * (cH * Ideal.div (val_main_v9 (F := Ideal) x0 (ix2 t 0)) (val_main_v8 (F := Ideal) x0 (ix2 t 0)))) cN := rfl
  rw [e, along, root, ms, through]

theorem spread (t : Fin 4096) (k : Fin 2048) : val_main_v37 (F := Ideal) x0 x1 x2 x3 x4 x5 x6 x7 (ix2 t k) = through (row x0 t) (cot x1 x2 x3 x4 x5 x6 x7 t) := by
  rw [val_main_v37_apply, val_main_v36_apply]
  refine (congrArg (· + _) zero_eq).trans ((zero_add _).trans ((Fin.sum_univ_one _).trans ?_))
  exact (congrArg (val_main_v35 (F := Ideal) x0 x1 x2 x3 x4 x5 x6 x7) (ext2 (a := t) (b := (0 : Fin 1)) rfl rfl)).trans (factor x0 x1 x2 x3 x4 x5 x6 x7 t)

theorem gradX (t : Fin 4096) (k : Fin 2048) :
    val_main_v42 (F := Ideal) x0 x1 x2 x3 x4 x5 x6 x7 x8 (ix2 t k) = GradX x0 (scale x1) x2 x3 x4 x5 x6 x7 x8 t k := by
  have e : val_main_v42 (F := Ideal) x0 x1 x2 x3 x4 x5 x6 x7 x8 (ix2 t k)
      = val_main_v26 (F := Ideal) x1 x2 x3 x4 x5 x6 x7 (ix2 t k) * val_main_v31 (F := Ideal) x0 (ix2 t k)
        + x0 (ix2 t k) * val_main_v37 (F := Ideal) x0 x1 x2 x3 x4 x5 x6 x7 (ix2 t k)
        + val_main_v37 (F := Ideal) x0 x1 x2 x3 x4 x5 x6 x7 (ix2 t k) * x0 (ix2 t k) + x8 (ix2 t k) := rfl
  have e31 : val_main_v31 (F := Ideal) x0 (ix2 t k) = inv (row x0 t) := by
    rw [val_main_v31_apply]
    exact (congrArg (val_main_v9 (F := Ideal) x0) (ext2 rfl rfl)).trans (root x0 t)
  rw [e, gradS, e31, spread, GradX, byDifference_eq, byFactors, add_comm]
  rfl

theorem gradXb (t : Fin 4096) (k : Fin 2048) :
    val_main_v43 (F := Ideal) x0 x1 x2 x3 x4 x5 x6 x7 x8 (ix2 t k) = GradX x0 (scale x1) x2 x3 x4 x5 x6 x7 x8 t k :=
  gradX x0 x1 x2 x3 x4 x5 x6 x7 x8 t k

end Cert.Reference3Ideal.In

end
-- ==== Proof.InClaim.lean ====
/-
  The claims about the input projection's program and its reference.
-/
module

public import proofs.«01_k».proof.Proof.FfnClaim
public import proofs.«01_k».proof.Proof.InRun
public import proofs.«01_k».proof.Proof.InRef
public import proofs.«01_k».proof.Proof.Gen.Kernel3.Frame

@[expose] public section

set_option maxRecDepth 16384

noncomputable section

open Idealize.ShloMosaic Idealize.ShloMosaic.TcCoe Idealize.SL.Sem

namespace Cert.InClaim

open FfnTile InSpec Cert.FfnClaim

instance : Cert.Kernel3.Facts := Cert.Kernel3.Gen.facts
instance : Cert.Kernel3Ideal.Facts := Cert.Kernel3Ideal.Gen.facts
instance : Cert.Reference3Ideal.Facts := Cert.Reference3Ideal.Gen.facts

theorem frame_kernel : Cert.quiescent_Kernel3 := fun m ρ _ => Cert.Kernel3.Gen.frame m ρ

theorem frame_kernelIdeal : Cert.quiescent_Kernel3Ideal := fun m ρ _ => Cert.Kernel3Ideal.Gen.frame m ρ

/-- The reference's run read at its arguments; it declares no semaphore. -/
theorem frame_reference : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

/-- The vector of a family of entries. -/
def vector {n : ℕ} (f : Fin n → EReal) : (⟨1, ![n]⟩ : Shape).Idx → EReal := fun i => f (i 0)

/-- A vector from its entries. -/
theorem of_entries1 {n : ℕ} {x : (⟨1, ![n]⟩ : Shape).Idx → EReal} {f : Fin n → EReal} (h : ∀ a, x (ix1 a) = f a) :
    x = vector f := funext fun i => (congrArg x (eq_ix1 i)).trans (h (i 0))

/-- On all arguments the kernels and the reference both end with the projection and its gradients. -/
theorem algebraic : Cert.algebraic_Kernel3Ideal_Reference3Ideal := by
  intro m g m' g' _ hag
  refine ⟨fun c i => Proj (Cert.Kernel3Ideal.In.X m c) (Cert.Kernel3Ideal.In.G m c) (Cert.Kernel3Ideal.In.W m c) (i 0) (i 1),
    fun c i => GradX (Cert.Kernel3Ideal.In.X m c) (Cert.Kernel3Ideal.In.G m c) (Cert.Kernel3Ideal.In.W m c) (Cert.Kernel3Ideal.In.A m c) (Cert.Kernel3Ideal.In.B m c) (Cert.Kernel3Ideal.In.P m c) (Cert.Kernel3Ideal.In.Q m c) (Cert.Kernel3Ideal.In.E m c) (Cert.Kernel3Ideal.In.D m c) (i 0) (i 1),
    fun c i => GradX (Cert.Kernel3Ideal.In.X m c) (Cert.Kernel3Ideal.In.G m c) (Cert.Kernel3Ideal.In.W m c) (Cert.Kernel3Ideal.In.A m c) (Cert.Kernel3Ideal.In.B m c) (Cert.Kernel3Ideal.In.P m c) (Cert.Kernel3Ideal.In.Q m c) (Cert.Kernel3Ideal.In.E m c) (Cert.Kernel3Ideal.In.D m c) (i 0) (i 1),
    fun c i => GradW (Cert.Kernel3Ideal.In.X m c) (Cert.Kernel3Ideal.In.G m c) (Cert.Kernel3Ideal.In.A m c) (Cert.Kernel3Ideal.In.B m c) (Cert.Kernel3Ideal.In.P m c) (Cert.Kernel3Ideal.In.Q m c) (Cert.Kernel3Ideal.In.E m c) (i 0) (i 1),
    fun c => vector (GradG (Cert.Kernel3Ideal.In.X m c) (Cert.Kernel3Ideal.In.W m c) (Cert.Kernel3Ideal.In.A m c) (Cert.Kernel3Ideal.In.B m c) (Cert.Kernel3Ideal.In.P m c) (Cert.Kernel3Ideal.In.Q m c) (Cert.Kernel3Ideal.In.E m c)), ?_, ?_⟩
  · refine (θ_run Cert.Kernel3Ideal.defs _ _).mono (fun r h c => ?_) (Cert.Kernel3Ideal.In.run_boundary (F := Ideal) m g)
    exact ⟨(h c _ (Cert.Kernel3Ideal.Gen.mem_uc Cert.Kernel3Ideal.main_v4 (by decide))).trans (Cert.Kernel3Ideal.In.end_z m g c),
      (h c _ (Cert.Kernel3Ideal.Gen.mem_uc Cert.Kernel3Ideal.main_v7_0 (by decide))).trans (Cert.Kernel3Ideal.In.end_dx m g c),
      (h c _ (Cert.Kernel3Ideal.Gen.mem_uc Cert.Kernel3Ideal.main_v7_1 (by decide))).trans (Cert.Kernel3Ideal.In.end_dxb m g c),
      (h c _ (Cert.Kernel3Ideal.Gen.mem_uc Cert.Kernel3Ideal.main_v8 (by decide))).trans (Cert.Kernel3Ideal.In.end_dw m g c),
      (h c _ (Cert.Kernel3Ideal.Gen.mem_uc Cert.Kernel3Ideal.main_v9 (by decide))).trans (Cert.Kernel3Ideal.In.end_dg m g c),
      (h c _ (Cert.Kernel3Ideal.Gen.mem_uc Cert.Kernel3Ideal.main_arg0 (by decide))).trans (Cert.Kernel3Ideal.Gen.W7_main_arg0 m g c),
      (h c _ (Cert.Kernel3Ideal.Gen.mem_uc Cert.Kernel3Ideal.main_arg1 (by decide))).trans (Cert.Kernel3Ideal.Gen.W7_main_arg1 m g c),
      (h c _ (Cert.Kernel3Ideal.Gen.mem_uc Cert.Kernel3Ideal.main_arg2 (by decide))).trans (Cert.Kernel3Ideal.Gen.W7_main_arg2 m g c),
      (h c _ (Cert.Kernel3Ideal.Gen.mem_uc Cert.Kernel3Ideal.main_arg3 (by decide))).trans (Cert.Kernel3Ideal.Gen.W7_main_arg3 m g c),
      (h c _ (Cert.Kernel3Ideal.Gen.mem_uc Cert.Kernel3Ideal.main_arg4 (by decide))).trans (Cert.Kernel3Ideal.Gen.W7_main_arg4 m g c),
      (h c _ (Cert.Kernel3Ideal.Gen.mem_uc Cert.Kernel3Ideal.main_arg5 (by decide))).trans (Cert.Kernel3Ideal.Gen.W7_main_arg5 m g c),
      (h c _ (Cert.Kernel3Ideal.Gen.mem_uc Cert.Kernel3Ideal.main_arg6 (by decide))).trans (Cert.Kernel3Ideal.Gen.W7_main_arg6 m g c),
      (h c _ (Cert.Kernel3Ideal.Gen.mem_uc Cert.Kernel3Ideal.main_arg7 (by decide))).trans (Cert.Kernel3Ideal.Gen.W7_main_arg7 m g c),
      (h c _ (Cert.Kernel3Ideal.Gen.mem_uc Cert.Kernel3Ideal.main_arg8 (by decide))).trans (Cert.Kernel3Ideal.Gen.W7_main_arg8 m g c)⟩
  · refine (θ_run Cert.Reference3Ideal.defs _ _).mono (fun r h c => ?_) (Cert.Reference3Ideal.Value.run (F := Ideal) m' g')
    obtain ⟨a0, a1, a2, a3, a4, a5, a6, a7, a8⟩ := hag c
    obtain ⟨r0, r1, r2, r3, r4, rest⟩ := h c
    refine ⟨?_, ?_, ?_, ?_, ?_, rest⟩
    · refine r0.trans ((Cert.Reference3Ideal.Read.val_main_v18_eq _ _ _).trans ?_)
      rw [a0, a1, a2]; exact of_entries fun a b => Cert.Reference3Ideal.In.z _ _ _ a b
    · refine r1.trans ((Cert.Reference3Ideal.Read.val_main_v42_eq m' c).trans ?_)
      rw [a0, a1, a2, a3, a4, a5, a6, a7, a8]; exact of_entries fun a b => Cert.Reference3Ideal.In.gradX _ _ _ _ _ _ _ _ _ a b
    · refine r2.trans ((Cert.Reference3Ideal.Read.val_main_v43_eq m' c).trans ?_)
      rw [a0, a1, a2, a3, a4, a5, a6, a7, a8]; exact of_entries fun a b => Cert.Reference3Ideal.In.gradXb _ _ _ _ _ _ _ _ _ a b
    · refine r3.trans ((Cert.Reference3Ideal.Read.val_main_v44_eq _ _ _ _ _ _ _).trans ?_)
      rw [a0, a1, a3, a4, a5, a6, a7]; exact of_entries fun a b => Cert.Reference3Ideal.In.gradW _ _ _ _ _ _ _ a b
    · refine r4.trans ((Cert.Reference3Ideal.Read.val_main_v27_eq _ _ _ _ _ _ _).trans ?_)
      rw [a0, a2, a3, a4, a5, a6, a7]; exact of_entries1 fun a => Cert.Reference3Ideal.In.gradG _ _ _ _ _ _ _ a

end Cert.InClaim

end
-- ==== Proof.OutSpec.lean ====
/-
  The second half of a layer, entry by entry: the mixers' output through the output projection onto the residual, the norm, the
  gated feed-forward part onto the residual, and the next layer's norm; and the gradient of the output projection's weight.
-/
module

public import proofs.«01_k».proof.Proof.InSpec
public import proofs.«01_k».proof.Proof.FfnSpec

@[expose] public section

set_option maxRecDepth 16384

noncomputable section

open Idealize.ShloMosaic

namespace OutSpec

open FfnTile InSpec
open FfnSpec (SI SO grp grpW)

/-- The output projection's weight. -/
abbrev SM : Shape := ⟨2, ![2048, 2048]⟩

/-- The residual after the mixers. -/
def Mid (y : ST.Idx → EReal) (w : SM.Idx → EReal) (x : ST.Idx → EReal) : ST.Idx → EReal := fun i =>
  (∑ k : Fin 2048, y (ix2 (i 0) k) * w (ix2 k (i 1))) + x i

/-- The normalised tokens, as an array. -/
def normed (x : ST.Idx → EReal) (g : Fin 2048 → EReal) : ST.Idx → EReal := fun i => Norm x g (i 0) (i 1)

/-- The feed-forward part onto the residual, from the hidden layer by groups. -/
def onto (g u : SH.Idx → EReal) (w : SG.Idx → EReal) (x : ST.Idx → EReal) : ST.Idx → EReal := fun i => down (act g u) w i + x i

/-- The same from the normalised tokens and the whole weights. -/
def Last (h : ST.Idx → EReal) (wg wu : SI.Idx → EReal) (wd : SO.Idx → EReal) (x : ST.Idx → EReal) : ST.Idx → EReal := fun i =>
  (∑ n : Fin 5632, FfnSpec.Act h wg wu (i 0) n * wd (ix2 n (i 1))) + x i

/-- The gradient of the output projection's weight: a sum over the tokens. -/
def GradOut (y d : ST.Idx → EReal) : SM.Idx → EReal := fun i => ∑ t : Fin 4096, y (ix2 t (i 0)) * d (ix2 t (i 1))

/-- The two groups together. -/
theorem onto_grp (h : ST.Idx → EReal) (wg wu : SI.Idx → EReal) (wd : SO.Idx → EReal) (x : ST.Idx → EReal) :
    onto (proj h (grpW fun n k => wg (ix2 k n))) (proj h (grpW fun n k => wu (ix2 k n))) (grpW fun n d => wd (ix2 n d)) x = Last h wg wu wd x := by
  unfold onto
  rw [FfnSpec.proj_grp, FfnSpec.proj_grp, FfnSpec.act_grp, FfnSpec.down_grp]
  rfl

end OutSpec

end
-- ==== Proof.OutForward.lean ====
/-
  The launches of the output projection with its norm and of its weight's gradient.
-/
module

public import proofs.«01_k».proof.Proof.Gen.Kernel4Ideal.Frame
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen FfnTile InSpec OutSpec

variable (V : (c : Dev nD) → (b : Ref sig .tc) → Buf (Elt Ideal) ((c : Thread nD τ).loc b)) (c : Dev nD)

/-! ## The projection onto the residual and the norm: 512 tokens a tile -/

/-- A tile's row of the new residual. -/
def midB (x0 : S512x2048.Idx → EReal) (x1 : S2048x2048.Idx → EReal) (x2 : S512x2048.Idx → EReal) (r : Fin 512) (d : Fin 2048) : EReal :=
  (∑ k : Fin 2048, x0 (ix2 r k) * x1 (ix2 k d)) + x2 (ix2 r d)

theorem mid_block (x0 : Vec Ideal S512x2048 .bf16) (x1 : Vec Ideal S2048x2048 .bf16) (x2 : Vec Ideal S512x2048 .f32) (x3 : Vec Ideal S1x2048 .f32)
    (y : S512x2048.Idx) : out0_4 x0 x1 x2 x3 y = midB x0 x1 x2 (y 0) (y 1) := by
  obtain ⟨r, d, rfl⟩ : ∃ (r : Fin 512) (d : Fin 2048), y = ix2 r d := ⟨_, _, eq_ix2 y⟩
  unfold out0_4 r0_0 r0_1
  rw [View.canon_unit_zero (by funext a; fin_cases a <;> rfl)]
  open_payloads
  pointwise []
  rfl

theorem midn_block (x0 : Vec Ideal S512x2048 .bf16) (x1 : Vec Ideal S2048x2048 .bf16) (x2 : Vec Ideal S512x2048 .f32) (x3 : Vec Ideal S1x2048 .f32)
    (y : S512x2048.Idx) : out0_5 x0 x1 x2 x3 y = normAt (midB x0 x1 x2 (y 0)) (fun k => x3 (ix2 0 k)) (y 1) := by
  obtain ⟨r, d, rfl⟩ : ∃ (r : Fin 512) (d : Fin 2048), y = ix2 r d := ⟨_, _, eq_ix2 y⟩
  unfold out0_5 r0_0 r0_1 r0_2
  rw [View.canon_unit_zero (by funext a; fin_cases a <;> rfl)]
  open_payloads
  pointwise []
  rfl

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem read0_0 (t : Fin cfg0.N) (ht : t.val < 8) (p : Fin 512) (k : Fin 2048) :
    iblk0 V c 0 t (ix2 p k) = V c main_arg0 (ix2 ⟨t.val * 512 + p.val, by omega⟩ k) := by
  blk_ext [iblk0, idx0 t]

theorem read0_1 (t : Fin cfg0.N) (k d : Fin 2048) : iblk0 V c 1 t (ix2 k d) = V c main_v8 (ix2 k d) := by
  blk_ext [iblk0, idx0 t]

theorem read0_2 (t : Fin cfg0.N) (ht : t.val < 8) (p : Fin 512) (k : Fin 2048) :
    iblk0 V c 2 t (ix2 p k) = V c main_arg2 (ix2 ⟨t.val * 512 + p.val, by omega⟩ k) := by
  blk_ext [iblk0, idx0 t]

theorem read0_3 (t : Fin cfg0.N) (k : Fin 2048) : iblk0 V c 3 t (ix2 0 k) = V c main_v9 (ix2 0 k) := by
  blk_ext [iblk0, idx0 t]

/-- The whole residual after the mixers. -/
def midV : ST.Idx → EReal := Mid (V c main_arg0) (V c main_v8) (V c main_arg2)

theorem midB_eq (t : Fin cfg0.N) (ht : t.val < 8) (p : Fin 512) (d : Fin 2048) :
    midB (iblk0 V c 0 t) (iblk0 V c 1 t) (iblk0 V c 2 t) p d = midV V c (ix2 ⟨t.val * 512 + p.val, by omega⟩ d) :=
  congr2 (fun a b : EReal => a + b)
    (sum_mul_congr (fun k => read0_0 V c t ht p k) fun k => read0_1 V c t k d) (read0_2 V c t ht p d)

theorem final_mid : (dat0 V c).arrAt 4 cfg0.N = midV V c := by
  refine (dat0 V c).arrAt_eq_of_covers 4 _ (by decide +kernel) fun t hf y => ?_
  blk_simp
  rw [after0_4, mid_block]
  have ht : t.val < 8 := t.isLt
  refine Eq.trans ?_ (congrArg (midV V c) (ext2 (a := (⟨t.val * 512 + (y 0).val, ?_⟩ : Fin 4096)) (b := (y 1 : Fin 2048)) ?_ ?_).symm)
  · exact midB_eq V c t ht (y 0) (y 1)
  all_goals (try blk_simp [idx0 t]) <;> idx_bounds y <;> omega

theorem final_midn : (dat0 V c).arrAt 5 cfg0.N = normed (midV V c) fun k => V c main_v9 (ix2 0 k) := by
  refine (dat0 V c).arrAt_eq_of_covers 5 _ (by decide +kernel) fun t hf y => ?_
  blk_simp
  rw [after0_5, midn_block]
  have ht : t.val < 8 := t.isLt
  refine Eq.trans ?_ (congrArg (normed (midV V c) fun k => V c main_v9 (ix2 0 k))
    (ext2 (a := (⟨t.val * 512 + (y 0).val, ?_⟩ : Fin 4096)) (b := (y 1 : Fin 2048)) ?_ ?_).symm)
  · exact congr2 (fun u v => normAt u v (y 1 : Fin 2048)) (funext fun k => midB_eq V c t ht (y 0) k) (funext fun k => read0_3 V c t k)
  all_goals (try blk_simp [idx0 t]) <;> idx_bounds y <;> omega

/-! ## The weight's gradient: 512 rows a tile -/

theorem dw_block (x0 : Vec Ideal S4096x512 .bf16) (x1 : Vec Ideal S4096x2048 .bf16) (y : S512x2048.Idx) :
    out4_2 x0 x1 y = ∑ t : Fin 4096, x0 (ix2 t (y 0)) * x1 (ix2 t (y 1)) := by
  obtain ⟨r, d, rfl⟩ : ∃ (r : Fin 512) (d : Fin 2048), y = ix2 r d := ⟨_, _, eq_ix2 y⟩
  unfold out4_2 r4_0 r4_1 r4_2
  rw [View.canon_unit_zero (by funext a; fin_cases a <;> rfl)]
  open_payloads
  pointwise []

theorem idx4 : ∀ t : Fin cfg4.N, win4_0.index t = ![0, t.val] ∧ win4_1.index t = ![0, 0] ∧ win4_2.index t = ![t.val, 0] :=
  (by decide +kernel : ∀ t : Fin grid4.N, _)

theorem final_dw : (dat4 V c).arrAt 2 cfg4.N = GradOut (V c main_arg0) (V c main_arg8) := by
  refine (dat4 V c).arrAt_eq_of_covers 2 _ (by decide +kernel) fun t hf y => ?_
  blk_simp
  rw [after4_2, dw_block]
  have ht : t.val < 4 := t.isLt
  refine sum_mul_congr (fun k => ?_) fun k => ?_
  all_goals blk_ext [iblk4, idx4 t]

end Cert.Kernel4Ideal.Out

end
-- ==== Proof.OutFfn.lean ====
/-
  The launches of the feed-forward part: the two projections, and the activation with the second product onto the residual and
  the norm after it.
-/
module

public import proofs.«01_k».proof.Proof.Gen.Kernel4Ideal.Frame
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen FfnTile InSpec OutSpec

variable (V : (c : Dev nD) → (b : Ref sig .tc) → Buf (Elt Ideal) ((c : Thread nD τ).loc b)) (c : Dev nD)

/-! ## The two projections: group `t / 4`, rows of tile `t % 4` -/

theorem gate_block (x0 : S1024x2048.Idx → EReal) (x1 : S1x2816x2048.Idx → EReal) (y : S1x1024x2816.Idx) :
    out1_2 (F := Ideal) x0 x1 y = ∑ k : Fin 2048, x0 (ix2 (y 1) k) * x1 (ix3 0 (y 2) k) := by
  unfold out1_2 r1_2
  rw [View.canon_unit_zero (by funext a; fin_cases a <;> rfl)]
  open_payloads
  pointwise []

theorem idx1 : ∀ t : Fin cfg1.N, win1_0.index t = ![t.val % 4, 0] ∧ win1_1.index t = ![t.val / 4, 0, 0] ∧ win1_2.index t = ![t.val / 4, t.val % 4, 0] :=
  (by decide +kernel : ∀ t : Fin grid1.N, _)

theorem final_gate : (dat1 V c).arrAt 2 cfg1.N = proj (V c main_v10_1) (V c main_v3) := by
  refine (dat1 V c).arrAt_eq_of_covers 2 _ (by decide +kernel) fun t hf y => ?_
  blk_simp
  rw [after1_2, gate_block]
  refine sum_mul_congr (fun k => ?_) fun k => ?_
  all_goals blk_ext [iblk1, idx1 t]

theorem up_block (x0 : S1024x2048.Idx → EReal) (x1 : S1x2816x2048.Idx → EReal) (y : S1x1024x2816.Idx) :
    out2_2 (F := Ideal) x0 x1 y = ∑ k : Fin 2048, x0 (ix2 (y 1) k) * x1 (ix3 0 (y 2) k) := by
  unfold out2_2 r2_2
  rw [View.canon_unit_zero (by funext a; fin_cases a <;> rfl)]
  open_payloads
  pointwise []

theorem idx2 : ∀ t : Fin cfg2.N, win2_0.index t = ![t.val % 4, 0] ∧ win2_1.index t = ![t.val / 4, 0, 0] ∧ win2_2.index t = ![t.val / 4, t.val % 4, 0] :=
  (by decide +kernel : ∀ t : Fin grid2.N, _)

theorem final_up : (dat2 V c).arrAt 2 cfg2.N = proj (V c main_v10_1) (V c main_v5) := by
  refine (dat2 V c).arrAt_eq_of_covers 2 _ (by decide +kernel) fun t hf y => ?_
  blk_simp
  rw [after2_2, up_block]
  refine sum_mul_congr (fun k => ?_) fun k => ?_
  all_goals blk_ext [iblk2, idx2 t]

/-! ## The second product and the norm: 256 tokens a tile -/

/-- A tile's row of the new residual. -/
def lastB (x0 x1 : S2x256x2816.Idx → EReal) (x2 : S2x2816x2048.Idx → EReal) (x3 : S256x2048.Idx → EReal) (r : Fin 256) (d : Fin 2048) : EReal :=
  (∑ n : Fin 2816, actAt (x0 (ix3 0 r n)) (x1 (ix3 0 r n)) * x2 (ix3 0 n d)) + (∑ n : Fin 2816, actAt (x0 (ix3 1 r n)) (x1 (ix3 1 r n)) * x2 (ix3 1 n d))
    + x3 (ix2 r d)

theorem last_block (x0 x1 : Vec Ideal S2x256x2816 .bf16) (x2 : Vec Ideal S2x2816x2048 .bf16) (x3 : Vec Ideal S256x2048 .f32) (x4 : Vec Ideal S1x2048 .f32)
    (y : S256x2048.Idx) : out3_5 x0 x1 x2 x3 x4 y = lastB x0 x1 x2 x3 (y 0) (y 1) := by
  obtain ⟨r, d, rfl⟩ : ∃ (r : Fin 256) (d : Fin 2048), y = ix2 r d := ⟨_, _, eq_ix2 y⟩
  unfold_out out3_5
  rw [View.canon_unit_zero (by funext a; fin_cases a <;> rfl)]
  open_payloads
  pointwise []
  rfl

theorem lastn_block (x0 x1 : Vec Ideal S2x256x2816 .bf16) (x2 : Vec Ideal S2x2816x2048 .bf16) (x3 : Vec Ideal S256x2048 .f32) (x4 : Vec Ideal S1x2048 .f32)
    (y : S256x2048.Idx) : out3_7 x0 x1 x2 x3 x4 y = normAt (lastB x0 x1 x2 x3 (y 0)) (fun k => x4 (ix2 0 k)) (y 1) := by
  obtain ⟨r, d, rfl⟩ : ∃ (r : Fin 256) (d : Fin 2048), y = ix2 r d := ⟨_, _, eq_ix2 y⟩
  unfold_out out3_7
  rw [View.canon_unit_zero (by funext a; fin_cases a <;> rfl)]
  open_payloads
  pointwise []
  rfl

theorem idx3 : ∀ t : Fin cfg3.N, win3_0.index t = ![0, t.val, 0] ∧ win3_1.index t = ![0, t.val, 0] ∧ win3_2.index t = ![0, 0, 0]
    ∧ win3_3.index t = ![t.val, 0] ∧ win3_4.index t = ![0, 0] ∧ win3_5.index t = ![t.val, 0] ∧ win3_7.index t = ![t.val, 0] :=
  (by decide +kernel : ∀ t : Fin grid3.N, _)

theorem read3_0 (t : Fin cfg3.N) (ht : t.val < 16) (j : Fin 2) (p : Fin 256) (n : Fin 2816) :
    iblk3 V c 0 t (ix3 j p n) = V c main_v11 (ix3 j ⟨t.val * 256 + p.val, by omega⟩ n) := by
  blk_ext [iblk3, idx3 t]

theorem read3_1 (t : Fin cfg3.N) (ht : t.val < 16) (j : Fin 2) (p : Fin 256) (n : Fin 2816) :
    iblk3 V c 1 t (ix3 j p n) = V c main_v12 (ix3 j ⟨t.val * 256 + p.val, by omega⟩ n) := by
  blk_ext [iblk3, idx3 t]

theorem read3_2 (t : Fin cfg3.N) (j : Fin 2) (n : Fin 2816) (k : Fin 2048) : iblk3 V c 2 t (ix3 j n k) = V c main_v7 (ix3 j n k) := by
  blk_ext [iblk3, idx3 t]

theorem read3_3 (t : Fin cfg3.N) (ht : t.val < 16) (p : Fin 256) (k : Fin 2048) :
    iblk3 V c 3 t (ix2 p k) = V c main_v10_0 (ix2 ⟨t.val * 256 + p.val, by omega⟩ k) := by
  blk_ext [iblk3, idx3 t]

theorem read3_4 (t : Fin cfg3.N) (k : Fin 2048) : iblk3 V c 4 t (ix2 0 k) = V c main_v13 (ix2 0 k) := by
  blk_ext [iblk3, idx3 t]

/-- The whole residual after the feed-forward part. -/
def lastV : ST.Idx → EReal := onto (V c main_v11) (V c main_v12) (V c main_v7) (V c main_v10_0)

theorem lastB_eq (t : Fin cfg3.N) (ht : t.val < 16) (p : Fin 256) (k : Fin 2048) :
    lastB (iblk3 V c 0 t) (iblk3 V c 1 t) (iblk3 V c 2 t) (iblk3 V c 3 t) p k = lastV V c (ix2 ⟨t.val * 256 + p.val, by omega⟩ k) :=
  congr3 (fun a b x : EReal => a + b + x)
    (sum_mul_congr (fun n => congr2 actAt (read3_0 V c t ht 0 p n) (read3_1 V c t ht 0 p n)) fun n => read3_2 V c t 0 n k)
    (sum_mul_congr (fun n => congr2 actAt (read3_0 V c t ht 1 p n) (read3_1 V c t ht 1 p n)) fun n => read3_2 V c t 1 n k)
    (read3_3 V c t ht p k)

theorem final_last : (dat3 V c).arrAt 5 cfg3.N = lastV V c := by
  refine (dat3 V c).arrAt_eq_of_covers 5 _ (by decide +kernel) fun t hf y => ?_
  blk_simp
  rw [after3_5, last_block]
  have ht : t.val < 16 := t.isLt
  refine Eq.trans ?_ (congrArg (lastV V c) (ext2 (a := (⟨t.val * 256 + (y 0).val, ?_⟩ : Fin 4096)) (b := (y 1 : Fin 2048)) ?_ ?_).symm)
  · exact lastB_eq V c t ht (y 0) (y 1)
  all_goals (try blk_simp [idx3 t]) <;> idx_bounds y <;> omega

theorem final_lastn : (dat3 V c).arrAt 7 cfg3.N = normed (lastV V c) fun k => V c main_v13 (ix2 0 k) := by
  refine (dat3 V c).arrAt_eq_of_covers 7 _ (by decide +kernel) fun t hf y => ?_
  blk_simp
  rw [after3_7, lastn_block]
  have ht : t.val < 16 := t.isLt
  refine Eq.trans ?_ (congrArg (normed (lastV V c) fun k => V c main_v13 (ix2 0 k))
    (ext2 (a := (⟨t.val * 256 + (y 0).val, ?_⟩ : Fin 4096)) (b := (y 1 : Fin 2048)) ?_ ?_).symm)
  · exact congr2 (fun u v => normAt u v (y 1 : Fin 2048)) (funext fun k => lastB_eq V c t ht (y 0) k) (funext fun k => read3_4 V c t k)
  all_goals (try blk_simp [idx3 t]) <;> idx_bounds y <;> omega

end Cert.Kernel4Ideal.Out

end
-- ==== Proof.OutHost.lean ====
/-
  The host lines around the launches of a layer's second half: the feed-forward weights by groups of units, the scales as rows.
-/
module

public import proofs.«01_k».proof.Proof.Gen.Kernel4Ideal.Frame
public import proofs.«01_k».proof.Proof.FfnSpec
import Idealize.ShloMosaic.Lib.Pipeline.ValueKit

@[expose] public section

set_option maxRecDepth 16384

noncomputable section

open Idealize.ShloMosaic Idealize.ShloMosaic.TcCoe Idealize.ShloMosaic.StableHlo Idealize.SL.Sem

namespace Cert.Kernel4Ideal.Out

open Cert.Kernel4Ideal Cert.Kernel4Ideal.Gen FfnTile FfnSpec

variable (V : Valuation τ sig (Elt Ideal))

/-- The gate's weight, transposed and cut into two groups. -/
theorem host_v3 : after hostOps0 V (Proc.devRef .tc main_v3) = grpW fun n k => V (Proc.devRef .tc main_arg4) (ix2 k n) := by
  after_results
  funext i
  obtain ⟨j, n, k, rfl⟩ : ∃ (j : Fin 2) (n : Fin 2816) (k : Fin 2048), i = ix3 j n k := ⟨_, _, _, eq_ix3 i⟩
  pointwise []
  rfl

/-- The other factor's weight, transposed and cut into two groups. -/
theorem host_v5 : after hostOps0 V (Proc.devRef .tc main_v5) = grpW fun n k => V (Proc.devRef .tc main_arg5) (ix2 k n) := by
  after_results
  funext i
  obtain ⟨j, n, k, rfl⟩ : ∃ (j : Fin 2) (n : Fin 2816) (k : Fin 2048), i = ix3 j n k := ⟨_, _, _, eq_ix3 i⟩
  pointwise []
  rfl

/-- The second weight, cut into two groups. -/
theorem host_v7 : after hostOps0 V (Proc.devRef .tc main_v7) = grpW fun n k => V (Proc.devRef .tc main_arg6) (ix2 n k) := by
  after_results
  funext i
  obtain ⟨j, n, k, rfl⟩ : ∃ (j : Fin 2) (n : Fin 2816) (k : Fin 2048), i = ix3 j n k := ⟨_, _, _, eq_ix3 i⟩
  pointwise []
  rfl

/-- The output projection's weight. -/
theorem host_v8 : after hostOps0 V (Proc.devRef .tc main_v8) = V (Proc.devRef .tc main_arg1) := by
  after_results
  rfl

/-- The scale of the norm after the mixers, as one row. -/
theorem host_v9 : after hostOps0 V (Proc.devRef .tc main_v9) = fun i : S1x2048.Idx => V (Proc.devRef .tc main_arg3) (ix1 (i 1)) := by
  after_results
  funext i
  obtain ⟨z, k, rfl⟩ : ∃ (z : Fin 1) (k : Fin 2048), i = ix2 z k := ⟨_, _, eq_ix2 i⟩
  pointwise []

/-- The scale of the next layer's norm, as one row. -/
theorem host_v13 : after hostOps3 V (Proc.devRef .tc main_v13) = fun i : S1x2048.Idx => V (Proc.devRef .tc main_arg7) (ix1 (i 1)) := by
  after_results
  funext i
  obtain ⟨z, k, rfl⟩ : ∃ (z : Fin 1) (k : Fin 2048), i = ix2 z k := ⟨_, _, eq_ix2 i⟩
  pointwise []

end Cert.Kernel4Ideal.Out

end
-- ==== Proof.OutRun.lean ====
/-
  The run of the launches of a layer's second half: what the program's results hold at the end.
-/
module

public import proofs.«01_k».proof.Proof.OutForward
public import proofs.«01_k».proof.Proof.OutFfn
public import proofs.«01_k».proof.Proof.OutHost

@[expose] public section

set_option maxRecDepth 16384

noncomputable section

open Idealize.SL Idealize.SL.RA Idealize.SL.BI Idealize.ShloMosaic Idealize.ShloMosaic.TcCoe Idealize.ShloMosaic.StableHlo
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Out

open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, the launches end with every buffer of @main at the last boundary's contents. -/
theorem run_boundary : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Cert.Kernel4Ideal.Out

namespace Cert.Kernel4Ideal.Out

open Cert.Kernel4Ideal Cert.Kernel4Ideal.Gen FfnTile InSpec OutSpec
open FfnSpec (SI SO grp grpW)

variable (m : (ℓ : Loc nD τ sig) → Buf (Elt Ideal) ℓ) (ρ : Dev nD → PrngReg) (c : Dev nD)

/-- The arguments' contents. -/
abbrev Y : ST.Idx → EReal := m ((c : Thread nD τ).loc main_arg0)
abbrev W : SM.Idx → EReal := m ((c : Thread nD τ).loc main_arg1)
abbrev X : ST.Idx → EReal := m ((c : Thread nD τ).loc main_arg2)
abbrev G2 : Fin 2048 → EReal := fun k => (m ((c : Thread nD τ).loc main_arg3) : S2048.Idx → EReal) (ix1 k)
abbrev Wg : SI.Idx → EReal := m ((c : Thread nD τ).loc main_arg4)
abbrev Wu : SI.Idx → EReal := m ((c : Thread nD τ).loc main_arg5)
abbrev Wd : SO.Idx → EReal := m ((c : Thread nD τ).loc main_arg6)
abbrev G1 : Fin 2048 → EReal := fun k => (m ((c : Thread nD τ).loc main_arg7) : S2048.Idx → EReal) (ix1 k)
abbrev D : ST.Idx → EReal := m ((c : Thread nD τ).loc main_arg8)

/-- The residual and the normalised tokens in the middle of the layer, and the residual after it. -/
abbrev X1 : ST.Idx → EReal := Mid (Y m c) (W m c) (X m c)
abbrev H2 : ST.Idx → EReal := normed (X1 m c) (G2 m c)
abbrev X2 : ST.Idx → EReal := Last (H2 m c) (Wg m c) (Wu m c) (Wd m c) (X1 m c)

/-! ## The middle of the layer -/

theorem mid_1 : midV (V1 m ρ) c = X1 m c := by
  have e0 : V1 m ρ c main_arg0 = Y m c := W1_args m ρ c main_arg0 (by decide)
  have e2 : V1 m ρ c main_arg2 = X m c := W1_args m ρ c main_arg2 (by decide)
  have e8 : V1 m ρ c main_v8 = W m c := host_v8 (W0 m ρ c)
  unfold midV
  rw [e0, e2, e8]

theorem mid_2 : W2 m ρ c (Proc.devRef .tc main_v10_0) = X1 m c := (W2_arr m ρ c 4).trans ((final_mid (V1 m ρ) c).trans (mid_1 m ρ c))

theorem midn_2 : W2 m ρ c (Proc.devRef .tc main_v10_1) = H2 m c := by
  have e9 : V1 m ρ c main_v9 = fun i : S1x2048.Idx => G2 m c (i 1) := host_v9 (W0 m ρ c)
  refine (W2_arr m ρ c 5).trans ((final_midn (V1 m ρ) c).trans ?_)
  rw [mid_1, e9]
  rfl

/-! ## The feed-forward part -/

theorem gate_3 : W3 m ρ c (Proc.devRef .tc main_v11) = proj (H2 m c) (grpW fun n k => Wg m c (ix2 k n)) :=
  (W3_arr m ρ c 2).trans ((final_gate (V2 m ρ) c).trans (congr2 proj (midn_2 m ρ c)
    ((W2_of m ρ c main_v3 (by decide +kernel)).trans (host_v3 (W0 m ρ c)))))

theorem up_4 : W4 m ρ c (Proc.devRef .tc main_v12) = proj (H2 m c) (grpW fun n k => Wu m c (ix2 k n)) :=
  (W4_arr m ρ c 2).trans ((final_up (V3 m ρ) c).trans (congr2 proj ((W3_of m ρ c main_v10_1 (by decide +kernel)).trans (midn_2 m ρ c))
    ((W3_of m ρ c main_v5 (by decide +kernel)).trans ((W2_of m ρ c main_v5 (by decide +kernel)).trans (host_v5 (W0 m ρ c))))))

theorem mid_5 : W5 m ρ c (Proc.devRef .tc main_v10_0) = X1 m c :=
  (W5_of m ρ c main_v10_0 (by decide)).trans ((W4_of m ρ c main_v10_0 (by decide +kernel)).trans
    ((W3_of m ρ c main_v10_0 (by decide +kernel)).trans (mid_2 m ρ c)))

theorem last_5 : lastV (V5 m ρ) c = X2 m c := by
  have e11 : V5 m ρ c main_v11 = proj (H2 m c) (grpW fun n k => Wg m c (ix2 k n)) :=
    (W5_of m ρ c main_v11 (by decide)).trans ((W4_of m ρ c main_v11 (by decide +kernel)).trans (gate_3 m ρ c))
  have e12 : V5 m ρ c main_v12 = proj (H2 m c) (grpW fun n k => Wu m c (ix2 k n)) := (W5_of m ρ c main_v12 (by decide)).trans (up_4 m ρ c)
  have e7 : V5 m ρ c main_v7 = grpW fun n d => Wd m c (ix2 n d) :=
    (W5_of m ρ c main_v7 (by decide)).trans ((W4_of m ρ c main_v7 (by decide +kernel)).trans ((W3_of m ρ c main_v7 (by decide +kernel)).trans
      ((W2_of m ρ c main_v7 (by decide +kernel)).trans (host_v7 (W0 m ρ c)))))
  have e10 : V5 m ρ c main_v10_0 = X1 m c := mid_5 m ρ c
  unfold lastV
  rw [e11, e12, e7, e10]
  exact onto_grp _ _ _ _ _

/-! ## The results at the end -/

theorem end_mid : W7 m ρ c (Proc.devRef .tc main_v10_0) = X1 m c :=
  (W7_of m ρ c main_v10_0 (by decide +kernel)).trans ((W6_of m ρ c main_v10_0 (by decide +kernel)).trans (mid_5 m ρ c))

theorem end_midn : W7 m ρ c (Proc.devRef .tc main_v10_1) = H2 m c :=
  (W7_of m ρ c main_v10_1 (by decide +kernel)).trans ((W6_of m ρ c main_v10_1 (by decide +kernel)).trans
    ((W5_of m ρ c main_v10_1 (by decide)).trans ((W4_of m ρ c main_v10_1 (by decide +kernel)).trans
      ((W3_of m ρ c main_v10_1 (by decide +kernel)).trans (midn_2 m ρ c)))))

theorem end_last : W7 m ρ c (Proc.devRef .tc main_v14_0) = X2 m c :=
  (W7_of m ρ c main_v14_0 (by decide +kernel)).trans ((W6_arr m ρ c 5).trans ((final_last (V5 m ρ) c).trans (last_5 m ρ c)))

theorem end_lastn : W7 m ρ c (Proc.devRef .tc main_v14_2) = normed (X2 m c) (G1 m c) := by
  have e13 : V5 m ρ c main_v13 = fun i : S1x2048.Idx => G1 m c (i 1) :=
    (host_v13 (W4 m ρ c)).trans (congrArg (fun (g : S2048.Idx → EReal) (i : S1x2048.Idx) => g (ix1 (i 1))) (W4_args m ρ c main_arg7 (by decide)))
  refine (W7_of m ρ c main_v14_2 (by decide +kernel)).trans ((W6_arr m ρ c 7).trans ((final_lastn (V5 m ρ) c).trans ?_))
  rw [last_5, e13]
  rfl

theorem end_dw : W7 m ρ c (Proc.devRef .tc main_v15) = GradOut (Y m c) (D m c) :=
  (W7_arr m ρ c 2).trans ((final_dw (V6 m ρ) c).trans (congr2 GradOut (W6_args m ρ c main_arg0 (by decide)) (W6_args m ρ c main_arg8 (by decide))))

end Cert.Kernel4Ideal.Out

end
-- ==== Proof.OutRef.lean ====
/-
  The reference's results for a layer's second half, read at an index: each of them is the function `OutSpec` names.
-/
module

public import proofs.«01_k».proof.Proof.Gen.Reference4Ideal.Read
public import proofs.«01_k».proof.Proof.OutSpec

@[expose] public section

set_option maxRecDepth 16384

noncomputable section

open Idealize.ShloMosaic Idealize.ShloMosaic.TcCoe Idealize.SL.Sem

namespace Cert.Reference4Ideal.Out

open Cert.Reference4Ideal Cert.Reference4Ideal.Read FfnTile InSpec NormGrad OutSpec
open FfnSpec (SI SO)
open SoftmaxReal (one_eq)

theorem zero_eq : Ideal.ofBits FTy.f32 0x00000000#32 = 0 := Ideal.ofBits_zero_f32

variable (x0 : ST.Idx → EReal) (x1 : SM.Idx → EReal) (x2 : ST.Idx → EReal) (x3 : S2048.Idx → EReal)
  (x4 x5 : SI.Idx → EReal) (x6 : SO.Idx → EReal) (x7 : S2048.Idx → EReal) (x8 : ST.Idx → EReal)

/-- A scale. -/
abbrev scale (g : S2048.Idx → EReal) : Fin 2048 → EReal := fun k => g (ix1 k)

/-! ## The middle of the layer -/

/-- The residual after the mixers. -/
abbrev X1 : ST.Idx → EReal := Mid x0 x1 x2

theorem mid (t : Fin 4096) (d : Fin 2048) : val_main_v3 (F := Ideal) x0 x1 x2 (ix2 t d) = X1 x0 x1 x2 (ix2 t d) := by
  have e : val_main_v3 (F := Ideal) x0 x1 x2 (ix2 t d) = x2 (ix2 t d) + val_main_v2 (F := Ideal) x0 x1 (ix2 t d) := rfl
  rw [e, val_main_v2_apply, add_comm]
  exact congrArg (· + x2 (ix2 t d)) (sum_mul_congr (fun k => congrArg x0 (ext2 rfl rfl)) fun k => congrArg x1 (ext2 rfl rfl))

theorem sumsq1 (t : Fin 4096) : val_main_v5 (F := Ideal) x0 x1 x2 (ix1 t) = ∑ k : Fin 2048, row (X1 x0 x1 x2) t k * row (X1 x0 x1 x2) t k := by
  rw [val_main_v5_apply]
  refine (congrArg (· + _) zero_eq).trans ((zero_add _).trans (Finset.sum_congr rfl fun k _ => ?_))
  have e : val_main_v4 (F := Ideal) x0 x1 x2 (ix2 t k) = val_main_v3 (F := Ideal) x0 x1 x2 (ix2 t k) * val_main_v3 (F := Ideal) x0 x1 x2 (ix2 t k) := rfl
  refine (congrArg (val_main_v4 (F := Ideal) x0 x1 x2) (ext2 (a := t) (b := k) rfl rfl)).trans (e.trans ?_)
  rw [mid]
  rfl

theorem ms1 (t : Fin 4096) : val_main_v10 (F := Ideal) x0 x1 x2 (ix2 t 0) = msq (row (X1 x0 x1 x2) t) := by
  have e : val_main_v10 (F := Ideal) x0 x1 x2 (ix2 t 0) = Ideal.div (val_main_v6 (F := Ideal) x0 x1 x2 (ix2 t 0)) cN + cE := rfl
  rw [e, msq, val_main_v6_apply]
  exact congrArg (fun a => Ideal.div a cN + cE) ((congrArg (val_main_v5 (F := Ideal) x0 x1 x2) (eq_ix1 _)).trans (sumsq1 x0 x1 x2 t))

theorem root1 (t : Fin 4096) : val_main_v11 (F := Ideal) x0 x1 x2 (ix2 t 0) = inv (row (X1 x0 x1 x2) t) := by
  have e : val_main_v11 (F := Ideal) x0 x1 x2 (ix2 t 0) = Ideal.rsqrt (val_main_v10 (F := Ideal) x0 x1 x2 (ix2 t 0)) := rfl
  rw [e, ms1]
  rfl

theorem scale1 (t : Fin 4096) (k : Fin 2048) : val_main_v15 (F := Ideal) x3 (ix2 t k) = scale x3 k := by
  rw [val_main_v15_apply, val_main_v14_apply]
  exact congrArg x3 (eq_ix1 _)

theorem norm1 (t : Fin 4096) (k : Fin 2048) : val_main_v16 (F := Ideal) x0 x1 x2 x3 (ix2 t k) = normAt (row (X1 x0 x1 x2) t) (scale x3) k := by
  have e : val_main_v16 (F := Ideal) x0 x1 x2 x3 (ix2 t k)
      = val_main_v3 (F := Ideal) x0 x1 x2 (ix2 t k) * val_main_v12 (F := Ideal) x0 x1 x2 (ix2 t k) * val_main_v15 (F := Ideal) x3 (ix2 t k) := rfl
  have r : val_main_v12 (F := Ideal) x0 x1 x2 (ix2 t k) = inv (row (X1 x0 x1 x2) t) := by
    rw [val_main_v12_apply]
    exact (congrArg (val_main_v11 (F := Ideal) x0 x1 x2) (ext2 (a := t) (b := (0 : Fin 1)) rfl rfl)).trans (root1 x0 x1 x2 t)
  rw [e, r, mid, scale1]
  rfl

/-- The normalised tokens. -/
abbrev H2 : ST.Idx → EReal := normed (X1 x0 x1 x2) (scale x3)

/-! ## The feed-forward part -/

theorem gate (t : Fin 4096) (n : Fin 5632) : val_main_v17 (F := Ideal) x0 x1 x2 x3 x4 (ix2 t n) = FfnSpec.Proj (H2 x0 x1 x2 x3) x4 t n :=
  (val_main_v17_apply x0 x1 x2 x3 x4 _).trans (sum_mul_congr
    (fun k => (congrArg (val_main_v16 (F := Ideal) x0 x1 x2 x3) (ext2 (a := t) (b := k) rfl rfl)).trans (norm1 x0 x1 x2 x3 t k)) fun k => congrArg x4 (ext2 rfl rfl))

theorem up (t : Fin 4096) (n : Fin 5632) : val_main_v19 (F := Ideal) x0 x1 x2 x3 x5 (ix2 t n) = FfnSpec.Proj (H2 x0 x1 x2 x3) x5 t n :=
  (val_main_v19_apply x0 x1 x2 x3 x5 _).trans (sum_mul_congr
    (fun k => (congrArg (val_main_v16 (F := Ideal) x0 x1 x2 x3) (ext2 (a := t) (b := k) rfl rfl)).trans (norm1 x0 x1 x2 x3 t k)) fun k => congrArg x5 (ext2 rfl rfl))

theorem one (t : Fin 4096) (n : Fin 5632) : val_main_call0_v2 (F := Ideal) (ix2 t n) = 1 := by
  rw [val_main_call0_v2_apply, val_main_call0_cst_apply]; exact one_eq

theorem one' (t : Fin 4096) (n : Fin 5632) : val_main_call0_v4 (F := Ideal) (ix2 t n) = 1 := by
  rw [val_main_call0_v4_apply, val_main_call0_cst_0_apply]; exact one_eq

theorem sigma (t : Fin 4096) (n : Fin 5632) :
    val_main_call0_v5 (F := Ideal) x0 x1 x2 x3 x4 (ix2 t n) = sigm (FfnSpec.Proj (H2 x0 x1 x2 x3) x4 t n) := by
  have e : val_main_call0_v5 (F := Ideal) x0 x1 x2 x3 x4 (ix2 t n)
      = Ideal.div (val_main_call0_v4 (F := Ideal) (ix2 t n))
        (val_main_call0_v2 (F := Ideal) (ix2 t n) + Ideal.exp (-(val_main_v17 (F := Ideal) x0 x1 x2 x3 x4 (ix2 t n)))) := rfl
  rw [e, one, one', gate, sigm, zero_sub]

theorem act (t : Fin 4096) (n : Fin 5632) :
    val_main_v20 (F := Ideal) x0 x1 x2 x3 x4 x5 (ix2 t n) = FfnSpec.Act (H2 x0 x1 x2 x3) x4 x5 t n := by
  have e : val_main_v20 (F := Ideal) x0 x1 x2 x3 x4 x5 (ix2 t n)
      = val_main_v17 (F := Ideal) x0 x1 x2 x3 x4 (ix2 t n) * val_main_call0_v5 (F := Ideal) x0 x1 x2 x3 x4 (ix2 t n)
        * val_main_v19 (F := Ideal) x0 x1 x2 x3 x5 (ix2 t n) := rfl
  rw [e, sigma, gate, up]
  rfl

/-- The residual after the layer. -/
abbrev X2 : ST.Idx → EReal := Last (H2 x0 x1 x2 x3) x4 x5 x6 (X1 x0 x1 x2)

theorem last (t : Fin 4096) (d : Fin 2048) : val_main_v22 (F := Ideal) x0 x1 x2 x3 x4 x5 x6 (ix2 t d) = X2 x0 x1 x2 x3 x4 x5 x6 (ix2 t d) := by
  have e : val_main_v22 (F := Ideal) x0 x1 x2 x3 x4 x5 x6 (ix2 t d)
      = val_main_v3 (F := Ideal) x0 x1 x2 (ix2 t d) + val_main_v21 (F := Ideal) x0 x1 x2 x3 x4 x5 x6 (ix2 t d) := rfl
  rw [e, mid, val_main_v21_apply, add_comm]
  exact congrArg (· + X1 x0 x1 x2 (ix2 t d)) (sum_mul_congr
    (fun n => (congrArg (val_main_v20 (F := Ideal) x0 x1 x2 x3 x4 x5) (ext2 (a := t) (b := n) rfl rfl)).trans (act x0 x1 x2 x3 x4 x5 t n))
    fun n => congrArg x6 (ext2 rfl rfl))

theorem sumsq2 (t : Fin 4096) : val_main_v25 (F := Ideal) x0 x1 x2 x3 x4 x5 x6 (ix1 t) = ∑ k : Fin 2048, row (X2 x0 x1 x2 x3 x4 x5 x6) t k * row (X2 x0 x1 x2 x3 x4 x5 x6) t k := by
  rw [val_main_v25_apply]
  refine (congrArg (· + _) zero_eq).trans ((zero_add _).trans (Finset.sum_congr rfl fun k _ => ?_))
  have e : val_main_v24 (F := Ideal) x0 x1 x2 x3 x4 x5 x6 (ix2 t k) = val_main_v22 (F := Ideal) x0 x1 x2 x3 x4 x5 x6 (ix2 t k) * val_main_v22 (F := Ideal) x0 x1 x2 x3 x4 x5 x6 (ix2 t k) := rfl
  refine (congrArg (val_main_v24 (F := Ideal) x0 x1 x2 x3 x4 x5 x6) (ext2 (a := t) (b := k) rfl rfl)).trans (e.trans ?_)
  rw [last]
  rfl

theorem ms2 (t : Fin 4096) : val_main_v30 (F := Ideal) x0 x1 x2 x3 x4 x5 x6 (ix2 t 0) = msq (row (X2 x0 x1 x2 x3 x4 x5 x6) t) := by
  have e : val_main_v30 (F := Ideal) x0 x1 x2 x3 x4 x5 x6 (ix2 t 0) = Ideal.div (val_main_v26 (F := Ideal) x0 x1 x2 x3 x4 x5 x6 (ix2 t 0)) cN + cE := rfl
  rw [e, msq, val_main_v26_apply]
  exact congrArg (fun a => Ideal.div a cN + cE) ((congrArg (val_main_v25 (F := Ideal) x0 x1 x2 x3 x4 x5 x6) (eq_ix1 _)).trans (sumsq2 x0 x1 x2 x3 x4 x5 x6 t))

theorem root2 (t : Fin 4096) : val_main_v31 (F := Ideal) x0 x1 x2 x3 x4 x5 x6 (ix2 t 0) = inv (row (X2 x0 x1 x2 x3 x4 x5 x6) t) := by
  have e : val_main_v31 (F := Ideal) x0 x1 x2 x3 x4 x5 x6 (ix2 t 0) = Ideal.rsqrt (val_main_v30 (F := Ideal) x0 x1 x2 x3 x4 x5 x6 (ix2 t 0)) := rfl
  rw [e, ms2]
  rfl

theorem scale2 (t : Fin 4096) (k : Fin 2048) : val_main_v35 (F := Ideal) x7 (ix2 t k) = scale x7 k := by
  rw [val_main_v35_apply, val_main_v34_apply]
  exact congrArg x7 (eq_ix1 _)

theorem norm2 (t : Fin 4096) (k : Fin 2048) : val_main_v36 (F := Ideal) x0 x1 x2 x3 x4 x5 x6 x7 (ix2 t k) = normAt (row (X2 x0 x1 x2 x3 x4 x5 x6) t) (scale x7) k := by
  have e : val_main_v36 (F := Ideal) x0 x1 x2 x3 x4 x5 x6 x7 (ix2 t k)
      = val_main_v22 (F := Ideal) x0 x1 x2 x3 x4 x5 x6 (ix2 t k) * val_main_v32 (F := Ideal) x0 x1 x2 x3 x4 x5 x6 (ix2 t k) * val_main_v35 (F := Ideal) x7 (ix2 t k) := rfl
  have r : val_main_v32 (F := Ideal) x0 x1 x2 x3 x4 x5 x6 (ix2 t k) = inv (row (X2 x0 x1 x2 x3 x4 x5 x6) t) := by
    rw [val_main_v32_apply]
    exact (congrArg (val_main_v31 (F := Ideal) x0 x1 x2 x3 x4 x5 x6) (ext2 (a := t) (b := (0 : Fin 1)) rfl rfl)).trans (root2 x0 x1 x2 x3 x4 x5 x6 t)
  rw [e, r, last, scale2]
  rfl

/-! ## The results -/

theorem hidden (t : Fin 4096) (k : Fin 2048) : val_main_v23 (F := Ideal) x0 x1 x2 x3 (ix2 t k) = H2 x0 x1 x2 x3 (ix2 t k) := norm1 x0 x1 x2 x3 t k

theorem next (t : Fin 4096) (k : Fin 2048) :
    val_main_v37 (F := Ideal) x0 x1 x2 x3 x4 x5 x6 x7 (ix2 t k) = normed (X2 x0 x1 x2 x3 x4 x5 x6) (scale x7) (ix2 t k) := norm2 x0 x1 x2 x3 x4 x5 x6 x7 t k

theorem gradOut (k j : Fin 2048) : val_main_v40 (F := Ideal) x0 x8 (ix2 k j) = GradOut x0 x8 (ix2 k j) := by
  have e : val_main_v40 (F := Ideal) x0 x8 (ix2 k j) = val_main_v39 (F := Ideal) x0 x8 (ix2 k j) := rfl
  rw [e, val_main_v39_apply, val_main_v38_apply]
  refine Finset.sum_congr rfl fun t _ => ?_
  exact (mul_comm _ _).trans (congr2 mulE (congrArg x0 (ext2 rfl rfl)) (congrArg x8 (ext2 rfl rfl)))

end Cert.Reference4Ideal.Out

end
-- ==== Proof.OutClaim.lean ====
/-
  The claims about the program of a layer's second half and its reference.
-/
module

public import proofs.«01_k».proof.Defs
public import proofs.«01_k».proof.Proof.OutRun
public import proofs.«01_k».proof.Proof.OutRef
public import proofs.«01_k».proof.Proof.Gen.Kernel4.Frame

@[expose] public section

set_option maxRecDepth 16384

noncomputable section

open Idealize.ShloMosaic Idealize.ShloMosaic.TcCoe Idealize.SL.Sem

namespace Cert.OutClaim

open FfnTile InSpec OutSpec

instance : Cert.Kernel4.Facts := Cert.Kernel4.Gen.facts
instance : Cert.Kernel4Ideal.Facts := Cert.Kernel4Ideal.Gen.facts
instance : Cert.Reference4Ideal.Facts := Cert.Reference4Ideal.Gen.facts

theorem frame_kernel : Cert.quiescent_Kernel4 := fun m ρ _ => Cert.Kernel4.Gen.frame m ρ

theorem frame_kernelIdeal : Cert.quiescent_Kernel4Ideal := fun m ρ _ => Cert.Kernel4Ideal.Gen.frame m ρ

/-- The reference's run read at its arguments; it declares no semaphore. -/
theorem frame_reference : Cert.quiescent_Reference4Ideal := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

/-- Two arrays with the same entries. -/
theorem same {a b : ℕ} {x y : (⟨2, ![a, b]⟩ : Shape).Idx → EReal} (h : ∀ i j, x (ix2 i j) = y (ix2 i j)) : x = y := funext fun i => by
  rw [eq_ix2 i]
  exact h (i 0) (i 1)

/-- On all arguments the kernels and the reference both end with the layer's residuals and norms and the weight's gradient. -/
theorem algebraic : Cert.algebraic_Kernel4Ideal_Reference4Ideal := by
  intro m g m' g' _ hag
  refine ⟨fun c => Cert.Kernel4Ideal.Out.X1 m c, fun c => Cert.Kernel4Ideal.Out.H2 m c, fun c => Cert.Kernel4Ideal.Out.X2 m c,
    fun c => normed (Cert.Kernel4Ideal.Out.X2 m c) (Cert.Kernel4Ideal.Out.G1 m c),
    fun c => GradOut (Cert.Kernel4Ideal.Out.Y m c) (Cert.Kernel4Ideal.Out.D m c), ?_, ?_⟩
  · refine (θ_run Cert.Kernel4Ideal.defs _ _).mono (fun r h c => ?_) (Cert.Kernel4Ideal.Out.run_boundary (F := Ideal) m g)
    exact ⟨(h c _ (Cert.Kernel4Ideal.Gen.mem_uc Cert.Kernel4Ideal.main_v10_0 (by decide))).trans (Cert.Kernel4Ideal.Out.end_mid m g c),
      (h c _ (Cert.Kernel4Ideal.Gen.mem_uc Cert.Kernel4Ideal.main_v10_1 (by decide))).trans (Cert.Kernel4Ideal.Out.end_midn m g c),
      (h c _ (Cert.Kernel4Ideal.Gen.mem_uc Cert.Kernel4Ideal.main_v14_0 (by decide))).trans (Cert.Kernel4Ideal.Out.end_last m g c),
      (h c _ (Cert.Kernel4Ideal.Gen.mem_uc Cert.Kernel4Ideal.main_v14_2 (by decide))).trans (Cert.Kernel4Ideal.Out.end_lastn m g c),
      (h c _ (Cert.Kernel4Ideal.Gen.mem_uc Cert.Kernel4Ideal.main_v15 (by decide))).trans (Cert.Kernel4Ideal.Out.end_dw m g c),
      (h c _ (Cert.Kernel4Ideal.Gen.mem_uc Cert.Kernel4Ideal.main_arg0 (by decide))).trans (Cert.Kernel4Ideal.Gen.W7_main_arg0 m g c),
      (h c _ (Cert.Kernel4Ideal.Gen.mem_uc Cert.Kernel4Ideal.main_arg1 (by decide))).trans (Cert.Kernel4Ideal.Gen.W7_main_arg1 m g c),
      (h c _ (Cert.Kernel4Ideal.Gen.mem_uc Cert.Kernel4Ideal.main_arg2 (by decide))).trans (Cert.Kernel4Ideal.Gen.W7_main_arg2 m g c),
      (h c _ (Cert.Kernel4Ideal.Gen.mem_uc Cert.Kernel4Ideal.main_arg3 (by decide))).trans (Cert.Kernel4Ideal.Gen.W7_main_arg3 m g c),
      (h c _ (Cert.Kernel4Ideal.Gen.mem_uc Cert.Kernel4Ideal.main_arg4 (by decide))).trans (Cert.Kernel4Ideal.Gen.W7_main_arg4 m g c),
      (h c _ (Cert.Kernel4Ideal.Gen.mem_uc Cert.Kernel4Ideal.main_arg5 (by decide))).trans (Cert.Kernel4Ideal.Gen.W7_main_arg5 m g c),
      (h c _ (Cert.Kernel4Ideal.Gen.mem_uc Cert.Kernel4Ideal.main_arg6 (by decide))).trans (Cert.Kernel4Ideal.Gen.W7_main_arg6 m g c),
      (h c _ (Cert.Kernel4Ideal.Gen.mem_uc Cert.Kernel4Ideal.main_arg7 (by decide))).trans (Cert.Kernel4Ideal.Gen.W7_main_arg7 m g c),
      (h c _ (Cert.Kernel4Ideal.Gen.mem_uc Cert.Kernel4Ideal.main_arg8 (by decide))).trans (Cert.Kernel4Ideal.Gen.W7_main_arg8 m g c)⟩
  · refine (θ_run Cert.Reference4Ideal.defs _ _).mono (fun r h c => ?_) (Cert.Reference4Ideal.Value.run (F := Ideal) m' g')
    obtain ⟨a0, a1, a2, a3, a4, a5, a6, a7, a8⟩ := hag c
    obtain ⟨r0, r1, r2, r3, r4, rest⟩ := h c
    refine ⟨?_, ?_, ?_, ?_, ?_, rest⟩
    · refine r0.trans ((Cert.Reference4Ideal.Read.val_main_v3_eq _ _ _).trans ?_)
      rw [a0, a1, a2]; exact same fun a b => Cert.Reference4Ideal.Out.mid _ _ _ a b
    · refine r1.trans ((Cert.Reference4Ideal.Read.val_main_v23_eq _ _ _ _).trans ?_)
      rw [a0, a1, a2, a3]; exact same fun a b => Cert.Reference4Ideal.Out.hidden _ _ _ _ a b
    · refine r2.trans ((Cert.Reference4Ideal.Read.val_main_v22_eq m' c).trans ?_)
      rw [a0, a1, a2, a3, a4, a5, a6]; exact same fun a b => Cert.Reference4Ideal.Out.last _ _ _ _ _ _ _ a b
    · refine r3.trans ((Cert.Reference4Ideal.Read.val_main_v37_eq m' c).trans ?_)
      rw [a0, a1, a2, a3, a4, a5, a6, a7]; exact same fun a b => Cert.Reference4Ideal.Out.next _ _ _ _ _ _ _ _ a b
    · refine r4.trans ((Cert.Reference4Ideal.Read.val_main_v40_eq _ _).trans ?_)
      rw [a0, a8]; exact same fun a b => Cert.Reference4Ideal.Out.gradOut _ _ a b

end Cert.OutClaim

end
-- ==== Proof.DxRing.lean ====
/-
  The streaming of the gradient of the normalised layer's input: the kernel reads three arrays (the gradient from above,
  the layer's input and the gradient that passes beside the layer) in sixteen blocks of 256 rows. Block b of array k is
  copied into part (k, b mod 3) of one buffer while the two blocks before it are still wanted; the copy signals on cell
  (k, b mod 3) of one table. This module says what is held of a part, a cell and an array when a copy is under way and
  when none is, and that the buffer, the cells and the arrays at the start are the three streams before their first step,
  and back after the last.
-/
module

public import proofs.«01_k».proof.Proof.Gen.Kernel5Ideal.Skeleton
public import proofs.«01_k».proof.Proof.Gen.Kernel5Ideal.Frame

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

instance : NeZero grid0.N := ⟨by rw [N_0]; decide⟩

/-! ## The two conditions of the body -/

/-- At the first point the body also starts the copies of blocks 0 and 1. -/
abbrev atFirst (i : grid0.Coords) : Prop := k0_cond1 i = 1#1
/-- While two more blocks exist the body starts the copy of the block after next. -/
abbrev hasNext (i : grid0.Coords) : Prop := k0_cond2 i = 1#1

theorem atFirst_iff : ∀ t : Fin cfg0.N, atFirst (grid0.coords t) ↔ t.val = 0 :=
  (by decide +kernel : ∀ t : Fin grid0.N, atFirst (grid0.coords t) ↔ t.val = 0)
theorem hasNext_iff : ∀ t : Fin cfg0.N, hasNext (grid0.coords t) ↔ t.val < 14 :=
  (by decide +kernel : ∀ t : Fin grid0.N, hasNext (grid0.coords t) ↔ t.val < 14)

/-! ## The parts of the buffer, the blocks of an array, the cells -/

/-- The buffer of three times three blocks. -/
abbrev store : Memref sig .tc .vmem S3x3x256x2048 .f32 := Memref.whole cc0_scratch0
/-- The three arrays read. -/
abbrev arr0 : Memref sig .tc .hbm S4096x2048 .f32 := Memref.whole main_arg0
abbrev arr1 : Memref sig .tc .hbm S4096x2048 .f32 := Memref.whole main_arg1
abbrev arr2 : Memref sig .tc .hbm S4096x2048 .f32 := Memref.whole main_arg3

theorem part_inb (k s : Fin 3) : ∀ a, (![k.val, s.val, 0, 0] : Fin 4 → Nat) a + S1x1x256x2048.size a ≤ S3x3x256x2048.size a := by
  have := k.isLt; have := s.isLt; intro a; fin_cases a <;> simp <;> omega
theorem block_inb (b : Fin 16) : ∀ a, (![256 * b.val, 0] : Fin 2 → Nat) a + S256x2048.size a ≤ S4096x2048.size a := by
  have := b.isLt; intro a; fin_cases a <;> simp <;> omega
theorem cell_inb (k s : Fin 3) : ∀ a, (![k.val, s.val] : Fin 2 → Nat) a + S1x1.size a ≤ S3x3.size a := by
  have := k.isLt; have := s.isLt; intro a; fin_cases a <;> simp <;> omega

/-- Part s of stream k. -/
def part (k s : Fin 3) : Memref sig .tc .vmem S256x2048 .f32 :=
  (store.slice (Rect.unit (s := S3x3x256x2048) ![k.val, s.val, 0, 0] S1x1x256x2048.size (part_inb k s)) (fun _ => rfl)).squeeze S256x2048 squeezes_S1x1x256x2048_S256x2048
/-- Block b of an array: its rows 256 b and on. -/
def block (M : Memref sig .tc .hbm S4096x2048 .f32) (b : Fin 16) : Memref sig .tc .hbm S256x2048 .f32 :=
  M.slice (Rect.unit (s := S4096x2048) ![256 * b.val, 0] S256x2048.size (block_inb b)) (fun _ => rfl)
/-- Cell s of stream k. -/
def cell (k s : Fin 3) : DmaSems sig S_ :=
  (cc0_scratch1.slice (Rect.unit (s := S3x3) ![k.val, s.val] S1x1.size (cell_inb k s))).squeeze S_ squeezes_S1x1_S_
abbrev cellLoc (k s : Fin 3) : SemLoc sig := SemLoc.dma (cell k s).sem

/-! ## What is held of a stream -/

section Held
variable (c : Dev nD)

/-- What a buffer contains, and the buffer held whole. -/
abbrev Cont {sp : Space} {S : Shape} {e : EltTy} (M : Memref sig .tc sp S e) : Type := Buf (Elt F) (M.view.loc (c : Thread nD τ))
abbrev held {sp : Space} {S : Shape} {e : EltTy} (M : Memref sig .tc sp S e) (f : Cont (F := F) c M) : sProp 𝕄 :=
  M.view.loc (c : Thread nD τ) ↦{fullShare} f

variable (k : Fin 3) (M : Memref sig .tc .hbm S4096x2048 .f32) (W : Cont (F := F) c M)

/-- An array is lent to the three parts by shares: a half, a quarter, a quarter. -/
abbrev quota (s : Fin 3) : PosShare TreeShare := if s.val = 0 then fullShare.left else if s.val = 1 then fullShare.right.left else fullShare.right.right

abbrev partAt (s : Fin 3) (f : Cont (F := F) c (part k s)) : sProp 𝕄 := (part k s).view.loc (c : Thread nD τ) ↦[(part k s).view.set]{fullShare} f
abbrev cellAt (s : Fin 3) : sProp 𝕄 := semVal ((c : Thread nD τ), cellLoc k s) 0
/-- Block b of part s's share of the array, the rest of that share, and all of it. -/
abbrev lent (s : Fin 3) (b : Fin 16) : sProp 𝕄 := (block M b).view.loc (c : Thread nD τ) ↦[(block M b).view.set]{quota s} W
def unlent (s : Fin 3) (b : Fin 16) : sProp 𝕄 := (M.view.loc (c : Thread nD τ)) ↦[Finset.univ \ (block M b).view.set]{quota s} W
abbrev shareOf (s : Fin 3) : sProp 𝕄 := (M.view.loc (c : Thread nD τ)) ↦[Finset.univ]{quota s} W
/-- The contents of part s once block b has been copied into it. -/
abbrev filled (s : Fin 3) (b : Fin 16) (f : Cont (F := F) c (part k s)) : Cont (F := F) c (part k s) :=
  (part k s).view.writes (Elt F) f [⟨Rect.whole S256x2048, ReadAs.same.apply ((block M b).view.read (Elt F) W)⟩]
/-- Block b under way into part s. -/
abbrev copying (s : Fin 3) (b : Fin 16) (f : Cont (F := F) c (part k s)) : sProp 𝕄 :=
  Transfers.Flight countersEmb (c : Thread nD τ) (cellLoc k s) default ((part k s).view.amount (cellLoc k s))
    iprop(partAt c k s (filled c k M W s b f) ∗ lent c M W s b)
abbrev partShare (s : Fin 3) (f : Cont (F := F) c (part k s)) : sProp 𝕄 := iprop(partAt c k s f ∗ shareOf c M W s)
abbrev copyingRest (s : Fin 3) (b : Fin 16) (f : Cont (F := F) c (part k s)) : sProp 𝕄 := iprop(copying c k M W s b f ∗ unlent c M W s b)
abbrev nothing (b : Fin 16) : sProp 𝕄 := iprop(emp)

/-- The stream before its step j: at first every part is free; later the blocks j and j + 1 are under way. -/
def stream (j : ℕ) : sProp 𝕄 :=
  if j = 0 then Ring.At₀ (cellAt c k) (partShare c k M W) nothing
  else Ring.At 2 (cellAt c k) (partShare c k M W) nothing (copyingRest c k M W) j

/-- The part of step j free, and the block of step j under way. -/
abbrev idle (j : ℕ) : sProp 𝕄 := Ring.free (cellAt c k) (partShare c k M W) (Ring.sl 3 j)
abbrev coming (j : ℕ) : sProp 𝕄 := Ring.inflight (copyingRest c k M W) (Ring.sl 3 j) (Ring.bk 16 j)

end Held

theorem lent_split (c : Dev nD) (M : Memref sig .tc .hbm S4096x2048 .f32) (W : Cont (F := F) c M) (s : Fin 3) (b : Fin 16) :
    shareOf (F := F) c M W s ⊣⊢ iprop(lent c M W s b ∗ unlent c M W s b) := by
  unfold unlent; exact pointsTo_split_subset (Finset.subset_univ _)

theorem shares_split (c : Dev nD) (M : Memref sig .tc .hbm S4096x2048 .f32) (W : Cont (F := F) c M) :
    (held c M W : sProp 𝕄) ⊣⊢ iprop(shareOf c M W 0 ∗ shareOf c M W 1 ∗ shareOf c M W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-! ## The names the body uses, as parts, blocks and cells -/

section Names
omit [FloatOps F]
/-! The copies started at the first point. -/
set_option synthInstance.maxSize 4096 in
theorem off_p00 : ∀ t : Fin grid0.N, atFirst (grid0.coords t) → (![0, 0, 0, 0] : Fin 4 → Nat) = ![(0 : Fin 3).val, (Ring.sl 3 t.val).val, 0, 0] := by decide +kernel
theorem name_p00 (t : Fin grid0.N) (h : atFirst (grid0.coords t)) :
    (store.slice (Rect.unit (s := S3x3x256x2048) ![0, 0, 0, 0] S1x1x256x2048.size inb_S3x3x256x2048_S1x1x256x2048_0_0_0_0) (fun _ => rfl)).squeeze S256x2048 squeezes_S1x1x256x2048_S256x2048 = part 0 (Ring.sl 3 t.val) :=
  congrArg (fun B : Memref sig .tc .vmem S1x1x256x2048 .f32 => B.squeeze S256x2048 squeezes_S1x1x256x2048_S256x2048) (Memref.slice_unit_congr _ (off_p00 t h) _ _ (fun _ => rfl) (fun _ => rfl))
set_option synthInstance.maxSize 4096 in
theorem off_c00 : ∀ t : Fin grid0.N, atFirst (grid0.coords t) → (![0, 0] : Fin 2 → Nat) = ![(0 : Fin 3).val, (Ring.sl 3 t.val).val] := by decide +kernel
theorem name_c00 (t : Fin grid0.N) (h : atFirst (grid0.coords t)) :
    (cc0_scratch1.slice (Rect.unit (s := S3x3) ![0, 0] S1x1.size inb_S3x3_S1x1_0_0)).squeeze S_ squeezes_S1x1_S_ = cell 0 (Ring.sl 3 t.val) :=
  congrArg (fun B : DmaSems sig S1x1 => B.squeeze S_ squeezes_S1x1_S_) (SemArray.slice_unit_congr _ (off_c00 t h) _ _)
set_option synthInstance.maxSize 4096 in
theorem off_p01 : ∀ t : Fin grid0.N, atFirst (grid0.coords t) → (![0, 1, 0, 0] : Fin 4 → Nat) = ![(0 : Fin 3).val, (Ring.sl 3 (t.val + 1)).val, 0, 0] := by decide +kernel
theorem name_p01 (t : Fin grid0.N) (h : atFirst (grid0.coords t)) :
    (store.slice (Rect.unit (s := S3x3x256x2048) ![0, 1, 0, 0] S1x1x256x2048.size inb_S3x3x256x2048_S1x1x256x2048_0_1_0_0) (fun _ => rfl)).squeeze S256x2048 squeezes_S1x1x256x2048_S256x2048 = part 0 (Ring.sl 3 (t.val + 1)) :=
  congrArg (fun B : Memref sig .tc .vmem S1x1x256x2048 .f32 => B.squeeze S256x2048 squeezes_S1x1x256x2048_S256x2048) (Memref.slice_unit_congr _ (off_p01 t h) _ _ (fun _ => rfl) (fun _ => rfl))
set_option synthInstance.maxSize 4096 in
theorem off_c01 : ∀ t : Fin grid0.N, atFirst (grid0.coords t) → (![0, 1] : Fin 2 → Nat) = ![(0 : Fin 3).val, (Ring.sl 3 (t.val + 1)).val] := by decide +kernel
theorem name_c01 (t : Fin grid0.N) (h : atFirst (grid0.coords t)) :
    (cc0_scratch1.slice (Rect.unit (s := S3x3) ![0, 1] S1x1.size inb_S3x3_S1x1_0_1)).squeeze S_ squeezes_S1x1_S_ = cell 0 (Ring.sl 3 (t.val + 1)) :=
  congrArg (fun B : DmaSems sig S1x1 => B.squeeze S_ squeezes_S1x1_S_) (SemArray.slice_unit_congr _ (off_c01 t h) _ _)
set_option synthInstance.maxSize 4096 in
theorem off_p10 : ∀ t : Fin grid0.N, atFirst (grid0.coords t) → (![1, 0, 0, 0] : Fin 4 → Nat) = ![(1 : Fin 3).val, (Ring.sl 3 t.val).val, 0, 0] := by decide +kernel
theorem name_p10 (t : Fin grid0.N) (h : atFirst (grid0.coords t)) :
    (store.slice (Rect.unit (s := S3x3x256x2048) ![1, 0, 0, 0] S1x1x256x2048.size inb_S3x3x256x2048_S1x1x256x2048_1_0_0_0) (fun _ => rfl)).squeeze S256x2048 squeezes_S1x1x256x2048_S256x2048 = part 1 (Ring.sl 3 t.val) :=
  congrArg (fun B : Memref sig .tc .vmem S1x1x256x2048 .f32 => B.squeeze S256x2048 squeezes_S1x1x256x2048_S256x2048) (Memref.slice_unit_congr _ (off_p10 t h) _ _ (fun _ => rfl) (fun _ => rfl))
set_option synthInstance.maxSize 4096 in
theorem off_c10 : ∀ t : Fin grid0.N, atFirst (grid0.coords t) → (![1, 0] : Fin 2 → Nat) = ![(1 : Fin 3).val, (Ring.sl 3 t.val).val] := by decide +kernel
theorem name_c10 (t : Fin grid0.N) (h : atFirst (grid0.coords t)) :
    (cc0_scratch1.slice (Rect.unit (s := S3x3) ![1, 0] S1x1.size inb_S3x3_S1x1_1_0)).squeeze S_ squeezes_S1x1_S_ = cell 1 (Ring.sl 3 t.val) :=
  congrArg (fun B : DmaSems sig S1x1 => B.squeeze S_ squeezes_S1x1_S_) (SemArray.slice_unit_congr _ (off_c10 t h) _ _)
set_option synthInstance.maxSize 4096 in
theorem off_p11 : ∀ t : Fin grid0.N, atFirst (grid0.coords t) → (![1, 1, 0, 0] : Fin 4 → Nat) = ![(1 : Fin 3).val, (Ring.sl 3 (t.val + 1)).val, 0, 0] := by decide +kernel
theorem name_p11 (t : Fin grid0.N) (h : atFirst (grid0.coords t)) :
    (store.slice (Rect.unit (s := S3x3x256x2048) ![1, 1, 0, 0] S1x1x256x2048.size inb_S3x3x256x2048_S1x1x256x2048_1_1_0_0) (fun _ => rfl)).squeeze S256x2048 squeezes_S1x1x256x2048_S256x2048 = part 1 (Ring.sl 3 (t.val + 1)) :=
  congrArg (fun B : Memref sig .tc .vmem S1x1x256x2048 .f32 => B.squeeze S256x2048 squeezes_S1x1x256x2048_S256x2048) (Memref.slice_unit_congr _ (off_p11 t h) _ _ (fun _ => rfl) (fun _ => rfl))
set_option synthInstance.maxSize 4096 in
theorem off_c11 : ∀ t : Fin grid0.N, atFirst (grid0.coords t) → (![1, 1] : Fin 2 → Nat) = ![(1 : Fin 3).val, (Ring.sl 3 (t.val + 1)).val] := by decide +kernel
theorem name_c11 (t : Fin grid0.N) (h : atFirst (grid0.coords t)) :
    (cc0_scratch1.slice (Rect.unit (s := S3x3) ![1, 1] S1x1.size inb_S3x3_S1x1_1_1)).squeeze S_ squeezes_S1x1_S_ = cell 1 (Ring.sl 3 (t.val + 1)) :=
  congrArg (fun B : DmaSems sig S1x1 => B.squeeze S_ squeezes_S1x1_S_) (SemArray.slice_unit_congr _ (off_c11 t h) _ _)
set_option synthInstance.maxSize 4096 in
theorem off_p20 : ∀ t : Fin grid0.N, atFirst (grid0.coords t) → (![2, 0, 0, 0] : Fin 4 → Nat) = ![(2 : Fin 3).val, (Ring.sl 3 t.val).val, 0, 0] := by decide +kernel
theorem name_p20 (t : Fin grid0.N) (h : atFirst (grid0.coords t)) :
    (store.slice (Rect.unit (s := S3x3x256x2048) ![2, 0, 0, 0] S1x1x256x2048.size inb_S3x3x256x2048_S1x1x256x2048_2_0_0_0) (fun _ => rfl)).squeeze S256x2048 squeezes_S1x1x256x2048_S256x2048 = part 2 (Ring.sl 3 t.val) :=
  congrArg (fun B : Memref sig .tc .vmem S1x1x256x2048 .f32 => B.squeeze S256x2048 squeezes_S1x1x256x2048_S256x2048) (Memref.slice_unit_congr _ (off_p20 t h) _ _ (fun _ => rfl) (fun _ => rfl))
set_option synthInstance.maxSize 4096 in
theorem off_c20 : ∀ t : Fin grid0.N, atFirst (grid0.coords t) → (![2, 0] : Fin 2 → Nat) = ![(2 : Fin 3).val, (Ring.sl 3 t.val).val] := by decide +kernel
theorem name_c20 (t : Fin grid0.N) (h : atFirst (grid0.coords t)) :
    (cc0_scratch1.slice (Rect.unit (s := S3x3) ![2, 0] S1x1.size inb_S3x3_S1x1_2_0)).squeeze S_ squeezes_S1x1_S_ = cell 2 (Ring.sl 3 t.val) :=
  congrArg (fun B : DmaSems sig S1x1 => B.squeeze S_ squeezes_S1x1_S_) (SemArray.slice_unit_congr _ (off_c20 t h) _ _)
set_option synthInstance.maxSize 4096 in
theorem off_p21 : ∀ t : Fin grid0.N, atFirst (grid0.coords t) → (![2, 1, 0, 0] : Fin 4 → Nat) = ![(2 : Fin 3).val, (Ring.sl 3 (t.val + 1)).val, 0, 0] := by decide +kernel
theorem name_p21 (t : Fin grid0.N) (h : atFirst (grid0.coords t)) :
    (store.slice (Rect.unit (s := S3x3x256x2048) ![2, 1, 0, 0] S1x1x256x2048.size inb_S3x3x256x2048_S1x1x256x2048_2_1_0_0) (fun _ => rfl)).squeeze S256x2048 squeezes_S1x1x256x2048_S256x2048 = part 2 (Ring.sl 3 (t.val + 1)) :=
  congrArg (fun B : Memref sig .tc .vmem S1x1x256x2048 .f32 => B.squeeze S256x2048 squeezes_S1x1x256x2048_S256x2048) (Memref.slice_unit_congr _ (off_p21 t h) _ _ (fun _ => rfl) (fun _ => rfl))
set_option synthInstance.maxSize 4096 in
theorem off_c21 : ∀ t : Fin grid0.N, atFirst (grid0.coords t) → (![2, 1] : Fin 2 → Nat) = ![(2 : Fin 3).val, (Ring.sl 3 (t.val + 1)).val] := by decide +kernel
theorem name_c21 (t : Fin grid0.N) (h : atFirst (grid0.coords t)) :
    (cc0_scratch1.slice (Rect.unit (s := S3x3) ![2, 1] S1x1.size inb_S3x3_S1x1_2_1)).squeeze S_ squeezes_S1x1_S_ = cell 2 (Ring.sl 3 (t.val + 1)) :=
  congrArg (fun B : DmaSems sig S1x1 => B.squeeze S_ squeezes_S1x1_S_) (SemArray.slice_unit_congr _ (off_c21 t h) _ _)
set_option synthInstance.maxSize 4096 in
theorem off_b0 : ∀ t : Fin grid0.N, atFirst (grid0.coords t) → (![0, 0] : Fin 2 → Nat) = ![256 * (Ring.bk 16 t.val).val, 0] := by decide +kernel
theorem name_b0 (M : Memref sig .tc .hbm S4096x2048 .f32) (t : Fin grid0.N) (h : atFirst (grid0.coords t)) :
    M.slice (Rect.unit (s := S4096x2048) ![0, 0] S256x2048.size inb_S4096x2048_S256x2048_0_0) (fun _ => rfl) = block M (Ring.bk 16 t.val) :=
  Memref.slice_unit_congr _ (off_b0 t h) _ _ (fun _ => rfl) (fun _ => rfl)
set_option synthInstance.maxSize 4096 in
theorem off_b1 : ∀ t : Fin grid0.N, atFirst (grid0.coords t) → (![256, 0] : Fin 2 → Nat) = ![256 * (Ring.bk 16 (t.val + 1)).val, 0] := by decide +kernel
theorem name_b1 (M : Memref sig .tc .hbm S4096x2048 .f32) (t : Fin grid0.N) (h : atFirst (grid0.coords t)) :
    M.slice (Rect.unit (s := S4096x2048) ![256, 0] S256x2048.size inb_S4096x2048_S256x2048_256_0) (fun _ => rfl) = block M (Ring.bk 16 (t.val + 1)) :=
  Memref.slice_unit_congr _ (off_b1 t h) _ _ (fun _ => rfl) (fun _ => rfl)
/-! The copies started for the block after next, and those waited for. -/
set_option synthInstance.maxSize 4096 in
theorem off_pn0 : ∀ t : Fin grid0.N, ((k0_off2 (grid0.coords t)) : Fin 4 → Nat) = ![(0 : Fin 3).val, (Ring.sl 3 (t.val + 2)).val, 0, 0] := by decide +kernel
@[sl_canon] theorem name_pn0 (t : Fin grid0.N) (h : hasNext (grid0.coords t)) :
    (store.slice (Rect.unit (s := S3x3x256x2048) (k0_off2 (grid0.coords t)) S1x1x256x2048.size (k0_off2_inb (grid0.coords t) h)) (fun _ => rfl)).squeeze S256x2048 squeezes_S1x1x256x2048_S256x2048 = part 0 (Ring.sl 3 (t.val + 2)) :=
  congrArg (fun B : Memref sig .tc .vmem S1x1x256x2048 .f32 => B.squeeze S256x2048 squeezes_S1x1x256x2048_S256x2048) (Memref.slice_unit_congr _ (off_pn0 t ) _ _ (fun _ => rfl) (fun _ => rfl))
set_option synthInstance.maxSize 4096 in
theorem off_cn0 : ∀ t : Fin grid0.N, ((k0_off1 (grid0.coords t)) : Fin 2 → Nat) = ![(0 : Fin 3).val, (Ring.sl 3 (t.val + 2)).val] := by decide +kernel
@[sl_canon] theorem name_cn0 (t : Fin grid0.N) (h : hasNext (grid0.coords t)) :
    (cc0_scratch1.slice (Rect.unit (s := S3x3) (k0_off1 (grid0.coords t)) S1x1.size (k0_off1_inb (grid0.coords t) h))).squeeze S_ squeezes_S1x1_S_ = cell 0 (Ring.sl 3 (t.val + 2)) :=
  congrArg (fun B : DmaSems sig S1x1 => B.squeeze S_ squeezes_S1x1_S_) (SemArray.slice_unit_congr _ (off_cn0 t ) _ _)
set_option synthInstance.maxSize 4096 in
theorem off_pw0 : ∀ t : Fin grid0.N, ((k0_off9 (grid0.coords t)) : Fin 4 → Nat) = ![(0 : Fin 3).val, (Ring.sl 3 t.val).val, 0, 0] := by decide +kernel
@[sl_canon] theorem name_pw0 (t : Fin grid0.N) :
    (store.slice (Rect.unit (s := S3x3x256x2048) (k0_off9 (grid0.coords t)) S1x1x256x2048.size (k0_off9_inb (grid0.coords t))) (fun _ => rfl)).squeeze S256x2048 squeezes_S1x1x256x2048_S256x2048 = part 0 (Ring.sl 3 t.val) :=
  congrArg (fun B : Memref sig .tc .vmem S1x1x256x2048 .f32 => B.squeeze S256x2048 squeezes_S1x1x256x2048_S256x2048) (Memref.slice_unit_congr _ (off_pw0 t ) _ _ (fun _ => rfl) (fun _ => rfl))
set_option synthInstance.maxSize 4096 in
theorem off_cw0 : ∀ t : Fin grid0.N, ((k0_off8 (grid0.coords t)) : Fin 2 → Nat) = ![(0 : Fin 3).val, (Ring.sl 3 t.val).val] := by decide +kernel
@[sl_canon] theorem name_cw0 (t : Fin grid0.N) :
    (cc0_scratch1.slice (Rect.unit (s := S3x3) (k0_off8 (grid0.coords t)) S1x1.size (k0_off8_inb (grid0.coords t)))).squeeze S_ squeezes_S1x1_S_ = cell 0 (Ring.sl 3 t.val) :=
  congrArg (fun B : DmaSems sig S1x1 => B.squeeze S_ squeezes_S1x1_S_) (SemArray.slice_unit_congr _ (off_cw0 t ) _ _)
set_option synthInstance.maxSize 4096 in
theorem off_l0 : ∀ t : Fin grid0.N, k0_off15 (grid0.coords t) = ![(0 : Fin 3).val, (Ring.sl 3 t.val).val, 0, 0] := by decide +kernel
/-- The load of stream 0 reads the part of this step. -/
instance (priority := high) closed_l0 (t : Fin grid0.N) : ClosedOff (k0_off15 (grid0.coords t)) := ⟨![(0 : Fin 3).val, (Ring.sl 3 t.val).val, 0, 0], off_l0 t⟩
set_option synthInstance.maxSize 4096 in
theorem off_pn1 : ∀ t : Fin grid0.N, ((k0_off5 (grid0.coords t)) : Fin 4 → Nat) = ![(1 : Fin 3).val, (Ring.sl 3 (t.val + 2)).val, 0, 0] := by decide +kernel
@[sl_canon] theorem name_pn1 (t : Fin grid0.N) (h : hasNext (grid0.coords t)) :
    (store.slice (Rect.unit (s := S3x3x256x2048) (k0_off5 (grid0.coords t)) S1x1x256x2048.size (k0_off5_inb (grid0.coords t) h)) (fun _ => rfl)).squeeze S256x2048 squeezes_S1x1x256x2048_S256x2048 = part 1 (Ring.sl 3 (t.val + 2)) :=
  congrArg (fun B : Memref sig .tc .vmem S1x1x256x2048 .f32 => B.squeeze S256x2048 squeezes_S1x1x256x2048_S256x2048) (Memref.slice_unit_congr _ (off_pn1 t ) _ _ (fun _ => rfl) (fun _ => rfl))
set_option synthInstance.maxSize 4096 in
theorem off_cn1 : ∀ t : Fin grid0.N, ((k0_off4 (grid0.coords t)) : Fin 2 → Nat) = ![(1 : Fin 3).val, (Ring.sl 3 (t.val + 2)).val] := by decide +kernel
@[sl_canon] theorem name_cn1 (t : Fin grid0.N) (h : hasNext (grid0.coords t)) :
    (cc0_scratch1.slice (Rect.unit (s := S3x3) (k0_off4 (grid0.coords t)) S1x1.size (k0_off4_inb (grid0.coords t) h))).squeeze S_ squeezes_S1x1_S_ = cell 1 (Ring.sl 3 (t.val + 2)) :=
  congrArg (fun B : DmaSems sig S1x1 => B.squeeze S_ squeezes_S1x1_S_) (SemArray.slice_unit_congr _ (off_cn1 t ) _ _)
set_option synthInstance.maxSize 4096 in
theorem off_pw1 : ∀ t : Fin grid0.N, ((k0_off12 (grid0.coords t)) : Fin 4 → Nat) = ![(1 : Fin 3).val, (Ring.sl 3 t.val).val, 0, 0] := by decide +kernel
@[sl_canon] theorem name_pw1 (t : Fin grid0.N) :
    (store.slice (Rect.unit (s := S3x3x256x2048) (k0_off12 (grid0.coords t)) S1x1x256x2048.size (k0_off12_inb (grid0.coords t))) (fun _ => rfl)).squeeze S256x2048 squeezes_S1x1x256x2048_S256x2048 = part 1 (Ring.sl 3 t.val) :=
  congrArg (fun B : Memref sig .tc .vmem S1x1x256x2048 .f32 => B.squeeze S256x2048 squeezes_S1x1x256x2048_S256x2048) (Memref.slice_unit_congr _ (off_pw1 t ) _ _ (fun _ => rfl) (fun _ => rfl))
set_option synthInstance.maxSize 4096 in
theorem off_cw1 : ∀ t : Fin grid0.N, ((k0_off11 (grid0.coords t)) : Fin 2 → Nat) = ![(1 : Fin 3).val, (Ring.sl 3 t.val).val] := by decide +kernel
@[sl_canon] theorem name_cw1 (t : Fin grid0.N) :
    (cc0_scratch1.slice (Rect.unit (s := S3x3) (k0_off11 (grid0.coords t)) S1x1.size (k0_off11_inb (grid0.coords t)))).squeeze S_ squeezes_S1x1_S_ = cell 1 (Ring.sl 3 t.val) :=
  congrArg (fun B : DmaSems sig S1x1 => B.squeeze S_ squeezes_S1x1_S_) (SemArray.slice_unit_congr _ (off_cw1 t ) _ _)
set_option synthInstance.maxSize 4096 in
theorem off_l1 : ∀ t : Fin grid0.N, k0_off16 (grid0.coords t) = ![(1 : Fin 3).val, (Ring.sl 3 t.val).val, 0, 0] := by decide +kernel
/-- The load of stream 1 reads the part of this step. -/
instance (priority := high) closed_l1 (t : Fin grid0.N) : ClosedOff (k0_off16 (grid0.coords t)) := ⟨![(1 : Fin 3).val, (Ring.sl 3 t.val).val, 0, 0], off_l1 t⟩
set_option synthInstance.maxSize 4096 in
theorem off_pn2 : ∀ t : Fin grid0.N, ((k0_off7 (grid0.coords t)) : Fin 4 → Nat) = ![(2 : Fin 3).val, (Ring.sl 3 (t.val + 2)).val, 0, 0] := by decide +kernel
@[sl_canon] theorem name_pn2 (t : Fin grid0.N) (h : hasNext (grid0.coords t)) :
    (store.slice (Rect.unit (s := S3x3x256x2048) (k0_off7 (grid0.coords t)) S1x1x256x2048.size (k0_off7_inb (grid0.coords t) h)) (fun _ => rfl)).squeeze S256x2048 squeezes_S1x1x256x2048_S256x2048 = part 2 (Ring.sl 3 (t.val + 2)) :=
  congrArg (fun B : Memref sig .tc .vmem S1x1x256x2048 .f32 => B.squeeze S256x2048 squeezes_S1x1x256x2048_S256x2048) (Memref.slice_unit_congr _ (off_pn2 t ) _ _ (fun _ => rfl) (fun _ => rfl))
set_option synthInstance.maxSize 4096 in
theorem off_cn2 : ∀ t : Fin grid0.N, ((k0_off6 (grid0.coords t)) : Fin 2 → Nat) = ![(2 : Fin 3).val, (Ring.sl 3 (t.val + 2)).val] := by decide +kernel
@[sl_canon] theorem name_cn2 (t : Fin grid0.N) (h : hasNext (grid0.coords t)) :
    (cc0_scratch1.slice (Rect.unit (s := S3x3) (k0_off6 (grid0.coords t)) S1x1.size (k0_off6_inb (grid0.coords t) h))).squeeze S_ squeezes_S1x1_S_ = cell 2 (Ring.sl 3 (t.val + 2)) :=
  congrArg (fun B : DmaSems sig S1x1 => B.squeeze S_ squeezes_S1x1_S_) (SemArray.slice_unit_congr _ (off_cn2 t ) _ _)
set_option synthInstance.maxSize 4096 in
theorem off_pw2 : ∀ t : Fin grid0.N, ((k0_off14 (grid0.coords t)) : Fin 4 → Nat) = ![(2 : Fin 3).val, (Ring.sl 3 t.val).val, 0, 0] := by decide +kernel
@[sl_canon] theorem name_pw2 (t : Fin grid0.N) :
    (store.slice (Rect.unit (s := S3x3x256x2048) (k0_off14 (grid0.coords t)) S1x1x256x2048.size (k0_off14_inb (grid0.coords t))) (fun _ => rfl)).squeeze S256x2048 squeezes_S1x1x256x2048_S256x2048 = part 2 (Ring.sl 3 t.val) :=
  congrArg (fun B : Memref sig .tc .vmem S1x1x256x2048 .f32 => B.squeeze S256x2048 squeezes_S1x1x256x2048_S256x2048) (Memref.slice_unit_congr _ (off_pw2 t ) _ _ (fun _ => rfl) (fun _ => rfl))
set_option synthInstance.maxSize 4096 in
theorem off_cw2 : ∀ t : Fin grid0.N, ((k0_off13 (grid0.coords t)) : Fin 2 → Nat) = ![(2 : Fin 3).val, (Ring.sl 3 t.val).val] := by decide +kernel
@[sl_canon] theorem name_cw2 (t : Fin grid0.N) :
    (cc0_scratch1.slice (Rect.unit (s := S3x3) (k0_off13 (grid0.coords t)) S1x1.size (k0_off13_inb (grid0.coords t)))).squeeze S_ squeezes_S1x1_S_ = cell 2 (Ring.sl 3 t.val) :=
  congrArg (fun B : DmaSems sig S1x1 => B.squeeze S_ squeezes_S1x1_S_) (SemArray.slice_unit_congr _ (off_cw2 t ) _ _)
set_option synthInstance.maxSize 4096 in
theorem off_l2 : ∀ t : Fin grid0.N, k0_off17 (grid0.coords t) = ![(2 : Fin 3).val, (Ring.sl 3 t.val).val, 0, 0] := by decide +kernel
/-- The load of stream 2 reads the part of this step. -/
instance (priority := high) closed_l2 (t : Fin grid0.N) : ClosedOff (k0_off17 (grid0.coords t)) := ⟨![(2 : Fin 3).val, (Ring.sl 3 t.val).val, 0, 0], off_l2 t⟩
set_option synthInstance.maxSize 4096 in
theorem off_bn : ∀ t : Fin grid0.N, hasNext (grid0.coords t) → ((k0_off3 (grid0.coords t)) : Fin 2 → Nat) = ![256 * (Ring.bk 16 (t.val + 2)).val, 0] := by decide +kernel
@[sl_canon] theorem name_bn (M : Memref sig .tc .hbm S4096x2048 .f32) (t : Fin grid0.N) (h : hasNext (grid0.coords t)) :
    M.slice (Rect.unit (s := S4096x2048) (k0_off3 (grid0.coords t)) S256x2048.size (k0_off3_inb (grid0.coords t) h)) (fun _ => rfl) = block M (Ring.bk 16 (t.val + 2)) :=
  Memref.slice_unit_congr _ (off_bn t h) _ _ (fun _ => rfl) (fun _ => rfl)
end Names

end Cert.DxRing

end
-- ==== Proof.DxRunA.lean ====
/-
  The body at the first point: the copies of blocks 0, 1 and 2 are started, block 0 is waited for and read. What the body leaves in its four
  results is found by running it; the statement also says how each stream stands afterwards.
-/
module

public import proofs.«01_k».proof.Proof.DxRing

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

set_option maxHeartbeats 2000000 in
/-- What the body stores in its four results at such a point, with the proof that it runs: it is given the rows of the
    norm and the weight, the four results (the last with its sum so far where it is added to), and the three streams. -/
def runA (c : Dev nD) (t : Fin cfg0.N)
    (arg3 : Memref sig .tc .vmem S1x2048 .f32) (harg3 : arg3.IsWhole) (arg5 : Memref sig .tc .vmem S2048x2048 .bf16) (harg5 : arg5.IsWhole)
    (arg6 : Memref sig .tc .vmem S256x2048 .f32) (harg6 : arg6.IsWhole) (arg7 : Memref sig .tc .vmem S256x2048 .f32) (harg7 : arg7.IsWhole)
    (arg8 : Memref sig .tc .vmem S256x2048 .bf16) (harg8 : arg8.IsWhole) (arg9 : Memref sig .tc .vmem S1x2048 .f32) (harg9 : arg9.IsWhole)
    (h0 : atFirst (grid0.coords t)) (h1 : hasNext (grid0.coords t))
    (x3 : Vec F S1x2048 .f32) (x5 : Vec F S2048x2048 .bf16) (w0 : Cont (F := F) c arr0) (w1 : Cont (F := F) c arr1) (w2 : Cont (F := F) c arr2) :
    Σ' (L6 : List (View.Piece (Elt F) S256x2048 .f32)), Σ' (L7 : List (View.Piece (Elt F) S256x2048 .f32)), Σ' (L8 : List (View.Piece (Elt F) S256x2048 .bf16)), { L9 : List (View.Piece (Elt F) S1x2048 .f32) //
      ∀ (W : Waits sig Unit) (K : PUnit → sProp 𝕄),
        iprop(owns (c : Thread nD τ) arg3 fullShare x3 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ idle c 0 arr0 w0 t.val ∗ idle c 0 arr0 w0 (t.val + 1) ∗ idle c 0 arr0 w0 (t.val + 2) ∗ idle c 1 arr1 w1 t.val ∗ idle c 1 arr1 w1 (t.val + 1) ∗ idle c 1 arr1 w1 (t.val + 2) ∗ idle c 2 arr2 w2 t.val ∗ idle c 2 arr2 w2 (t.val + 1) ∗ idle c 2 arr2 w2 (t.val + 2) ∗ owes (c : Thread nD τ) 0 W
            ∗ (iprop(owns (c : Thread nD τ) arg3 fullShare x3 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)
                ∗ coming c 0 arr0 w0 (t.val + 1) ∗ coming c 0 arr0 w0 (t.val + 2) ∗ idle c 0 arr0 w0 t.val ∗ coming c 1 arr1 w1 (t.val + 1) ∗ coming c 1 arr1 w1 (t.val + 2) ∗ idle c 1 arr1 w1 t.val ∗ coming c 2 arr2 w2 (t.val + 1) ∗ coming c 2 arr2 w2 (t.val + 2) ∗ idle c 2 arr2 w2 t.val ∗ (∃ W', owes (c : Thread nD τ) 0 W')) -∗ K ⟨⟩))
          ⊢ wp frame (wpE (defs₀ (F := F)) Variants.none c none) Set.univ (cc0_out_proj_dx (grid0.coords t) arr0 (Memref.isWhole_whole _) arr1 (Memref.isWhole_whole _) arg3 harg3 arr2 (Memref.isWhole_whole _) arg5 harg5 arg6 harg6 arg7 harg7 arg8 harg8 arg9 harg9 store (Memref.isWhole_whole _) cc0_scratch1) K } := by
  refine ⟨?_, ?_, ?_, ?_, fun W K => ?run⟩
  case run =>
    haveI : Fact (atFirst (grid0.coords t)) := ⟨h0⟩
    haveI : Fact (hasNext (grid0.coords t)) := ⟨h1⟩
    simp only [cc0_out_proj_dx_eq_skeleton]; unfold cc0_out_proj_dx_skel
    simp only [k0_part1_eq_skeleton, k0_part2_eq_skeleton, k0_part3_eq_skeleton, k0_part4_eq_skeleton]
    have hcanonp00 := name_p00 t h0
    have hcanonc00 := name_c00 t h0
    have hcanonp01 := name_p01 t h0
    have hcanonc01 := name_c01 t h0
    have hcanonp10 := name_p10 t h0
    have hcanonc10 := name_c10 t h0
    have hcanonp11 := name_p11 t h0
    have hcanonc11 := name_c11 t h0
    have hcanonp20 := name_p20 t h0
    have hcanonc20 := name_c20 t h0
    have hcanonp21 := name_p21 t h0
    have hcanonc21 := name_c21 t h0
    have hcanonb00 := name_b0 arr0 t h0
    have hcanonb01 := name_b1 arr0 t h0
    have hcanonb10 := name_b0 arr1 t h0
    have hcanonb11 := name_b1 arr1 t h0
    have hcanonb20 := name_b0 arr2 t h0
    have hcanonb21 := name_b1 arr2 t h0
    unfold idle coming owns Ring.free Ring.inflight
    iintro ⟨⟨%f3, %hf3, H3⟩, ⟨%f5, %hf5, H5⟩, ⟨%d6, %f6, -, H6⟩, ⟨%d7, %f7, -, H7⟩, ⟨%d8, %f8, -, H8⟩, ⟨%d9, %f9, -, H9⟩, ⟨Hc00, ⟨%g00, Hp00, Hw00⟩⟩, ⟨Hc01, ⟨%g01, Hp01, Hw01⟩⟩, ⟨Hc02, ⟨%g02, Hp02, Hw02⟩⟩, ⟨Hc10, ⟨%g10, Hp10, Hw10⟩⟩, ⟨Hc11, ⟨%g11, Hp11, Hw11⟩⟩, ⟨Hc12, ⟨%g12, Hp12, Hw12⟩⟩, ⟨Hc20, ⟨%g20, Hp20, Hw20⟩⟩, ⟨Hc21, ⟨%g21, Hp21, Hw21⟩⟩, ⟨Hc22, ⟨%g22, Hp22, Hw22⟩⟩, HW, Hk⟩
    ihave Hs00 := (lent_split c arr0 w0 (Ring.sl 3 t.val) (Ring.bk 16 t.val)).1 $$ Hw00
    icases Hs00 with ⟨Hl00, Hr00⟩
    ihave Hs01 := (lent_split c arr0 w0 (Ring.sl 3 (t.val + 1)) (Ring.bk 16 (t.val + 1))).1 $$ Hw01
    icases Hs01 with ⟨Hl01, Hr01⟩
    ihave Hs02 := (lent_split c arr0 w0 (Ring.sl 3 (t.val + 2)) (Ring.bk 16 (t.val + 2))).1 $$ Hw02
    icases Hs02 with ⟨Hl02, Hr02⟩
    ihave Hs10 := (lent_split c arr1 w1 (Ring.sl 3 t.val) (Ring.bk 16 t.val)).1 $$ Hw10
    icases Hs10 with ⟨Hl10, Hr10⟩
    ihave Hs11 := (lent_split c arr1 w1 (Ring.sl 3 (t.val + 1)) (Ring.bk 16 (t.val + 1))).1 $$ Hw11
    icases Hs11 with ⟨Hl11, Hr11⟩
    ihave Hs12 := (lent_split c arr1 w1 (Ring.sl 3 (t.val + 2)) (Ring.bk 16 (t.val + 2))).1 $$ Hw12
    icases Hs12 with ⟨Hl12, Hr12⟩
    ihave Hs20 := (lent_split c arr2 w2 (Ring.sl 3 t.val) (Ring.bk 16 t.val)).1 $$ Hw20
    icases Hs20 with ⟨Hl20, Hr20⟩
    ihave Hs21 := (lent_split c arr2 w2 (Ring.sl 3 (t.val + 1)) (Ring.bk 16 (t.val + 1))).1 $$ Hw21
    icases Hs21 with ⟨Hl21, Hr21⟩
    ihave Hs22 := (lent_split c arr2 w2 (Ring.sl 3 (t.val + 2)) (Ring.bk 16 (t.val + 2))).1 $$ Hw22
    icases Hs22 with ⟨Hl22, Hr22⟩
    obtain rfl := harg3.eq_unread hf3; obtain rfl := harg5.eq_unread hf5
    sl_exec (disch := first | sl_exact h0 | sl_exact h1)
    sl_step
    iapply Hk
    isplitl [H3]
    · iexists _; isplitr; · ipureintro; exact harg3.read_unread _
      iexact H3
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [Hc01 Hr01]
    · iexists _; isplitl [Hc01]; · iexact Hc01
      iexact Hr01
    isplitl [Hc02 Hr02]
    · iexists _; isplitl [Hc02]; · iexact Hc02
      iexact Hr02
    isplitl [Hc00 Hp00 Hl00 Hr00]
    · isplitl [Hc00]; · iexact Hc00
      iexists _; isplitl [Hp00]; · iexact Hp00
      iapply (lent_split c arr0 w0 (Ring.sl 3 t.val) (Ring.bk 16 t.val)).2; isplitl [Hl00]; · iexact Hl00
      iexact Hr00
    isplitl [Hc11 Hr11]
    · iexists _; isplitl [Hc11]; · iexact Hc11
      iexact Hr11
    isplitl [Hc12 Hr12]
    · iexists _; isplitl [Hc12]; · iexact Hc12
      iexact Hr12
    isplitl [Hc10 Hp10 Hl10 Hr10]
    · isplitl [Hc10]; · iexact Hc10
      iexists _; isplitl [Hp10]; · iexact Hp10
      iapply (lent_split c arr1 w1 (Ring.sl 3 t.val) (Ring.bk 16 t.val)).2; isplitl [Hl10]; · iexact Hl10
      iexact Hr10
    isplitl [Hc21 Hr21]
    · iexists _; isplitl [Hc21]; · iexact Hc21
      iexact Hr21
    isplitl [Hc22 Hr22]
    · iexists _; isplitl [Hc22]; · iexact Hc22
      iexact Hr22
    isplitl [Hc20 Hp20 Hl20 Hr20]
    · isplitl [Hc20]; · iexact Hc20
      iexists _; isplitl [Hp20]; · iexact Hp20
      iapply (lent_split c arr2 w2 (Ring.sl 3 t.val) (Ring.bk 16 t.val)).2; isplitl [Hl20]; · iexact Hl20
      iexact Hr20
    iexists _; iexact HW

end Cert.DxRing

end
-- ==== Proof.DxRunB.lean ====
/-
  The body at a point between: the copy of the block after next is started, this point's block is waited for and read. What the body leaves in its four
  results is found by running it; the statement also says how each stream stands afterwards.
-/
module

public import proofs.«01_k».proof.Proof.DxRunA

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

set_option maxHeartbeats 2000000 in
/-- What the body stores in its four results at such a point, with the proof that it runs: it is given the rows of the
    norm and the weight, the four results (the last with its sum so far where it is added to), and the three streams. -/
def runB (c : Dev nD) (t : Fin cfg0.N)
    (arg3 : Memref sig .tc .vmem S1x2048 .f32) (harg3 : arg3.IsWhole) (arg5 : Memref sig .tc .vmem S2048x2048 .bf16) (harg5 : arg5.IsWhole)
    (arg6 : Memref sig .tc .vmem S256x2048 .f32) (harg6 : arg6.IsWhole) (arg7 : Memref sig .tc .vmem S256x2048 .f32) (harg7 : arg7.IsWhole)
    (arg8 : Memref sig .tc .vmem S256x2048 .bf16) (harg8 : arg8.IsWhole) (arg9 : Memref sig .tc .vmem S1x2048 .f32) (harg9 : arg9.IsWhole)
    (h0 : ¬atFirst (grid0.coords t)) (h1 : hasNext (grid0.coords t))
    (x3 : Vec F S1x2048 .f32) (x5 : Vec F S2048x2048 .bf16) (x9 : Vec F S1x2048 .f32) (w0 : Cont (F := F) c arr0) (w1 : Cont (F := F) c arr1) (w2 : Cont (F := F) c arr2) :
    Σ' (L6 : List (View.Piece (Elt F) S256x2048 .f32)), Σ' (L7 : List (View.Piece (Elt F) S256x2048 .f32)), Σ' (L8 : List (View.Piece (Elt F) S256x2048 .bf16)), { L9 : List (View.Piece (Elt F) S1x2048 .f32) //
      ∀ (W : Waits sig Unit) (K : PUnit → sProp 𝕄),
        iprop(owns (c : Thread nD τ) arg3 fullShare x3 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
            ∗ coming c 0 arr0 w0 t.val ∗ coming c 0 arr0 w0 (t.val + 1) ∗ idle c 0 arr0 w0 (t.val + 2) ∗ coming c 1 arr1 w1 t.val ∗ coming c 1 arr1 w1 (t.val + 1) ∗ idle c 1 arr1 w1 (t.val + 2) ∗ coming c 2 arr2 w2 t.val ∗ coming c 2 arr2 w2 (t.val + 1) ∗ idle c 2 arr2 w2 (t.val + 2) ∗ owes (c : Thread nD τ) 0 W
            ∗ (iprop(owns (c : Thread nD τ) arg3 fullShare x3 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)
                ∗ coming c 0 arr0 w0 (t.val + 1) ∗ coming c 0 arr0 w0 (t.val + 2) ∗ idle c 0 arr0 w0 t.val ∗ coming c 1 arr1 w1 (t.val + 1) ∗ coming c 1 arr1 w1 (t.val + 2) ∗ idle c 1 arr1 w1 t.val ∗ coming c 2 arr2 w2 (t.val + 1) ∗ coming c 2 arr2 w2 (t.val + 2) ∗ idle c 2 arr2 w2 t.val ∗ (∃ W', owes (c : Thread nD τ) 0 W')) -∗ K ⟨⟩))
          ⊢ wp frame (wpE (defs₀ (F := F)) Variants.none c none) Set.univ (cc0_out_proj_dx (grid0.coords t) arr0 (Memref.isWhole_whole _) arr1 (Memref.isWhole_whole _) arg3 harg3 arr2 (Memref.isWhole_whole _) arg5 harg5 arg6 harg6 arg7 harg7 arg8 harg8 arg9 harg9 store (Memref.isWhole_whole _) cc0_scratch1) K } := by
  refine ⟨?_, ?_, ?_, ?_, fun W K => ?run⟩
  case run =>
    haveI : Fact (¬atFirst (grid0.coords t)) := ⟨h0⟩
    haveI : Fact (hasNext (grid0.coords t)) := ⟨h1⟩
    simp only [cc0_out_proj_dx_eq_skeleton]; unfold cc0_out_proj_dx_skel
    simp only [k0_part2_eq_skeleton, k0_part3_eq_skeleton, k0_part4_eq_skeleton]
    unfold idle coming owns Ring.free Ring.inflight
    iintro ⟨⟨%f3, %hf3, H3⟩, ⟨%f5, %hf5, H5⟩, ⟨%d6, %f6, -, H6⟩, ⟨%d7, %f7, -, H7⟩, ⟨%d8, %f8, -, H8⟩, ⟨%f9, %hf9, H9⟩, ⟨%g00, Hf00, Hr00⟩, ⟨%g01, Hf01, Hr01⟩, ⟨Hc02, ⟨%g02, Hp02, Hw02⟩⟩, ⟨%g10, Hf10, Hr10⟩, ⟨%g11, Hf11, Hr11⟩, ⟨Hc12, ⟨%g12, Hp12, Hw12⟩⟩, ⟨%g20, Hf20, Hr20⟩, ⟨%g21, Hf21, Hr21⟩, ⟨Hc22, ⟨%g22, Hp22, Hw22⟩⟩, HW, Hk⟩
    ihave Hs02 := (lent_split c arr0 w0 (Ring.sl 3 (t.val + 2)) (Ring.bk 16 (t.val + 2))).1 $$ Hw02
    icases Hs02 with ⟨Hl02, Hr02⟩
    ihave Hs12 := (lent_split c arr1 w1 (Ring.sl 3 (t.val + 2)) (Ring.bk 16 (t.val + 2))).1 $$ Hw12
    icases Hs12 with ⟨Hl12, Hr12⟩
    ihave Hs22 := (lent_split c arr2 w2 (Ring.sl 3 (t.val + 2)) (Ring.bk 16 (t.val + 2))).1 $$ Hw22
    icases Hs22 with ⟨Hl22, Hr22⟩
    obtain rfl := harg3.eq_unread hf3; obtain rfl := harg5.eq_unread hf5; obtain rfl := harg9.eq_unread hf9
    sl_exec (disch := first | sl_exact h0 | sl_exact h1)
    sl_step
    iapply Hk
    isplitl [H3]
    · iexists _; isplitr; · ipureintro; exact harg3.read_unread _
      iexact H3
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [Hf01 Hr01]
    · iexists g01; isplitl [Hf01]; · iexact Hf01
      iexact Hr01
    isplitl [Hc02 Hr02]
    · iexists _; isplitl [Hc02]; · iexact Hc02
      iexact Hr02
    isplitl [Hf00 Hf00_dst Hf00_src Hr00]
    · isplitl [Hf00]; · iexact Hf00
      iexists _; isplitl [Hf00_dst]; · iexact Hf00_dst
      iapply (lent_split c arr0 w0 (Ring.sl 3 t.val) (Ring.bk 16 t.val)).2; isplitl [Hf00_src]; · iexact Hf00_src
      iexact Hr00
    isplitl [Hf11 Hr11]
    · iexists g11; isplitl [Hf11]; · iexact Hf11
      iexact Hr11
    isplitl [Hc12 Hr12]
    · iexists _; isplitl [Hc12]; · iexact Hc12
      iexact Hr12
    isplitl [Hf10 Hf10_dst Hf10_src Hr10]
    · isplitl [Hf10]; · iexact Hf10
      iexists _; isplitl [Hf10_dst]; · iexact Hf10_dst
      iapply (lent_split c arr1 w1 (Ring.sl 3 t.val) (Ring.bk 16 t.val)).2; isplitl [Hf10_src]; · iexact Hf10_src
      iexact Hr10
    isplitl [Hf21 Hr21]
    · iexists g21; isplitl [Hf21]; · iexact Hf21
      iexact Hr21
    isplitl [Hc22 Hr22]
    · iexists _; isplitl [Hc22]; · iexact Hc22
      iexact Hr22
    isplitl [Hf20 Hf20_dst Hf20_src Hr20]
    · isplitl [Hf20]; · iexact Hf20
      iexists _; isplitl [Hf20_dst]; · iexact Hf20_dst
      iapply (lent_split c arr2 w2 (Ring.sl 3 t.val) (Ring.bk 16 t.val)).2; isplitl [Hf20_src]; · iexact Hf20_src
      iexact Hr20
    iexists _; iexact HW

end Cert.DxRing

end
-- ==== Proof.DxRunC.lean ====
/-
  The body at the last two points: no copy is left to start. What the body leaves in its four
  results is found by running it; the statement also says how each stream stands afterwards.
-/
module

public import proofs.«01_k».proof.Proof.DxRunB

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F]

local notation "𝕄" => MT nD τ sig Unit (Elt F) ℕ (Pipeline.UD sig nD τ) ℕ

set_option maxHeartbeats 2000000 in
/-- What the body stores in its four results at such a point, with the proof that it runs: it is given the rows of the
    norm and the weight, the four results (the last with its sum so far where it is added to), and the three streams. -/
def runC (c : Dev nD) (t : Fin cfg0.N)
    (arg3 : Memref sig .tc .vmem S1x2048 .f32) (harg3 : arg3.IsWhole) (arg5 : Memref sig .tc .vmem S2048x2048 .bf16) (harg5 : arg5.IsWhole)
    (arg6 : Memref sig .tc .vmem S256x2048 .f32) (harg6 : arg6.IsWhole) (arg7 : Memref sig .tc .vmem S256x2048 .f32) (harg7 : arg7.IsWhole)
    (arg8 : Memref sig .tc .vmem S256x2048 .bf16) (harg8 : arg8.IsWhole) (arg9 : Memref sig .tc .vmem S1x2048 .f32) (harg9 : arg9.IsWhole)
    (h0 : ¬atFirst (grid0.coords t)) (h1 : ¬hasNext (grid0.coords t))
    (x3 : Vec F S1x2048 .f32) (x5 : Vec F S2048x2048 .bf16) (x9 : Vec F S1x2048 .f32) (w0 : Cont (F := F) c arr0) (w1 : Cont (F := F) c arr1) (w2 : Cont (F := F) c arr2) :
    Σ' (L6 : List (View.Piece (Elt F) S256x2048 .f32)), Σ' (L7 : List (View.Piece (Elt F) S256x2048 .f32)), Σ' (L8 : List (View.Piece (Elt F) S256x2048 .bf16)), { L9 : List (View.Piece (Elt F) S1x2048 .f32) //
      ∀ (W : Waits sig Unit) (K : PUnit → sProp 𝕄),
        iprop(owns (c : Thread nD τ) arg3 fullShare x3 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
            ∗ coming c 0 arr0 w0 t.val ∗ Ring.slotAt 2 (cellAt c 0) (partShare c 0 arr0 w0) (copyingRest c 0 arr0 w0) t.val 1 ∗ idle c 0 arr0 w0 (t.val + 2) ∗ coming c 1 arr1 w1 t.val ∗ Ring.slotAt 2 (cellAt c 1) (partShare c 1 arr1 w1) (copyingRest c 1 arr1 w1) t.val 1 ∗ idle c 1 arr1 w1 (t.val + 2) ∗ coming c 2 arr2 w2 t.val ∗ Ring.slotAt 2 (cellAt c 2) (partShare c 2 arr2 w2) (copyingRest c 2 arr2 w2) t.val 1 ∗ idle c 2 arr2 w2 (t.val + 2) ∗ owes (c : Thread nD τ) 0 W
            ∗ (iprop(owns (c : Thread nD τ) arg3 fullShare x3 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)
                ∗ Ring.slotAt 2 (cellAt c 0) (partShare c 0 arr0 w0) (copyingRest c 0 arr0 w0) t.val 1 ∗ idle c 0 arr0 w0 (t.val + 2) ∗ idle c 0 arr0 w0 t.val ∗ Ring.slotAt 2 (cellAt c 1) (partShare c 1 arr1 w1) (copyingRest c 1 arr1 w1) t.val 1 ∗ idle c 1 arr1 w1 (t.val + 2) ∗ idle c 1 arr1 w1 t.val ∗ Ring.slotAt 2 (cellAt c 2) (partShare c 2 arr2 w2) (copyingRest c 2 arr2 w2) t.val 1 ∗ idle c 2 arr2 w2 (t.val + 2) ∗ idle c 2 arr2 w2 t.val ∗ (∃ W', owes (c : Thread nD τ) 0 W')) -∗ K ⟨⟩))
          ⊢ wp frame (wpE (defs₀ (F := F)) Variants.none c none) Set.univ (cc0_out_proj_dx (grid0.coords t) arr0 (Memref.isWhole_whole _) arr1 (Memref.isWhole_whole _) arg3 harg3 arr2 (Memref.isWhole_whole _) arg5 harg5 arg6 harg6 arg7 harg7 arg8 harg8 arg9 harg9 store (Memref.isWhole_whole _) cc0_scratch1) K } := by
  refine ⟨?_, ?_, ?_, ?_, fun W K => ?run⟩
  case run =>
    haveI : Fact (¬atFirst (grid0.coords t)) := ⟨h0⟩
    haveI : Fact (¬hasNext (grid0.coords t)) := ⟨h1⟩
    simp only [cc0_out_proj_dx_eq_skeleton]; unfold cc0_out_proj_dx_skel
    simp only [k0_part2_eq_skeleton, k0_part3_eq_skeleton, k0_part4_eq_skeleton]
    unfold idle coming owns Ring.free Ring.inflight
    iintro ⟨⟨%f3, %hf3, H3⟩, ⟨%f5, %hf5, H5⟩, ⟨%d6, %f6, -, H6⟩, ⟨%d7, %f7, -, H7⟩, ⟨%d8, %f8, -, H8⟩, ⟨%f9, %hf9, H9⟩, ⟨%g00, Hf00, Hr00⟩, Ho0, ⟨Hc02, ⟨%g02, Hp02, Hw02⟩⟩, ⟨%g10, Hf10, Hr10⟩, Ho1, ⟨Hc12, ⟨%g12, Hp12, Hw12⟩⟩, ⟨%g20, Hf20, Hr20⟩, Ho2, ⟨Hc22, ⟨%g22, Hp22, Hw22⟩⟩, HW, Hk⟩
    obtain rfl := harg3.eq_unread hf3; obtain rfl := harg5.eq_unread hf5; obtain rfl := harg9.eq_unread hf9
    sl_exec (disch := first | sl_exact h0 | sl_exact h1)
    sl_step
    iapply Hk
    isplitl [H3]
    · iexists _; isplitr; · ipureintro; exact harg3.read_unread _
      iexact H3
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [Ho0]; · iexact Ho0
    isplitl [Hc02 Hp02 Hw02]
    · isplitl [Hc02]; · iexact Hc02
      iexists _; isplitl [Hp02]; · iexact Hp02
      iexact Hw02
    isplitl [Hf00 Hf00_dst Hf00_src Hr00]
    · isplitl [Hf00]; · iexact Hf00
      iexists _; isplitl [Hf00_dst]; · iexact Hf00_dst
      iapply (lent_split c arr0 w0 (Ring.sl 3 t.val) (Ring.bk 16 t.val)).2; isplitl [Hf00_src]; · iexact Hf00_src
      iexact Hr00
    isplitl [Ho1]; · iexact Ho1
    isplitl [Hc12 Hp12 Hw12]
    · isplitl [Hc12]; · iexact Hc12
      iexists _; isplitl [Hp12]; · iexact Hp12
      iexact Hw12
    isplitl [Hf10 Hf10_dst Hf10_src Hr10]
    · isplitl [Hf10]; · iexact Hf10
      iexists _; isplitl [Hf10_dst]; · iexact Hf10_dst
      iapply (lent_split c arr1 w1 (Ring.sl 3 t.val) (Ring.bk 16 t.val)).2; isplitl [Hf10_src]; · iexact Hf10_src
      iexact Hr10
    isplitl [Ho2]; · iexact Ho2
    isplitl [Hc22 Hp22 Hw22]
    · isplitl [Hc22]; · iexact Hc22
      iexists _; isplitl [Hp22]; · iexact Hp22
      iexact Hw22
    isplitl [Hf20 Hf20_dst Hf20_src Hr20]
    · isplitl [Hf20]; · iexact Hf20
      iexists _; isplitl [Hf20_dst]; · iexact Hf20_dst
      iapply (lent_split c arr2 w2 (Ring.sl 3 t.val) (Ring.bk 16 t.val)).2; isplitl [Hf20_src]; · iexact Hf20_src
      iexact Hr20
    iexists _; iexact HW

end Cert.DxRing

end
-- ==== Proof.DxValue.lean ====
/-
  The four results of one step of the gradient through the norm, as functions of the step's rows: what the body stored,
  read back, at the first point, at a point between and at one of the last two. The rows are those of the step's block of
  each array; the sum over the rows goes on from what the point before left, and at the first point from zero.
-/
module

public import proofs.«01_k».proof.Proof.DxRunC
public import Idealize.ShloMosaic.Lib.VecWindow

@[expose] public section

set_option maxRecDepth 16384

noncomputable section

namespace Cert.DxRing

open Idealize.ShloMosaic Idealize.ShloMosaic.TcCoe Idealize.ShloMosaic.Tactic
open Cert.Kernel5Ideal Cert.Kernel5Ideal.Gen

variable {F : FTy → Type} [FloatOps F]

/-- The rows of block b of an array. -/
abbrev rows (c : Dev nD) (M : Memref sig .tc .hbm S4096x2048 .f32) (W : Cont (F := F) c M) (b : Fin 16) : Vec F S256x2048 .f32 :=
  (block M b).view.read (Elt F) W

theorem casts_up : S256x2048.ShapeCasts S1x1x256x2048 := shapeCasts_S1x1x256x2048_S256x2048.symm

/-- Rows with two axes of extent one in front. -/
def lift (x : Vec F S256x2048 .f32) : Vec F S1x1x256x2048 .f32 := shapeCast S1x1x256x2048 x casts_up

omit [FloatOps F] in
theorem drop_lift (x : Vec F S256x2048 .f32) : shapeCast S256x2048 (lift x) shapeCasts_S1x1x256x2048_S256x2048 = x := by
  funext j; unfold lift shapeCast; exact congrArg x (by simp [Shape.reshapeEquiv])

omit [FloatOps F] in
theorem lift_drop (y : Vec F S1x1x256x2048 .f32) : lift (shapeCast S256x2048 y shapeCasts_S1x1x256x2048_S256x2048) = y := by
  funext j; unfold lift shapeCast; exact congrArg y (by simp [Shape.reshapeEquiv])

omit [FloatOps F] in
/-- A load of part s of stream k reads what the part reads. -/
theorem load_part (k s : Fin 3) (c : Dev nD) (f : Cont (F := F) c (part k s)) {off : Fin 4 → Nat} (h : off = ![k.val, s.val, 0, 0])
    (inb : ∀ a, off a + S1x1x256x2048.size a ≤ S3x3x256x2048.size a) :
    View.readAt (Elt F) store.view (Rect.unit (s := S3x3x256x2048) off S1x1x256x2048.size inb).toLoadRect f
      = lift ((part k s).view.read (Elt F) f) := by
  subst h
  exact (lift_drop _).symm

omit [FloatOps F] in
/-- After the copy of block b a load of the part reads the rows of the block. -/
theorem load_filled (c : Dev nD) (k : Fin 3) (M : Memref sig .tc .hbm S4096x2048 .f32) (W : Cont (F := F) c M) (s : Fin 3) (b : Fin 16)
    (f : Cont (F := F) c (part k s)) {off : Fin 4 → Nat} (h : off = ![k.val, s.val, 0, 0])
    (inb : ∀ a, off a + S1x1x256x2048.size a ≤ S3x3x256x2048.size a) :
    View.readAt (Elt F) store.view (Rect.unit (s := S3x3x256x2048) off S1x1x256x2048.size inb).toLoadRect (filled c k M W s b f)
      = lift (rows c M W b) := by
  rw [load_part k s c _ h inb]
  refine congrArg lift ?_
  exact View.read_writes_whole _ _ _

/-- The gradient of the norm's input in the rows of block b, beside the gradient that passes by. -/
def dxOf (x0 x1 x2 : Vec F S256x2048 .f32) (g : Vec F S1x2048 .f32) : Vec F S256x2048 .f32 := k0_pay9 (lift x0) (lift x1) (lift x2) g
/-- The sum of the scale's gradient with the rows of one more block. -/
def dgOf (x0 x1 : Vec F S256x2048 .f32) (acc : Vec F S1x2048 .f32) : Vec F S1x2048 .f32 := k0_pay2 (k0_pay5 (lift x0)) (k0_pay8 (lift x1)) acc

section Values
variable (c : Dev nD) (t : Fin cfg0.N)
    (arg3 : Memref sig .tc .vmem S1x2048 .f32) (harg3 : arg3.IsWhole) (arg5 : Memref sig .tc .vmem S2048x2048 .bf16) (harg5 : arg5.IsWhole)
    (arg6 : Memref sig .tc .vmem S256x2048 .f32) (harg6 : arg6.IsWhole) (arg7 : Memref sig .tc .vmem S256x2048 .f32) (harg7 : arg7.IsWhole)
    (arg8 : Memref sig .tc .vmem S256x2048 .bf16) (harg8 : arg8.IsWhole) (arg9 : Memref sig .tc .vmem S1x2048 .f32) (harg9 : arg9.IsWhole)
    (x3 : Vec F S1x2048 .f32) (x5 : Vec F S2048x2048 .bf16) (x9 : Vec F S1x2048 .f32) (w0 : Cont (F := F) c arr0) (w1 : Cont (F := F) c arr1) (w2 : Cont (F := F) c arr2)

theorem load_row {A : Memref sig .tc .vmem S1x2048 .f32} (hA : A.IsWhole) (x : Vec F S1x2048 .f32) :
    View.readAt (Elt F) A.view (Rect.unit (s := S1x2048) ![0, 0] S1x2048.size inb_S1x2048_S1x2048_0_0).toLoadRect (hA.unread x) = x :=
  (View.readAt_full A.view (hA.unread x) _).trans (hA.read_unread x)
theorem load_weight {A : Memref sig .tc .vmem S2048x2048 .bf16} (hA : A.IsWhole) (x : Vec F S2048x2048 .bf16) :
    View.readAt (Elt F) A.view (Rect.unit (s := S2048x2048) ![0, 0] S2048x2048.size inb_S2048x2048_S2048x2048_0_0).toLoadRect (hA.unread x) = x :=
  (View.readAt_full A.view (hA.unread x) _).trans (hA.read_unread x)

/-! ### The first point -/

theorem rows0_A : runA.sl.v36 c t w0 = lift (rows c arr0 w0 (Ring.bk 16 t.val)) := load_filled c 0 arr0 w0 (Ring.sl 3 t.val) (Ring.bk 16 t.val) _ (off_l0 t) _
theorem rows1_A : runA.sl.v39 c t w1 = lift (rows c arr1 w1 (Ring.bk 16 t.val)) := load_filled c 1 arr1 w1 (Ring.sl 3 t.val) (Ring.bk 16 t.val) _ (off_l1 t) _
theorem rows2_A : runA.sl.v42 c t w2 = lift (rows c arr2 w2 (Ring.bk 16 t.val)) := load_filled c 2 arr2 w2 (Ring.sl 3 t.val) (Ring.bk 16 t.val) _ (off_l2 t) _
theorem dx_A : runA.sl.r_2 c t arg3 harg3 x3 w0 w1 w2 = dxOf (rows c arr0 w0 (Ring.bk 16 t.val)) (rows c arr1 w1 (Ring.bk 16 t.val)) (rows c arr2 w2 (Ring.bk 16 t.val)) x3 := by
  unfold runA.sl.r_2 dxOf; rw [rows0_A, rows1_A, rows2_A]; exact congrArg _ (load_row harg3 x3)
theorem out6_A (h0 : atFirst (grid0.coords t)) (h1 : hasNext (grid0.coords t)) (f : arg6.view.ty.Contents (Elt F)) :
    arg6.view.read (Elt F) (arg6.view.writes (Elt F) f (runA c t arg3 harg3 arg5 harg5 arg6 harg6 arg7 harg7 arg8 harg8 arg9 harg9 h0 h1 x3 x5 w0 w1 w2).1) = k0_pay3 (dxOf (rows c arr0 w0 (Ring.bk 16 t.val)) (rows c arr1 w1 (Ring.bk 16 t.val)) (rows c arr2 w2 (Ring.bk 16 t.val)) x3) x5 := by
  unfold runA; dsimp only
  refine (View.read_writes_full arg6.view f inb_S256x2048_S256x2048_0_0 _ []).trans ?_
  rw [dx_A]; exact congrArg _ (load_weight harg5 x5)
theorem out7_A (h0 : atFirst (grid0.coords t)) (h1 : hasNext (grid0.coords t)) (f : arg7.view.ty.Contents (Elt F)) :
    arg7.view.read (Elt F) (arg7.view.writes (Elt F) f (runA c t arg3 harg3 arg5 harg5 arg6 harg6 arg7 harg7 arg8 harg8 arg9 harg9 h0 h1 x3 x5 w0 w1 w2).2.1) = dxOf (rows c arr0 w0 (Ring.bk 16 t.val)) (rows c arr1 w1 (Ring.bk 16 t.val)) (rows c arr2 w2 (Ring.bk 16 t.val)) x3 := by
  unfold runA; dsimp only
  exact (View.read_writes_full arg7.view f inb_S256x2048_S256x2048_0_0 _ []).trans (dx_A c t arg3 harg3 x3 w0 w1 w2)
theorem out8_A (h0 : atFirst (grid0.coords t)) (h1 : hasNext (grid0.coords t)) (f : arg8.view.ty.Contents (Elt F)) :
    arg8.view.read (Elt F) (arg8.view.writes (Elt F) f (runA c t arg3 harg3 arg5 harg5 arg6 harg6 arg7 harg7 arg8 harg8 arg9 harg9 h0 h1 x3 x5 w0 w1 w2).2.2.1) = k0_pay1 (dxOf (rows c arr0 w0 (Ring.bk 16 t.val)) (rows c arr1 w1 (Ring.bk 16 t.val)) (rows c arr2 w2 (Ring.bk 16 t.val)) x3) := by
  unfold runA; dsimp only
  exact (View.read_writes_full arg8.view f inb_S256x2048_S256x2048_0_0 _ []).trans (congrArg _ (dx_A c t arg3 harg3 x3 w0 w1 w2))
theorem out9_A (h0 : atFirst (grid0.coords t)) (h1 : hasNext (grid0.coords t)) (f : arg9.view.ty.Contents (Elt F)) :
    arg9.view.read (Elt F) (arg9.view.writes (Elt F) f (runA c t arg3 harg3 arg5 harg5 arg6 harg6 arg7 harg7 arg8 harg8 arg9 harg9 h0 h1 x3 x5 w0 w1 w2).2.2.2.1) = dgOf (rows c arr0 w0 (Ring.bk 16 t.val)) (rows c arr1 w1 (Ring.bk 16 t.val)) k0_pay4 := by
  unfold runA; dsimp only
  refine (View.read_writes_full arg9.view f inb_S1x2048_S1x2048_0_0 _ _).trans ?_
  unfold runA.sl.r runA.sl.r_1 dgOf
  rw [rows0_A, rows1_A]
  refine congrArg _ ?_
  unfold runA.sl.v72
  exact View.readCov_full arg9.view inb_S1x2048_S1x2048_0_0 inb_S1x2048_S1x2048_0_0 _ _

/-! ### A point between -/

theorem rows0_B : runB.sl.v36 c t w0 = lift (rows c arr0 w0 (Ring.bk 16 t.val)) := load_filled c 0 arr0 w0 (Ring.sl 3 t.val) (Ring.bk 16 t.val) _ (off_l0 t) _
theorem rows1_B : runB.sl.v39 c t w1 = lift (rows c arr1 w1 (Ring.bk 16 t.val)) := load_filled c 1 arr1 w1 (Ring.sl 3 t.val) (Ring.bk 16 t.val) _ (off_l1 t) _
theorem rows2_B : runB.sl.v42 c t w2 = lift (rows c arr2 w2 (Ring.bk 16 t.val)) := load_filled c 2 arr2 w2 (Ring.sl 3 t.val) (Ring.bk 16 t.val) _ (off_l2 t) _
theorem dx_B : runB.sl.r_2 c t arg3 harg3 x3 w0 w1 w2 = dxOf (rows c arr0 w0 (Ring.bk 16 t.val)) (rows c arr1 w1 (Ring.bk 16 t.val)) (rows c arr2 w2 (Ring.bk 16 t.val)) x3 := by
  unfold runB.sl.r_2 dxOf; rw [rows0_B, rows1_B, rows2_B]; exact congrArg _ (load_row harg3 x3)
theorem out6_B (h0 : ¬atFirst (grid0.coords t)) (h1 : hasNext (grid0.coords t)) (f : arg6.view.ty.Contents (Elt F)) :
    arg6.view.read (Elt F) (arg6.view.writes (Elt F) f (runB c t arg3 harg3 arg5 harg5 arg6 harg6 arg7 harg7 arg8 harg8 arg9 harg9 h0 h1 x3 x5 x9 w0 w1 w2).1) = k0_pay3 (dxOf (rows c arr0 w0 (Ring.bk 16 t.val)) (rows c arr1 w1 (Ring.bk 16 t.val)) (rows c arr2 w2 (Ring.bk 16 t.val)) x3) x5 := by
  unfold runB; dsimp only
  refine (View.read_writes_full arg6.view f inb_S256x2048_S256x2048_0_0 _ []).trans ?_
  rw [dx_B]; exact congrArg _ (load_weight harg5 x5)
theorem out7_B (h0 : ¬atFirst (grid0.coords t)) (h1 : hasNext (grid0.coords t)) (f : arg7.view.ty.Contents (Elt F)) :
    arg7.view.read (Elt F) (arg7.view.writes (Elt F) f (runB c t arg3 harg3 arg5 harg5 arg6 harg6 arg7 harg7 arg8 harg8 arg9 harg9 h0 h1 x3 x5 x9 w0 w1 w2).2.1) = dxOf (rows c arr0 w0 (Ring.bk 16 t.val)) (rows c arr1 w1 (Ring.bk 16 t.val)) (rows c arr2 w2 (Ring.bk 16 t.val)) x3 := by
  unfold runB; dsimp only
  exact (View.read_writes_full arg7.view f inb_S256x2048_S256x2048_0_0 _ []).trans (dx_B c t arg3 harg3 x3 w0 w1 w2)
theorem out8_B (h0 : ¬atFirst (grid0.coords t)) (h1 : hasNext (grid0.coords t)) (f : arg8.view.ty.Contents (Elt F)) :
    arg8.view.read (Elt F) (arg8.view.writes (Elt F) f (runB c t arg3 harg3 arg5 harg5 arg6 harg6 arg7 harg7 arg8 harg8 arg9 harg9 h0 h1 x3 x5 x9 w0 w1 w2).2.2.1) = k0_pay1 (dxOf (rows c arr0 w0 (Ring.bk 16 t.val)) (rows c arr1 w1 (Ring.bk 16 t.val)) (rows c arr2 w2 (Ring.bk 16 t.val)) x3) := by
  unfold runB; dsimp only
  exact (View.read_writes_full arg8.view f inb_S256x2048_S256x2048_0_0 _ []).trans (congrArg _ (dx_B c t arg3 harg3 x3 w0 w1 w2))
theorem out9_B (h0 : ¬atFirst (grid0.coords t)) (h1 : hasNext (grid0.coords t)) (f : arg9.view.ty.Contents (Elt F)) :
    arg9.view.read (Elt F) (arg9.view.writes (Elt F) f (runB c t arg3 harg3 arg5 harg5 arg6 harg6 arg7 harg7 arg8 harg8 arg9 harg9 h0 h1 x3 x5 x9 w0 w1 w2).2.2.2.1) = dgOf (rows c arr0 w0 (Ring.bk 16 t.val)) (rows c arr1 w1 (Ring.bk 16 t.val)) x9 := by
  unfold runB; dsimp only
  refine (View.read_writes_full arg9.view f inb_S1x2048_S1x2048_0_0 _ []).trans ?_
  unfold runB.sl.r runB.sl.r_1 dgOf
  rw [rows0_B, rows1_B]
  exact congrArg _ (load_row harg9 x9)

/-! ### One of the last two points -/

theorem rows0_C : runC.sl.v36 c t w0 = lift (rows c arr0 w0 (Ring.bk 16 t.val)) := load_filled c 0 arr0 w0 (Ring.sl 3 t.val) (Ring.bk 16 t.val) _ (off_l0 t) _
theorem rows1_C : runC.sl.v39 c t w1 = lift (rows c arr1 w1 (Ring.bk 16 t.val)) := load_filled c 1 arr1 w1 (Ring.sl 3 t.val) (Ring.bk 16 t.val) _ (off_l1 t) _
theorem rows2_C : runC.sl.v42 c t w2 = lift (rows c arr2 w2 (Ring.bk 16 t.val)) := load_filled c 2 arr2 w2 (Ring.sl 3 t.val) (Ring.bk 16 t.val) _ (off_l2 t) _
theorem dx_C : runC.sl.r_2 c t arg3 harg3 x3 w0 w1 w2 = dxOf (rows c arr0 w0 (Ring.bk 16 t.val)) (rows c arr1 w1 (Ring.bk 16 t.val)) (rows c arr2 w2 (Ring.bk 16 t.val)) x3 := by
  unfold runC.sl.r_2 dxOf; rw [rows0_C, rows1_C, rows2_C]; exact congrArg _ (load_row harg3 x3)
theorem out6_C (h0 : ¬atFirst (grid0.coords t)) (h1 : ¬hasNext (grid0.coords t)) (f : arg6.view.ty.Contents (Elt F)) :
    arg6.view.read (Elt F) (arg6.view.writes (Elt F) f (runC c t arg3 harg3 arg5 harg5 arg6 harg6 arg7 harg7 arg8 harg8 arg9 harg9 h0 h1 x3 x5 x9 w0 w1 w2).1) = k0_pay3 (dxOf (rows c arr0 w0 (Ring.bk 16 t.val)) (rows c arr1 w1 (Ring.bk 16 t.val)) (rows c arr2 w2 (Ring.bk 16 t.val)) x3) x5 := by
  unfold runC; dsimp only
  refine (View.read_writes_full arg6.view f inb_S256x2048_S256x2048_0_0 _ []).trans ?_
  rw [dx_C]; exact congrArg _ (load_weight harg5 x5)
theorem out7_C (h0 : ¬atFirst (grid0.coords t)) (h1 : ¬hasNext (grid0.coords t)) (f : arg7.view.ty.Contents (Elt F)) :
    arg7.view.read (Elt F) (arg7.view.writes (Elt F) f (runC c t arg3 harg3 arg5 harg5 arg6 harg6 arg7 harg7 arg8 harg8 arg9 harg9 h0 h1 x3 x5 x9 w0 w1 w2).2.1) = dxOf (rows c arr0 w0 (Ring.bk 16 t.val)) (rows c arr1 w1 (Ring.bk 16 t.val)) (rows c arr2 w2 (Ring.bk 16 t.val)) x3 := by
  unfold runC; dsimp only
  exact (View.read_writes_full arg7.view f inb_S256x2048_S256x2048_0_0 _ []).trans (dx_C c t arg3 harg3 x3 w0 w1 w2)
theorem out8_C (h0 : ¬atFirst (grid0.coords t)) (h1 : ¬hasNext (grid0.coords t)) (f : arg8.view.ty.Contents (Elt F)) :
    arg8.view.read (Elt F) (arg8.view.writes (Elt F) f (runC c t arg3 harg3 arg5 harg5 arg6 harg6 arg7 harg7 arg8 harg8 arg9 harg9 h0 h1 x3 x5 x9 w0 w1 w2).2.2.1) = k0_pay1 (dxOf (rows c arr0 w0 (Ring.bk 16 t.val)) (rows c arr1 w1 (Ring.bk 16 t.val)) (rows c arr2 w2 (Ring.bk 16 t.val)) x3) := by
  unfold runC; dsimp only
  exact (View.read_writes_full arg8.view f inb_S256x2048_S256x2048_0_0 _ []).trans (congrArg _ (dx_C c t arg3 harg3 x3 w0 w1 w2))
theorem out9_C (h0 : ¬atFirst (grid0.coords t)) (h1 : ¬hasNext (grid0.coords t)) (f : arg9.view.ty.Contents (Elt F)) :
    arg9.view.read (Elt F) (arg9.view.writes (Elt F) f (runC c t arg3 harg3 arg5 harg5 arg6 harg6 arg7 harg7 arg8 harg8 arg9 harg9 h0 h1 x3 x5 x9 w0 w1 w2).2.2.2.1) = dgOf (rows c arr0 w0 (Ring.bk 16 t.val)) (rows c arr1 w1 (Ring.bk 16 t.val)) x9 := by
  unfold runC; dsimp only
  refine (View.read_writes_full arg9.view f inb_S1x2048_S1x2048_0_0 _ []).trans ?_
  unfold runC.sl.r runC.sl.r_1 dgOf
  rw [rows0_C, rows1_C]
  exact congrArg _ (load_row harg9 x9)

end Values

end Cert.DxRing

end
-- ==== Proof.DxLaunch.lean ====
/-
  The launch around the gradient of the normalised layer's input: the host lines before and after it, what the launch
  hands to the three streams (the buffer of nine parts, the nine cells and the three arrays) and takes back from them.
-/
module

public import proofs.«01_k».proof.Proof.DxValue
public import proofs.«01_k».proof.Proof.Gen.Kernel5Ideal.Launch
public import proofs.«01_k».proof.Proof.Gen.Kernel5Ideal.Points
public import proofs.«01_k».proof.Proof.Gen.Kernel5Ideal.Frame

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines around the launch -/

/-- The whole program around its one launch. -/
theorem around (𝒱₀) : Pipeline.HMainK (Ix := Unit) (Name := ℕ) (U := Pipeline.UD sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1]
    (by simp only [List.Forall]; exact hostOps0_sub) (by simp only [List.Forall]; exact hostOps0_fresh) main_chain

section Arguments
variable (dats : (p : Fin _) → (c : Dev nD) → Dat τ (Elt F) Unit ℕ (Pipeline.UD sig nD τ) ℕ (cfgs p) c)

theorem kept0 (c : Dev nD) : Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem kept1 (c : Dev nD) : Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

theorem kept2 (c : Dev nD) : Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

theorem kept3 (c : Dev nD) : Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

theorem kept4 (c : Dev nD) : Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The five arguments of the program end as they were. -/
theorem arguments_kept (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (kept0 m dats c),
    ((h c).2 main_arg1 (Pipeline.mem_restRefs_of main_arg1 (by decide) (by decide))).trans (kept1 m dats c),
    ((h c).2 main_arg2 (Pipeline.mem_restRefs_of main_arg2 (by decide) (by decide))).trans (kept2 m dats c),
    ((h c).2 main_arg3 (Pipeline.mem_restRefs_of main_arg3 (by decide) (by decide))).trans (kept3 m dats c),
    ((h c).2 main_arg4 (Pipeline.mem_restRefs_of main_arg4 (by decide) (by decide))).trans (kept4 m dats c)⟩) h

/-- A window that reads holds its block at every point. -/
theorem holds0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem holds1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Arguments

/-! ## What the launch hands over -/

/-- The nine cells, one for each part of the buffer. -/
abbrev cells9 : Fin 9 → SemLoc sig := fun j => (![SemLoc.dma 9, SemLoc.dma 10, SemLoc.dma 11, SemLoc.dma 12, SemLoc.dma 13, SemLoc.dma 14, SemLoc.dma 15, SemLoc.dma 16, SemLoc.dma 17] : Fin 9 → SemLoc sig) j

theorem cells9_own : Pipeline.OwnSemFacts spec0 cells9 := by decide

/-- The arrays that the body copies from. -/
abbrev streamed : Finset (Ref sig .tc) := {main_arg0, main_arg1, main_arg3}

theorem streamed_sub : streamed ⊆ Pipeline.restRefs sig spec0 := by decide

/-- The line after the launch touches none of them. -/
theorem after_sub : ∀ ops ∈ ([hostOps1] : List (List (HloOp τ sig (Elt F)))), ∀ op ∈ ops, op.bufs ⊆ Pipeline.tailRefsBut sig Pipeline.Prefetch.none spec0 streamed := by
  intro ops hops op hop
  simp only [List.mem_cons, List.mem_nil_iff, or_false] at hops
  rcases hops with rfl
  refine Pipeline.sub_tailRefsBut Pipeline.Prefetch.none spec0 streamed op ((List.forall_iff_forall_mem.mp hostOps1_sub) op hop) (fun j => j.elim0) ?_
  simp only [hostOps1, List.mem_cons, List.mem_nil_iff, or_false] at hop
  rcases hop with rfl
  intro b hb
  simp only [streamed, Finset.mem_insert, Finset.mem_singleton] at hb
  rcases hb with rfl | rfl | rfl <;> simp only [StableHlo.reshape_bufs, Finset.mem_insert, Finset.mem_singleton, not_or] <;> and_intros <;>
    exact StableHlo.devRef_ne_of_ne (by decide)

section Pieces
omit [FloatOps F]

theorem cells9_eq (c : Dev nD) : (Pipeline.ownSems0 (Ix := Unit) (Name := ℕ) (U := Pipeline.UD sig nD τ) (Lvl := ℕ) (Val := Elt F) (τ := τ) cells9 c : sProp 𝕄)
    = iprop(cellAt c 0 0 ∗ cellAt c 0 1 ∗ cellAt c 0 2 ∗ cellAt c 1 0 ∗ cellAt c 1 1 ∗ cellAt c 1 2 ∗ cellAt c 2 0 ∗ cellAt c 2 1 ∗ cellAt c 2 2) := by
  rw [Pipeline.ownSems0_eq_of_list c cells9 [0, 1, 2, 3, 4, 5, 6, 7, 8] (by decide) (by decide)]; rfl

/-- The elements of part s of stream k. -/
def place (p : Fin 3 × Fin 3) : Finset S3x3x256x2048.Idx :=
  (Rect.unit (s := S3x3x256x2048) ![p.1.val, p.2.val, 0, 0] S1x1x256x2048.size (part_inb p.1 p.2)).set

theorem part_set (k s : Fin 3) : (part k s).view.set = place (k, s) := by
  simp only [part, Memref.view_squeeze, View.set_reshape]
  exact View.set_slice_whole _ _

theorem mem_place (p : Fin 3 × Fin 3) (i : S3x3x256x2048.Idx) : i ∈ place p ↔ (i 0).val = p.1.val ∧ (i 1).val = p.2.val := by
  unfold place; rw [Rect.mem_set_unit]
  have b2 : (i 2).val < 256 := (i 2).isLt
  have b3 : (i 3).val < 2048 := (i 3).isLt
  constructor
  · intro h
    have h0 : p.1.val ≤ (i 0).val ∧ (i 0).val < p.1.val + 1 := h 0
    have h1 : p.2.val ≤ (i 1).val ∧ (i 1).val < p.2.val + 1 := h 1
    omega
  · rintro ⟨h0, h1⟩ a
    fin_cases a
    · exact (show p.1.val ≤ (i 0).val ∧ (i 0).val < p.1.val + 1 by omega)
    · exact (show p.2.val ≤ (i 1).val ∧ (i 1).val < p.2.val + 1 by omega)
    · exact (show 0 ≤ (i 2).val ∧ (i 2).val < 0 + 256 by omega)
    · exact (show 0 ≤ (i 3).val ∧ (i 3).val < 0 + 2048 by omega)

theorem places_apart (p q : Fin 3 × Fin 3) (h : p ≠ q) : Disjoint (place p) (place q) :=
  Finset.disjoint_left.mpr fun i hp hq => by
    have a := (mem_place p i).mp hp
    have b := (mem_place q i).mp hq
    exact h (Prod.ext (Fin.ext (a.1.symm.trans b.1)) (Fin.ext (a.2.symm.trans b.2)))

theorem places_cover : Finset.univ.biUnion place = Finset.univ :=
  Finset.eq_univ_of_forall fun i => Finset.mem_biUnion.mpr ⟨((i 0 : Fin 3), (i 1 : Fin 3)), Finset.mem_univ _, (mem_place _ i).mpr ⟨rfl, rfl⟩⟩

theorem nine (P : Fin 3 → Fin 3 → sProp 𝕄) : bigSep Finset.univ (fun p : Fin 3 × Fin 3 => P p.1 p.2)
    = iprop(P 0 0 ∗ P 0 1 ∗ P 0 2 ∗ P 1 0 ∗ P 1 1 ∗ P 1 2 ∗ P 2 0 ∗ P 2 1 ∗ P 2 2) := by
  rw [BI.bigSep_eq_bigSepL_of_eq [(0, 0), (0, 1), (0, 2), (1, 0), (1, 1), (1, 2), (2, 0), (2, 1), (2, 2)] (by decide) (by decide)]; rfl

theorem partAt_place (c : Dev nD) (k s : Fin 3) (f : Cont (F := F) c (part k s)) :
    partAt c k s f = (((c : Thread nD τ).loc cc0_scratch0) ↦[place (k, s)]{fullShare} f : sProp 𝕄) := by
  unfold partAt; rw [part_set]; rfl

theorem some_part (c : Dev nD) (p : Fin 3 × Fin 3) : (iprop(∃ f, partAt c p.1 p.2 f) : sProp 𝕄)
    = iprop(∃ f, ((c : Thread nD τ).loc cc0_scratch0) ↦[place p]{fullShare} f) :=
  congrArg (fun P => iprop(∃ f, P f)) (funext fun f => partAt_place c p.1 p.2 f)

set_option maxHeartbeats 1000000 in
/-- The buffer is its nine parts. -/
theorem store_parts (c : Dev nD) (f : Cont (F := F) c store) : (held c store f : sProp 𝕄)
    ⊢ iprop((∃ f, partAt c 0 0 f) ∗ (∃ f, partAt c 0 1 f) ∗ (∃ f, partAt c 0 2 f) ∗ (∃ f, partAt c 1 0 f) ∗ (∃ f, partAt c 1 1 f) ∗ (∃ f, partAt c 1 2 f) ∗ (∃ f, partAt c 2 0 f) ∗ (∃ f, partAt c 2 1 f) ∗ (∃ f, partAt c 2 2 f)) := by
  rw [← nine (fun k s => iprop(∃ f, partAt c k s f))]
  simp only [some_part]
  refine (Entails.of_eq (Ring.pointsTo_blocks (U := Pipeline.UD sig nD τ) (ℓ := (c : Thread nD τ).loc cc0_scratch0) (q := fullShare) place places_apart places_cover f)).trans ?_
  exact bigSep_mono fun p _ => exists_intro (Φ := fun f => (((c : Thread nD τ).loc cc0_scratch0) ↦[place p]{fullShare} f : sProp 𝕄)) f

set_option maxHeartbeats 1000000 in
/-- Nine parts, whatever they hold, are the buffer at something. -/
theorem parts_store (c : Dev nD) (f₀ : Cont (F := F) c store) : (iprop((∃ f, partAt c 0 0 f) ∗ (∃ f, partAt c 0 1 f) ∗ (∃ f, partAt c 0 2 f) ∗ (∃ f, partAt c 1 0 f) ∗ (∃ f, partAt c 1 1 f) ∗ (∃ f, partAt c 1 2 f) ∗ (∃ f, partAt c 2 0 f) ∗ (∃ f, partAt c 2 1 f) ∗ (∃ f, partAt c 2 2 f)) : sProp 𝕄)
    ⊢ iprop(∃ f, held c store f) := by
  rw [← nine (fun k s => iprop(∃ f, partAt c k s f))]
  simp only [some_part]
  exact Ring.pointsTo_blocks_join_exists (U := Pipeline.UD sig nD τ) (ℓ := (c : Thread nD τ).loc cc0_scratch0) (q := fullShare) place places_apart places_cover f₀

end Pieces

/-- One stream before its first step: its three parts, its three cells, its array. -/
theorem stream_in (c : Dev nD) (k : Fin 3) (M : Memref sig .tc .hbm S4096x2048 .f32) (W : Cont (F := F) c M)
    (f0 : Cont (F := F) c (part k 0)) (f1 : Cont (F := F) c (part k 1)) (f2 : Cont (F := F) c (part k 2)) :
    (iprop((partAt c k 0 f0 ∗ partAt c k 1 f1 ∗ partAt c k 2 f2) ∗ (cellAt c k 0 ∗ cellAt c k 1 ∗ cellAt c k 2) ∗ held c M W) : sProp 𝕄)
      ⊢ stream c k M W 0 := by
  unfold stream; rw [if_pos rfl]; unfold Ring.At₀
  rw [Ring.bigSep_fin3]
  simp only [Ring.free]
  iintro ⟨⟨Hp0, Hp1, Hp2⟩, ⟨Hc0, Hc1, Hc2⟩, HW⟩
  iapply Ring.with_homes₀
  ihave HW' := (shares_split c M W).1 $$ HW
  icases HW' with ⟨Hw0, Hw1, Hw2⟩
  isplitl [Hp0 Hc0 Hw0]
  · isplitl [Hc0]; · iexact Hc0
    iexists f0; isplitl [Hp0]; · iexact Hp0
    iexact Hw0
  isplitl [Hp1 Hc1 Hw1]
  · isplitl [Hc1]; · iexact Hc1
    iexists f1; isplitl [Hp1]; · iexact Hp1
    iexact Hw1
  isplitl [Hc2]; · iexact Hc2
  iexists f2; isplitl [Hp2]; · iexact Hp2
  iexact Hw2

/-- After its last step it gives them back. -/
theorem stream_out (c : Dev nD) (k : Fin 3) (M : Memref sig .tc .hbm S4096x2048 .f32) (W : Cont (F := F) c M) :
    stream c k M W 16
      ⊢ (iprop(((∃ f, partAt c k 0 f) ∗ (∃ f, partAt c k 1 f) ∗ (∃ f, partAt c k 2 f)) ∗ (cellAt c k 0 ∗ cellAt c k 1 ∗ cellAt c k 2) ∗ held c M W) : sProp 𝕄) := by
  unfold stream; rw [if_neg (by decide)]
  iintro H
  ihave H' := (Ring.free3_of_At_last _ _ _ _) $$ H
  simp only [Ring.free]
  icases H' with ⟨-, ⟨Hc0, ⟨%f0, Hp0, Hw0⟩⟩, ⟨Hc1, ⟨%f1, Hp1, Hw1⟩⟩, ⟨Hc2, ⟨%f2, Hp2, Hw2⟩⟩⟩
  isplitl [Hp0 Hp1 Hp2]
  · isplitl [Hp0]; · iexists f0; iexact Hp0
    isplitl [Hp1]; · iexists f1; iexact Hp1
    iexists f2; iexact Hp2
  isplitl [Hc0 Hc1 Hc2]
  · isplitl [Hc0]; · iexact Hc0
    isplitl [Hc1]; · iexact Hc1
    iexact Hc2
  iapply (shares_split c M W).2
  isplitl [Hw0]; · iexact Hw0
  isplitl [Hw1]; · iexact Hw1
  iexact Hw2

theorem streamed_eq (c : Dev nD) : (bigSep streamed (fun b => ((c : Thread nD τ).loc b) ↦{fullShare} V m c b) : sProp 𝕄)
    = iprop(held c arr0 (V m c main_arg0) ∗ held c arr1 (V m c main_arg1) ∗ held c arr2 (V m c main_arg3)) := by
  rw [BI.bigSep_eq_bigSepL_of_eq [main_arg0, main_arg1, main_arg3] (by decide) (by decide)]; rfl

/-- What the launch hands over. -/
theorem handed (c : Dev nD) : (Pipeline.ΦD cells9 spec0 streamed (V m) c : sProp 𝕄)
    = iprop((∃ f : Cont (F := F) c store, held c store f) ∗ (∃ r, prngReg c r) ∗ (cellAt c 0 0 ∗ cellAt c 0 1 ∗ cellAt c 0 2 ∗ cellAt c 1 0 ∗ cellAt c 1 1 ∗ cellAt c 1 2 ∗ cellAt c 2 0 ∗ cellAt c 2 1 ∗ cellAt c 2 2)
      ∗ (held c arr0 (V m c main_arg0) ∗ held c arr1 (V m c main_arg1) ∗ held c arr2 (V m c main_arg3))) := by
  rw [Pipeline.ΦD_eq, scopedRest0_eq, cells9_eq, streamed_eq]

/-- Between points: the generator's register and the three streams. -/
def between (c : Dev nD) (j : ℕ) : sProp 𝕄 :=
  iprop((∃ r, prngReg c r) ∗ stream c 0 arr0 (V m c main_arg0) j ∗ stream c 1 arr1 (V m c main_arg1) j ∗ stream c 2 arr2 (V m c main_arg3) j)

/-- Into the streams. -/
theorem enter (c : Dev nD) : (Pipeline.ΦD cells9 spec0 streamed (V m) c : sProp 𝕄) ⊢ between m c 0 := by
  rw [handed]; unfold between
  iintro ⟨⟨%f, HS⟩, Hg, ⟨Hc00, Hc01, Hc02, Hc10, Hc11, Hc12, Hc20, Hc21, Hc22⟩, ⟨Ha0, Ha1, Ha2⟩⟩
  ihave HS' := (store_parts c f) $$ HS
  icases HS' with ⟨⟨%f00, Hp00⟩, ⟨%f01, Hp01⟩, ⟨%f02, Hp02⟩, ⟨%f10, Hp10⟩, ⟨%f11, Hp11⟩, ⟨%f12, Hp12⟩, ⟨%f20, Hp20⟩, ⟨%f21, Hp21⟩, ⟨%f22, Hp22⟩⟩
  isplitl [Hg]; · iexact Hg
  isplitl [Hp00 Hp01 Hp02 Hc00 Hc01 Hc02 Ha0]
  · iapply (stream_in c 0 arr0 (V m c main_arg0) f00 f01 f02)
    isplitl [Hp00 Hp01 Hp02]
    · isplitl [Hp00]; · iexact Hp00
      isplitl [Hp01]; · iexact Hp01
      iexact Hp02
    isplitl [Hc00 Hc01 Hc02]
    · isplitl [Hc00]; · iexact Hc00
      isplitl [Hc01]; · iexact Hc01
      iexact Hc02
    iexact Ha0
  isplitl [Hp10 Hp11 Hp12 Hc10 Hc11 Hc12 Ha1]
  · iapply (stream_in c 1 arr1 (V m c main_arg1) f10 f11 f12)
    isplitl [Hp10 Hp11 Hp12]
    · isplitl [Hp10]; · iexact Hp10
      isplitl [Hp11]; · iexact Hp11
      iexact Hp12
    isplitl [Hc10 Hc11 Hc12]
    · isplitl [Hc10]; · iexact Hc10
      isplitl [Hc11]; · iexact Hc11
      iexact Hc12
    iexact Ha1
  · iapply (stream_in c 2 arr2 (V m c main_arg3) f20 f21 f22)
    isplitl [Hp20 Hp21 Hp22]
    · isplitl [Hp20]; · iexact Hp20
      isplitl [Hp21]; · iexact Hp21
      iexact Hp22
    isplitl [Hc20 Hc21 Hc22]
    · isplitl [Hc20]; · iexact Hc20
      isplitl [Hc21]; · iexact Hc21
      iexact Hc22
    iexact Ha2

/-- Out of the streams. -/
theorem leave (c : Dev nD) (f₀ : Cont (F := F) c store) : between m c 16 ⊢ (Pipeline.ΦD cells9 spec0 streamed (V m) c : sProp 𝕄) := by
  rw [handed]; unfold between
  iintro ⟨Hg, H0, H1, H2⟩
  ihave H0' := (stream_out c 0 arr0 (V m c main_arg0)) $$ H0
  icases H0' with ⟨⟨Hp00, Hp01, Hp02⟩, ⟨Hc00, Hc01, Hc02⟩, Ha0⟩
  ihave H1' := (stream_out c 1 arr1 (V m c main_arg1)) $$ H1
  icases H1' with ⟨⟨Hp10, Hp11, Hp12⟩, ⟨Hc10, Hc11, Hc12⟩, Ha1⟩
  ihave H2' := (stream_out c 2 arr2 (V m c main_arg3)) $$ H2
  icases H2' with ⟨⟨Hp20, Hp21, Hp22⟩, ⟨Hc20, Hc21, Hc22⟩, Ha2⟩
  isplitl [Hp00 Hp01 Hp02 Hp10 Hp11 Hp12 Hp20 Hp21 Hp22]
  · iapply (parts_store c f₀)
    isplitl [Hp00]; · iexact Hp00
    isplitl [Hp01]; · iexact Hp01
    isplitl [Hp02]; · iexact Hp02
    isplitl [Hp10]; · iexact Hp10
    isplitl [Hp11]; · iexact Hp11
    isplitl [Hp12]; · iexact Hp12
    isplitl [Hp20]; · iexact Hp20
    isplitl [Hp21]; · iexact Hp21
    iexact Hp22
  isplitl [Hg]; · iexact Hg
  isplitl [Hc00 Hc01 Hc02 Hc10 Hc11 Hc12 Hc20 Hc21 Hc22]
  · isplitl [Hc00]; · iexact Hc00
    isplitl [Hc01]; · iexact Hc01
    isplitl [Hc02]; · iexact Hc02
    isplitl [Hc10]; · iexact Hc10
    isplitl [Hc11]; · iexact Hc11
    isplitl [Hc12]; · iexact Hc12
    isplitl [Hc20]; · iexact Hc20
    isplitl [Hc21]; · iexact Hc21
    iexact Hc22
  isplitl [Ha0]; · iexact Ha0
  isplitl [Ha1]; · iexact Ha1
  iexact Ha2

end Cert.DxRing

end
-- ==== Proof.DxFrame.lean ====
/-
  The run of the gradient of the normalised layer's input: the body at each of the sixteen points turns the streams
  before the point into the streams after it and leaves in the four windows the values of its block of rows.
-/
module

public import proofs.«01_k».proof.Proof.DxLaunch
public import Idealize.ShloMosaic.Lib.Claim

@[expose] public section

set_option maxRecDepth 16384

noncomputable section

namespace Cert.DxRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each window holds after a point -/

/-- The gradient's rows at point t. -/
def dxAt (c : Dev nD) (t : Fin cfg0.N) : Vec F S256x2048 .f32 :=
  dxOf (rows c arr0 (V m c main_arg0) (Ring.bk 16 t.val)) (rows c arr1 (V m c main_arg1) (Ring.bk 16 t.val)) (rows c arr2 (V m c main_arg3) (Ring.bk 16 t.val)) (iblk m c 0 t)

/-- The sum of the scale's gradient over the blocks 0 to n. -/
def dgAt (c : Dev nD) : ℕ → Vec F S1x2048 .f32
  | 0 => dgOf (rows c arr0 (V m c main_arg0) (Ring.bk 16 0)) (rows c arr1 (V m c main_arg1) (Ring.bk 16 0)) k0_pay4
  | n + 1 => dgOf (rows c arr0 (V m c main_arg0) (Ring.bk 16 (n + 1))) (rows c arr1 (V m c main_arg1) (Ring.bk 16 (n + 1))) (dgAt c n)

theorem dgAt_of_zero (c : Dev nD) (n : ℕ) (h : n = 0) : dgAt m c n = dgOf (rows c arr0 (V m c main_arg0) (Ring.bk 16 n)) (rows c arr1 (V m c main_arg1) (Ring.bk 16 n)) k0_pay4 := by
  subst h; rfl
theorem dgAt_of_pos (c : Dev nD) (n : ℕ) (h : n ≠ 0) : dgAt m c n = dgOf (rows c arr0 (V m c main_arg0) (Ring.bk 16 n)) (rows c arr1 (V m c main_arg1) (Ring.bk 16 n)) (dgAt m c (n - 1)) := by
  obtain ⟨n, rfl⟩ := Nat.exists_eq_succ_of_ne_zero h; rfl

/-- The proof data of the launch: what the windows hold after each point, the streams between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay3 (dxAt m c t) (iblk m c 1 t)
    | ⟨3, _⟩ => dxAt m c t
    | ⟨4, _⟩ => k0_pay1 (dxAt m c t)
    | ⟨5, _⟩ => dgAt m c t.val
  Φ t := between m c t.val
  q _ := fullShare
  owed _ := 0

theorem A_eq (c : Dev nD) (w : Fin cfg0.W) : (dats m 0 c).A w = V m c (Pipeline.arrRef spec0 w) := by
  dsimp only [dats]
theorem start (c : Dev nD) (t : Fin cfg0.N) : (dats m 0 c).Φ t.castSucc = between m c t.val := by
  dsimp only [dats]; simp only [Fin.coe_castSucc]
theorem finish (c : Dev nD) (t : Fin cfg0.N) : (dats m 0 c).Φ t.succ = between m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (dxAt m c t) (iblk m c 1 t) := by dsimp only [dats]
theorem after3 (c : Dev nD) (t : Fin cfg0.N) : (dats m 0 c).after 3 t = dxAt m c t := by dsimp only [dats]
theorem after4 (c : Dev nD) (t : Fin cfg0.N) : (dats m 0 c).after 4 t = k0_pay1 (dxAt m c t) := by dsimp only [dats]
theorem after5 (c : Dev nD) (t : Fin cfg0.N) : (dats m 0 c).after 5 t = dgAt m c t.val := by dsimp only [dats]
theorem before0 (c : Dev nD) (t : Fin cfg0.N) (d) : (dats m 0 c).before 0 t d = iblk m c 0 t :=
  holds0 m (dats m 0 c) (A_eq m c 0) (after0 m c) t d
theorem before1 (c : Dev nD) (t : Fin cfg0.N) (d) : (dats m 0 c).before 1 t d = iblk m c 1 t :=
  holds1 m (dats m 0 c) (A_eq m c 1) (after1 m c) t d
/-- After the first point the scale's window still holds the sum that the point before left. -/
theorem before5 (c : Dev nD) (t : Fin cfg0.N) (h : t.val ≠ 0) (d) : (dats m 0 c).before 5 t d = dgAt m c (t.val - 1) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body at a point -/

/-- Before the body. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- After the body. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0, before1]
  rw [after0, after1, after2, after3, after4, after5, start m c t, finish m c t]
  unfold Dat.owesAt Pipeline.owesWithin
  rw [show (dats m 0 c).owed t.castSucc = 0 from rfl, show (dats m 0 c).owed t.succ = 0 from rfl]
  unfold between stream
  by_cases h0 : t.val = 0
  · rw [dgAt_of_zero m c t.val h0]
    simp only [if_pos h0, if_neg (show ¬t.val + 1 = 0 by omega)]
    rw [Ring.At₀_eq3' _ _ _ t.val h0 (by decide : 3 ≤ 16), Ring.At3_one' _ _ _ _ t.val h0 (by decide : 3 ≤ 16)]
    rw [Ring.At₀_eq3' _ _ _ t.val h0 (by decide : 3 ≤ 16), Ring.At3_one' _ _ _ _ t.val h0 (by decide : 3 ≤ 16)]
    rw [Ring.At₀_eq3' _ _ _ t.val h0 (by decide : 3 ≤ 16), Ring.At3_one' _ _ _ _ t.val h0 (by decide : 3 ≤ 16)]
    iintro ⟨⟨Hg, ⟨-, Ha0, Hb0, Hc0⟩, ⟨-, Ha1, Hb1, Hc1⟩, ⟨-, Ha2, Hb2, Hc2⟩⟩, ⟨%W, -, HW⟩, ⟨%d0, H0⟩, ⟨%d1, H1⟩, ⟨%d2, H2⟩, ⟨%d3, H3⟩, ⟨%d4, H4⟩, ⟨%d5, H5⟩⟩
    iapply ((runA c t _ _ _ _ _ _ _ _ _ _ _ _ ((atFirst_iff t).mpr h0) ((hasNext_iff t).mpr (by omega)) (iblk m c 0 t) (iblk m c 1 t) (V m c main_arg0) (V m c main_arg1) (V m c main_arg3)).2.2.2.2 W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [Ha0]; · iexact Ha0
    isplitl [Hb0]; · iexact Hb0
    isplitl [Hc0]; · iexact Hc0
    isplitl [Ha1]; · iexact Ha1
    isplitl [Hb1]; · iexact Hb1
    isplitl [Hc1]; · iexact Hc1
    isplitl [Ha2]; · iexact Ha2
    isplitl [Hb2]; · iexact Hb2
    isplitl [Hc2]; · iexact Hc2
    isplitl [HW]; · iexact HW
    iintro ⟨H0, H1, ⟨%e2, H2⟩, ⟨%e3, H3⟩, ⟨%e4, H4⟩, ⟨%e5, H5⟩, Ha0, Hb0, Hc0, Ha1, Hb1, Hc1, Ha2, Hb2, Hc2, ⟨%W', HW⟩⟩
    isplitl [Hg Ha0 Hb0 Hc0 Ha1 Hb1 Hc1 Ha2 Hb2 Hc2]
    · isplitl [Hg]; · iexact Hg
      isplitl [Ha0 Hb0 Hc0]
      · iapply (Ring.with_homes (Idealize.SL.BI.Entails.refl _))
        isplitl [Ha0]; · iexact Ha0
        isplitl [Hb0]; · iexact Hb0
        iexact Hc0
      isplitl [Ha1 Hb1 Hc1]
      · iapply (Ring.with_homes (Idealize.SL.BI.Entails.refl _))
        isplitl [Ha1]; · iexact Ha1
        isplitl [Hb1]; · iexact Hb1
        iexact Hc1
      · iapply (Ring.with_homes (Idealize.SL.BI.Entails.refl _))
        isplitl [Ha2]; · iexact Ha2
        isplitl [Hb2]; · iexact Hb2
        iexact Hc2
    isplitl [HW]
    · iexists W'; isplitr; · ipureintro; exact fun _ _ => Or.inl trivial
      iexact HW
    isplitl [H0]; · iexact H0
    isplitl [H1]; · iexact H1
    isplitl [H2]
    · unfold owns; iexists _; isplitr
      swap; · iexact H2
      ipureintro; exact out6_A c t _ _ _ _ _ _ _ _ _ _ _ _ (iblk m c 0 t) (iblk m c 1 t) (V m c main_arg0) (V m c main_arg1) (V m c main_arg3) ((atFirst_iff t).mpr h0) ((hasNext_iff t).mpr (by omega)) _
    isplitl [H3]
    · unfold owns; iexists _; isplitr
      swap; · iexact H3
      ipureintro; exact out7_A c t _ _ _ _ _ _ _ _ _ _ _ _ (iblk m c 0 t) (iblk m c 1 t) (V m c main_arg0) (V m c main_arg1) (V m c main_arg3) ((atFirst_iff t).mpr h0) ((hasNext_iff t).mpr (by omega)) _
    isplitl [H4]
    · unfold owns; iexists _; isplitr
      swap; · iexact H4
      ipureintro; exact out8_A c t _ _ _ _ _ _ _ _ _ _ _ _ (iblk m c 0 t) (iblk m c 1 t) (V m c main_arg0) (V m c main_arg1) (V m c main_arg3) ((atFirst_iff t).mpr h0) ((hasNext_iff t).mpr (by omega)) _
    · unfold owns; iexists _; isplitr
      swap; · iexact H5
      ipureintro; exact out9_A c t _ _ _ _ _ _ _ _ _ _ _ _ (iblk m c 0 t) (iblk m c 1 t) (V m c main_arg0) (V m c main_arg1) (V m c main_arg3) ((atFirst_iff t).mpr h0) ((hasNext_iff t).mpr (by omega)) _
  by_cases h1 : t.val < 14
  · rw [dgAt_of_pos m c t.val h0]
    simp only [before5 m c t h0]
    simp only [if_neg h0, if_neg (show ¬t.val + 1 = 0 by omega)]
    rw [Ring.At3_here _ _ _ _ t.val (by omega), Ring.At3_next _ _ _ _ t.val (by omega), Ring.slotAt3_next0 _ _ _ t.val (by omega), Ring.slotAt3_next1 _ _ _ t.val (by omega)]
    rw [Ring.At3_here _ _ _ _ t.val (by omega), Ring.At3_next _ _ _ _ t.val (by omega), Ring.slotAt3_next0 _ _ _ t.val (by omega), Ring.slotAt3_next1 _ _ _ t.val (by omega)]
    rw [Ring.At3_here _ _ _ _ t.val (by omega), Ring.At3_next _ _ _ _ t.val (by omega), Ring.slotAt3_next0 _ _ _ t.val (by omega), Ring.slotAt3_next1 _ _ _ t.val (by omega)]
    iintro ⟨⟨Hg, ⟨-, Ha0, Hb0, Hc0⟩, ⟨-, Ha1, Hb1, Hc1⟩, ⟨-, Ha2, Hb2, Hc2⟩⟩, ⟨%W, -, HW⟩, ⟨%d0, H0⟩, ⟨%d1, H1⟩, ⟨%d2, H2⟩, ⟨%d3, H3⟩, ⟨%d4, H4⟩, ⟨%d5, H5⟩⟩
    iapply ((runB c t _ _ _ _ _ _ _ _ _ _ _ _ (fun h => h0 ((atFirst_iff t).mp h)) ((hasNext_iff t).mpr h1) (iblk m c 0 t) (iblk m c 1 t) (dgAt m c (t.val - 1)) (V m c main_arg0) (V m c main_arg1) (V m c main_arg3)).2.2.2.2 W _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [Ha0]; · iexact Ha0
    isplitl [Hb0]; · iexact Hb0
    isplitl [Hc0]; · iexact Hc0
    isplitl [Ha1]; · iexact Ha1
    isplitl [Hb1]; · iexact Hb1
    isplitl [Hc1]; · iexact Hc1
    isplitl [Ha2]; · iexact Ha2
    isplitl [Hb2]; · iexact Hb2
    isplitl [Hc2]; · iexact Hc2
    isplitl [HW]; · iexact HW
    iintro ⟨H0, H1, ⟨%e2, H2⟩, ⟨%e3, H3⟩, ⟨%e4, H4⟩, ⟨%e5, H5⟩, Ha0, Hb0, Hc0, Ha1, Hb1, Hc1, Ha2, Hb2, Hc2, ⟨%W', HW⟩⟩
    isplitl [Hg Ha0 Hb0 Hc0 Ha1 Hb1 Hc1 Ha2 Hb2 Hc2]
    · isplitl [Hg]; · iexact Hg
      isplitl [Ha0 Hb0 Hc0]
      · iapply (Ring.with_homes (Idealize.SL.BI.Entails.refl _))
        isplitl [Ha0]; · iexact Ha0
        isplitl [Hb0]; · iexact Hb0
        iexact Hc0
      isplitl [Ha1 Hb1 Hc1]
      · iapply (Ring.with_homes (Idealize.SL.BI.Entails.refl _))
        isplitl [Ha1]; · iexact Ha1
        isplitl [Hb1]; · iexact Hb1
        iexact Hc1
      · iapply (Ring.with_homes (Idealize.SL.BI.Entails.refl _))
        isplitl [Ha2]; · iexact Ha2
        isplitl [Hb2]; · iexact Hb2
        iexact Hc2
    isplitl [HW]
    · iexists W'; isplitr; · ipureintro; exact fun _ _ => Or.inl trivial
      iexact HW
    isplitl [H0]; · iexact H0
    isplitl [H1]; · iexact H1
    isplitl [H2]
    · unfold owns; iexists _; isplitr
      swap; · iexact H2
      ipureintro; exact out6_B c t _ _ _ _ _ _ _ _ _ _ _ _ (iblk m c 0 t) (iblk m c 1 t) (dgAt m c (t.val - 1)) (V m c main_arg0) (V m c main_arg1) (V m c main_arg3) (fun h => h0 ((atFirst_iff t).mp h)) ((hasNext_iff t).mpr h1) _
    isplitl [H3]
    · unfold owns; iexists _; isplitr
      swap; · iexact H3
      ipureintro; exact out7_B c t _ _ _ _ _ _ _ _ _ _ _ _ (iblk m c 0 t) (iblk m c 1 t) (dgAt m c (t.val - 1)) (V m c main_arg0) (V m c main_arg1) (V m c main_arg3) (fun h => h0 ((atFirst_iff t).mp h)) ((hasNext_iff t).mpr h1) _
    isplitl [H4]
    · unfold owns; iexists _; isplitr
      swap; · iexact H4
      ipureintro; exact out8_B c t _ _ _ _ _ _ _ _ _ _ _ _ (iblk m c 0 t) (iblk m c 1 t) (dgAt m c (t.val - 1)) (V m c main_arg0) (V m c main_arg1) (V m c main_arg3) (fun h => h0 ((atFirst_iff t).mp h)) ((hasNext_iff t).mpr h1) _
    · unfold owns; iexists _; isplitr
      swap; · iexact H5
      ipureintro; exact out9_B c t _ _ _ _ _ _ _ _ _ _ _ _ (iblk m c 0 t) (iblk m c 1 t) (dgAt m c (t.val - 1)) (V m c main_arg0) (V m c main_arg1) (V m c main_arg3) (fun h => h0 ((atFirst_iff t).mp h)) ((hasNext_iff t).mpr h1) _
  · rw [dgAt_of_pos m c t.val h0]
    simp only [before5 m c t h0]
    simp only [if_neg h0, if_neg (show ¬t.val + 1 = 0 by omega)]
    rw [Ring.At3_here_tail _ _ _ _ t.val hN, Ring.At3_next_tail _ _ _ _ t.val (by omega) hN, Ring.slotAt3_tail_role _ _ _ t.val]
    rw [Ring.At3_here_tail _ _ _ _ t.val hN, Ring.At3_next_tail _ _ _ _ t.val (by omega) hN, Ring.slotAt3_tail_role _ _ _ t.val]
    rw [Ring.At3_here_tail _ _ _ _ t.val hN, Ring.At3_next_tail _ _ _ _ t.val (by omega) hN, Ring.slotAt3_tail_role _ _ _ t.val]
    iintro ⟨⟨Hg, ⟨-, Ha0, Hb0, Hc0⟩, ⟨-, Ha1, Hb1, Hc1⟩, ⟨-, Ha2, Hb2, Hc2⟩⟩, ⟨%W, -, HW⟩, ⟨%d0, H0⟩, ⟨%d1, H1⟩, ⟨%d2, H2⟩, ⟨%d3, H3⟩, ⟨%d4, H4⟩, ⟨%d5, H5⟩⟩
    iapply ((runC c t _ _ _ _ _ _ _ _ _ _ _ _ (fun h => h0 ((atFirst_iff t).mp h)) (fun h => h1 ((hasNext_iff t).mp h)) (iblk m c 0 t) (iblk m c 1 t) (dgAt m c (t.val - 1)) (V m c main_arg0) (V m c main_arg1) (V m c main_arg3)).2.2.2.2 W _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [Ha0]; · iexact Ha0
    isplitl [Hb0]; · iexact Hb0
    isplitl [Hc0]; · iexact Hc0
    isplitl [Ha1]; · iexact Ha1
    isplitl [Hb1]; · iexact Hb1
    isplitl [Hc1]; · iexact Hc1
    isplitl [Ha2]; · iexact Ha2
    isplitl [Hb2]; · iexact Hb2
    isplitl [Hc2]; · iexact Hc2
    isplitl [HW]; · iexact HW
    iintro ⟨H0, H1, ⟨%e2, H2⟩, ⟨%e3, H3⟩, ⟨%e4, H4⟩, ⟨%e5, H5⟩, Ha0, Hb0, Hc0, Ha1, Hb1, Hc1, Ha2, Hb2, Hc2, ⟨%W', HW⟩⟩
    isplitl [Hg Ha0 Hb0 Hc0 Ha1 Hb1 Hc1 Ha2 Hb2 Hc2]
    · isplitl [Hg]; · iexact Hg
      isplitl [Ha0 Hb0 Hc0]
      · iapply (Ring.with_homes (Idealize.SL.BI.Entails.refl _))
        isplitl [Ha0]; · iexact Ha0
        isplitl [Hb0]; · iexact Hb0
        iexact Hc0
      isplitl [Ha1 Hb1 Hc1]
      · iapply (Ring.with_homes (Idealize.SL.BI.Entails.refl _))
        isplitl [Ha1]; · iexact Ha1
        isplitl [Hb1]; · iexact Hb1
        iexact Hc1
      · iapply (Ring.with_homes (Idealize.SL.BI.Entails.refl _))
        isplitl [Ha2]; · iexact Ha2
        isplitl [Hb2]; · iexact Hb2
        iexact Hc2
    isplitl [HW]
    · iexists W'; isplitr; · ipureintro; exact fun _ _ => Or.inl trivial
      iexact HW
    isplitl [H0]; · iexact H0
    isplitl [H1]; · iexact H1
    isplitl [H2]
    · unfold owns; iexists _; isplitr
      swap; · iexact H2
      ipureintro; exact out6_C c t _ _ _ _ _ _ _ _ _ _ _ _ (iblk m c 0 t) (iblk m c 1 t) (dgAt m c (t.val - 1)) (V m c main_arg0) (V m c main_arg1) (V m c main_arg3) (fun h => h0 ((atFirst_iff t).mp h)) (fun h => h1 ((hasNext_iff t).mp h)) _
    isplitl [H3]
    · unfold owns; iexists _; isplitr
      swap; · iexact H3
      ipureintro; exact out7_C c t _ _ _ _ _ _ _ _ _ _ _ _ (iblk m c 0 t) (iblk m c 1 t) (dgAt m c (t.val - 1)) (V m c main_arg0) (V m c main_arg1) (V m c main_arg3) (fun h => h0 ((atFirst_iff t).mp h)) (fun h => h1 ((hasNext_iff t).mp h)) _
    isplitl [H4]
    · unfold owns; iexists _; isplitr
      swap; · iexact H4
      ipureintro; exact out8_C c t _ _ _ _ _ _ _ _ _ _ _ _ (iblk m c 0 t) (iblk m c 1 t) (dgAt m c (t.val - 1)) (V m c main_arg0) (V m c main_arg1) (V m c main_arg3) (fun h => h0 ((atFirst_iff t).mp h)) (fun h => h1 ((hasNext_iff t).mp h)) _
    · unfold owns; iexists _; isplitr
      swap; · iexact H5
      ipureintro; exact out9_C c t _ _ _ _ _ _ _ _ _ _ _ _ (iblk m c 0 t) (iblk m c 1 t) (dgAt m c (t.val - 1)) (V m c main_arg0) (V m c main_arg1) (V m c main_arg3) (fun h => h0 ((atFirst_iff t).mp h)) (fun h => h1 ((hasNext_iff t).mp h)) _

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- From any memory with zero counters every execution ends, with the windows' arrays at what the points left there, every
    other buffer as the lines around the launch leave it, and every counter at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 cells9 defs₀ Variants.none cells9_own streamed streamed_sub m ρ main
    (hbody := fun c => (body_obligation m c).loose) (hshare := fun c => (dats m 0 c).share_full fun _ => rfl) (howed := fun _ _ => rfl)
    (V₀ := V0 m) (opss := [hostOps1]) (hsub := after_sub) (hfresh := sfx_fresh) (hkeep := sfx_keeps)
    (hmain := around m Variants.none) (hA := A_eq m)
    (hin := fun c => by rw [show (dats m 0 c).Φ 0 = between m c 0 from rfl]; exact enter m c)
    (hout := fun c => by
      rw [show (dats m 0 c).Φ (Fin.last cfg0.N) = between m c grid0.N from rfl, show grid0.N = 16 by rw [N_0]]; exact leave m c (V m c cc0_scratch0))

/-- The same without the counters. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_all m ρ)

/-- Every execution ends with the five arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (arguments_kept m ρ (dats m) (run m ρ)) ((θ_run defs _ _).mono (fun _ h => h.2) (run_all m ρ))

end Cert.DxRing

end
-- ==== Proof.DxSpec.lean ====
/-
  The gradient through a normalised layer and the product before it, entry by entry, over extended reals.

  The layer's cotangent `h` meets the norm `x · r · g`, with `r` the inverse root of the mean square of a row of `x`; the gradient
  `d` of the residual passes by and is added; the sum then goes on through the rows of the weight.
-/
module

public import proofs.«01_k».proof.Proof.NormGrad
public import proofs.«01_k».proof.Proof.FfnTile
public import proofs.«01_k».proof.Proof.InSpec

@[expose] public section

noncomputable section

open Idealize.ShloMosaic

namespace DxSpec

open NormGrad FfnTile InSpec

/-- The square weight. -/
abbrev SQ : Shape := ⟨2, ![2048, 2048]⟩

/-- The gradient of the residual. -/
def Dx (h x : ST.Idx → EReal) (g : Fin 2048 → EReal) (d : ST.Idx → EReal) (t : Fin 4096) (k : Fin 2048) : EReal :=
  d (ix2 t k) + byDifference (row x t) (fun j => mulE (h (ix2 t j)) (g j)) k

/-- The gradient of the norm's scale. -/
def Dg (h x : ST.Idx → EReal) (k : Fin 2048) : EReal := ∑ t : Fin 4096, mulE (h (ix2 t k)) (mulE (x (ix2 t k)) (inv (row x t)))

/-- The gradient of the product's input. -/
def Dy (h x : ST.Idx → EReal) (g : Fin 2048 → EReal) (d : ST.Idx → EReal) (w : SQ.Idx → EReal) (t : Fin 4096) (j : Fin 2048) : EReal :=
  ∑ k : Fin 2048, mulE (Dx h x g d t k) (w (ix2 j k))

end DxSpec

end
-- ==== Proof.DxRows.lean ====
/-
  One step of the gradient through a normalised layer over extended reals, entry by entry.
-/
module

public import proofs.«01_k».proof.Proof.DxValue
public import proofs.«01_k».proof.Proof.DxSpec

@[expose] public section

set_option maxRecDepth 16384

noncomputable section

namespace Cert.DxRing

open Idealize.ShloMosaic Idealize.ShloMosaic.TcCoe
open Cert.Kernel5Ideal Cert.Kernel5Ideal.Gen
open FfnTile InSpec NormGrad DxSpec

theorem pay5_lift (x : Vec Ideal S256x2048 .f32) : k0_pay5 (F := Ideal) (lift x) = x := drop_lift x
theorem pay6_lift (x : Vec Ideal S256x2048 .f32) : k0_pay6 (F := Ideal) (lift x) = x := drop_lift x

theorem pay7_apply (x : Vec Ideal S256x2048 .f32) (r : Fin 256) : k0_pay7 (F := Ideal) (lift x) (ix2 r 0) = inv (fun k => x (ix2 r k)) := by
  unfold k0_pay7
  rw [pay6_lift]
  pointwise []
  rfl

theorem pay8_apply (x : Vec Ideal S256x2048 .f32) (r : Fin 256) (k : Fin 2048) :
    k0_pay8 (F := Ideal) (lift x) (ix2 r k) = mulE (x (ix2 r k)) (inv (fun k => x (ix2 r k))) := by
  have e : k0_pay8 (F := Ideal) (lift x) (ix2 r k) = mulE (x (ix2 r k)) (k0_pay7 (F := Ideal) (lift x) (ix2 r 0)) := by
    unfold k0_pay8
    rw [pay6_lift]
    generalize k0_pay7 (F := Ideal) (lift x) = z
    pointwise []
  rw [e, pay7_apply]

/-- The residual's gradient. -/
theorem dxOf_apply (h x d : Vec Ideal S256x2048 .f32) (g : Vec Ideal S1x2048 .f32) (r : Fin 256) (j : Fin 2048) :
    dxOf (F := Ideal) h x d g (ix2 r j)
      = d (ix2 r j) + byDifference (fun k => x (ix2 r k)) (fun k => mulE (h (ix2 r k)) (g (ix2 0 k))) j := by
  have e : dxOf (F := Ideal) h x d g (ix2 r j) = d (ix2 r j) + k0_pay7 (F := Ideal) (lift x) (ix2 r 0)
      * (mulE (h (ix2 r j)) (g (ix2 0 j)) - k0_pay8 (F := Ideal) (lift x) (ix2 r j)
        * Ideal.div (∑ k : Fin 2048, mulE (h (ix2 r k)) (g (ix2 0 k)) * k0_pay8 (F := Ideal) (lift x) (ix2 r k)) cN) := by
    unfold dxOf k0_pay9
    rw [pay5_lift, drop_lift]
    generalize k0_pay8 (F := Ideal) (lift x) = y
    generalize k0_pay7 (F := Ideal) (lift x) = z
    pointwise []
  rw [e]
  simp only [pay7_apply, pay8_apply]
  rfl

/-- One block's part of the scale's gradient. -/
theorem dgOf_apply (h x : Vec Ideal S256x2048 .f32) (a : Vec Ideal S1x2048 .f32) (j : Fin 2048) :
    dgOf (F := Ideal) h x a (ix2 0 j)
      = a (ix2 0 j) + ∑ r : Fin 256, mulE (h (ix2 r j)) (mulE (x (ix2 r j)) (inv (fun k => x (ix2 r k)))) := by
  have e : dgOf (F := Ideal) h x a (ix2 0 j) = a (ix2 0 j) + ∑ r : Fin 256, mulE (h (ix2 r j)) (k0_pay8 (F := Ideal) (lift x) (ix2 r j)) := by
    unfold dgOf k0_pay2
    rw [pay5_lift]
    generalize k0_pay8 (F := Ideal) (lift x) = y
    pointwise []
  rw [e]
  simp only [pay8_apply]

/-- The rounded rows are the rows. -/
theorem pay1_apply (y : Vec Ideal S256x2048 .f32) (r : Fin 256) (k : Fin 2048) : k0_pay1 (F := Ideal) y (ix2 r k) = y (ix2 r k) := by
  unfold k0_pay1
  pointwise []

/-- The product with the weight's rows. -/
theorem pay3_apply (y : Vec Ideal S256x2048 .f32) (w : Vec Ideal S2048x2048 .bf16) (r : Fin 256) (j : Fin 2048) :
    k0_pay3 (F := Ideal) y w (ix2 r j) = ∑ k : Fin 2048, mulE (y (ix2 r k)) (w (ix2 j k)) := by
  have e : k0_pay3 (F := Ideal) y w (ix2 r j) = ∑ k : Fin 2048, mulE (k0_pay1 (F := Ideal) y (ix2 r k)) (w (ix2 j k)) := by
    unfold k0_pay3
    generalize k0_pay1 (F := Ideal) y = z
    pointwise []
  rw [e]
  simp only [pay1_apply]

theorem pay4_apply (j : Fin 2048) : k0_pay4 (F := Ideal) (ix2 0 j) = 0 := by
  unfold k0_pay4
  pointwise []

/-- The rows of a block, read at an index. -/
theorem rows_apply (c : Dev nD) (b : Fin 16) (r : Fin 256) (k : Fin 2048)
    (W0 : Cont (F := Ideal) c arr0) (W1 : Cont (F := Ideal) c arr1) (W2 : Cont (F := Ideal) c arr2) :
    rows c arr0 W0 b (ix2 r k) = W0 (ix2 ⟨b.val * 256 + r.val, by omega⟩ k)
      ∧ rows c arr1 W1 b (ix2 r k) = W1 (ix2 ⟨b.val * 256 + r.val, by omega⟩ k)
      ∧ rows c arr2 W2 b (ix2 r k) = W2 (ix2 ⟨b.val * 256 + r.val, by omega⟩ k) := by
  have e0 : 256 * b.val + r.val = b.val * 256 + r.val := by omega
  have e1 : 0 + k.val = k.val := Nat.zero_add _
  refine ⟨congrArg W0 (ext2 ?_ ?_), congrArg W1 (ext2 ?_ ?_), congrArg W2 (ext2 ?_ ?_)⟩
  all_goals first
    | exact (Rect.idx_unit_val _ _ _ _ _).trans e0
    | exact (Rect.idx_unit_val _ _ _ _ _).trans e1

end Cert.DxRing

end
-- ==== Proof.DxFinal.lean ====
/-
  What the gradient through a normalised layer leaves in its four arrays, over extended reals.
-/
module

public import proofs.«01_k».proof.Proof.DxFrame
public import proofs.«01_k».proof.Proof.DxRows
public import proofs.«01_k».proof.Proof.FfnSpec
import Idealize.ShloMosaic.Lib.Pipeline.ValueKit

@[expose] public section

set_option maxRecDepth 16384

noncomputable section

namespace Cert.DxRing

open Idealize.ShloMosaic Idealize.ShloMosaic.TcCoe Idealize.ShloMosaic.StableHlo Idealize.SL.Sem
open Cert.Kernel5Ideal Cert.Kernel5Ideal.Gen
open FfnTile InSpec NormGrad DxSpec

/-! ## The host's lines -/

section Host
variable (V : Valuation τ sig (Elt Ideal))

/-- The rounded weight is the weight. -/
theorem host_weight : after hostOps0 V (Proc.devRef .tc main_v0) = fun i : SQ.Idx => V (Proc.devRef .tc main_arg4) i := by
  after_results
  funext i
  obtain ⟨a, b, rfl⟩ : ∃ (a : Fin 2048) (b : Fin 2048), i = ix2 a b := ⟨_, _, eq_ix2 i⟩
  pointwise []

/-- The scale as one row. -/
theorem host_scale : after hostOps0 V (Proc.devRef .tc main_v1) = fun i : S1x2048.Idx => V (Proc.devRef .tc main_arg2) (ix1 (i 1)) := by
  after_results
  funext i
  obtain ⟨z, k, rfl⟩ : ∃ (z : Fin 1) (k : Fin 2048), i = ix2 z k := ⟨_, _, eq_ix2 i⟩
  pointwise []

/-- The scale's gradient as a vector. -/
theorem host_vector : after hostOps1 V (Proc.devRef .tc main_v3) = fun i : S2048.Idx => V (Proc.devRef .tc main_v2_3) (ix2 0 (i 0)) := by
  after_results
  funext i
  obtain ⟨k, rfl⟩ : ∃ (k : Fin 2048), i = ix1 k := ⟨_, eq_ix1 i⟩
  pointwise []

end Host

variable (m : (ℓ : Loc nD τ sig) → Buf (Elt Ideal) ℓ) (c : Dev nD)

/-- The arguments. -/
abbrev aH : ST.Idx → EReal := m ((c : Thread nD τ).loc main_arg0)
abbrev aX : ST.Idx → EReal := m ((c : Thread nD τ).loc main_arg1)
abbrev aG : Fin 2048 → EReal := fun k => (m ((c : Thread nD τ).loc main_arg2) : S2048.Idx → EReal) (ix1 k)
abbrev aD : ST.Idx → EReal := m ((c : Thread nD τ).loc main_arg3)
abbrev aW : SQ.Idx → EReal := m ((c : Thread nD τ).loc main_arg4)

/-! ## What the windows read -/

theorem idx0 : ∀ t : Fin cfg0.N, win0_0.index t = ![0, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem scale_window (t : Fin cfg0.N) (k : Fin 2048) : iblk m c 0 t (ix2 0 k) = aG m c k := by
  have e : iblk m c 0 t (ix2 0 k) = V m c main_v1 (ix2 0 k) := by blk_ext [iblk, idx0 t]
  rw [e]
  exact congrFun (host_scale _) (ix2 0 k)

theorem weight_window (t : Fin cfg0.N) (j k : Fin 2048) : iblk m c 1 t (ix2 j k) = aW m c (ix2 j k) := by
  have e : iblk m c 1 t (ix2 j k) = V m c main_v0 (ix2 j k) := by blk_ext [iblk, idx0 t]
  rw [e]
  exact congrFun (host_weight _) (ix2 j k)

theorem streams_read (n : ℕ) (h : n < 16) (r : Fin 256) (k : Fin 2048) :
    rows c arr0 (V m c main_arg0) (Ring.bk 16 n) (ix2 r k) = aH m c (ix2 ⟨n * 256 + r.val, by omega⟩ k)
      ∧ rows c arr1 (V m c main_arg1) (Ring.bk 16 n) (ix2 r k) = aX m c (ix2 ⟨n * 256 + r.val, by omega⟩ k)
      ∧ rows c arr2 (V m c main_arg3) (Ring.bk 16 n) (ix2 r k) = aD m c (ix2 ⟨n * 256 + r.val, by omega⟩ k) := by
  have hb : Ring.bk 16 n = ⟨n, h⟩ := Fin.ext (Ring.bk_val h)
  rw [V_main_arg0, V_main_arg1, V_main_arg3, hb]
  exact rows_apply c ⟨n, h⟩ r k _ _ _

/-! ## One step -/

theorem dxAt_apply (t : Fin cfg0.N) (ht : t.val < 16) (r : Fin 256) (k : Fin 2048) :
    dxAt m c t (ix2 r k) = Dx (aH m c) (aX m c) (aG m c) (aD m c) ⟨t.val * 256 + r.val, by omega⟩ k := by
  unfold dxAt
  rw [dxOf_apply, Dx,
    show (fun k => rows c arr1 (V m c main_arg1) (Ring.bk 16 t.val) (ix2 r k)) = row (aX m c) ⟨t.val * 256 + r.val, by omega⟩
      from funext fun k => (streams_read m c t.val ht r k).2.1,
    show (fun k => mulE (rows c arr0 (V m c main_arg0) (Ring.bk 16 t.val) (ix2 r k)) (iblk m c 0 t (ix2 0 k)))
      = fun k => mulE (aH m c (ix2 ⟨t.val * 256 + r.val, by omega⟩ k)) (aG m c k)
      from funext fun k => congr2 mulE (streams_read m c t.val ht r k).1 (scale_window m c t k)]
  exact congrArg (HAdd.hAdd (α := EReal) · _) (streams_read m c t.val ht r k).2.2

/-- A token's part of the scale's gradient; a block's part, as a function of its number. -/
def part_of (t : Fin 4096) (k : Fin 2048) : EReal := mulE (aH m c (ix2 t k)) (mulE (aX m c (ix2 t k)) (inv (row (aX m c) t)))
def block_part (k : Fin 2048) (s : ℕ) : EReal := if hs : s < 16 then ∑ p : Fin 256, part_of m c ⟨s * 256 + p.val, by omega⟩ k else 0

theorem dgOf_block (n : ℕ) (h : n < 16) (a : Vec Ideal S1x2048 .f32) (k : Fin 2048) :
    dgOf (F := Ideal) (rows c arr0 (V m c main_arg0) (Ring.bk 16 n)) (rows c arr1 (V m c main_arg1) (Ring.bk 16 n)) a (ix2 0 k)
      = a (ix2 0 k) + block_part m c k n := by
  rw [dgOf_apply, block_part, dif_pos h]
  refine congrArg (HAdd.hAdd (α := EReal) _) (Finset.sum_congr rfl fun p _ =>
    congr2 mulE (streams_read m c n h p k).1 (congr2 mulE (streams_read m c n h p k).2.1 ?_))
  exact congrArg inv (funext fun k => (streams_read m c n h p k).2.1)

/-- The scale's gradient after a step: the sum of the blocks so far. -/
theorem dgAt_apply (k : Fin 2048) : ∀ n, n < 16 → dgAt m c n (ix2 0 k) = ∑ s ∈ Finset.range (n + 1), block_part m c k s
  | 0, h => by
    rw [Finset.sum_range_one]
    refine (dgOf_block m c 0 h _ k).trans ((congrArg (HAdd.hAdd (α := EReal) · _) (pay4_apply k)).trans (zero_add _))
  | n + 1, h => by
    rw [Finset.sum_range_succ]
    exact (dgOf_block m c (n + 1) h _ k).trans (congrArg (HAdd.hAdd (α := EReal) · _) (dgAt_apply k n (by omega)))

theorem blocks_sum (k : Fin 2048) : ∑ s ∈ Finset.range 16, block_part m c k s = Dg (aH m c) (aX m c) k := by
  rw [Finset.sum_range, Dg, ← FfnSpec.sum_tiles]
  refine Finset.sum_congr rfl fun s _ => ?_
  rw [block_part, dif_pos s.isLt]
  rfl

/-! ## The arrays -/

theorem final_dy : (dats m 0 c).arrAt 2 cfg0.N = fun i : ST.Idx => Dy (aH m c) (aX m c) (aG m c) (aD m c) (aW m c) (i 0) (i 1) := by
  refine (dats m 0 c).arrAt_eq_of_covers 2 _ (by decide +kernel) fun t hf y => ?_
  blk_simp
  rw [after2]
  have ht : t.val < 16 := t.isLt
  obtain ⟨r, j, rfl⟩ : ∃ (r : Fin 256) (j : Fin 2048), y = ix2 r j := ⟨_, _, eq_ix2 y⟩
  refine Eq.trans ?_ (congrArg (fun i : ST.Idx => Dy (aH m c) (aX m c) (aG m c) (aD m c) (aW m c) (i 0) (i 1))
    (ext2 (a := (⟨t.val * 256 + r.val, ?_⟩ : Fin 4096)) (b := j) ?_ ?_).symm)
  · exact (pay3_apply _ _ r j).trans (Finset.sum_congr rfl fun k _ => congr2 mulE (dxAt_apply m c t ht r k) (weight_window m c t j k))
  all_goals (try blk_simp [idx0 t]) <;> (try show _ = _) <;> omega

theorem final_dx : (dats m 0 c).arrAt 3 cfg0.N = fun i : ST.Idx => Dx (aH m c) (aX m c) (aG m c) (aD m c) (i 0) (i 1) := by
  refine (dats m 0 c).arrAt_eq_of_covers 3 _ (by decide +kernel) fun t hf y => ?_
  blk_simp
  rw [after3]
  have ht : t.val < 16 := t.isLt
  refine Eq.trans ?_ (congrArg (fun i : ST.Idx => Dx (aH m c) (aX m c) (aG m c) (aD m c) (i 0) (i 1))
    (ext2 (a := (⟨t.val * 256 + (y 0).val, ?_⟩ : Fin 4096)) (b := (y 1 : Fin 2048)) ?_ ?_).symm)
  · exact (congrArg (dxAt m c t) (eq_ix2 y)).trans (dxAt_apply m c t ht (y 0) (y 1))
  all_goals (try blk_simp [idx0 t]) <;> idx_bounds y <;> omega

theorem final_dxb : (dats m 0 c).arrAt 4 cfg0.N = fun i : ST.Idx => Dx (aH m c) (aX m c) (aG m c) (aD m c) (i 0) (i 1) := by
  refine (dats m 0 c).arrAt_eq_of_covers 4 _ (by decide +kernel) fun t hf y => ?_
  blk_simp
  rw [after4]
  have ht : t.val < 16 := t.isLt
  refine Eq.trans ?_ (congrArg (fun i : ST.Idx => Dx (aH m c) (aX m c) (aG m c) (aD m c) (i 0) (i 1))
    (ext2 (a := (⟨t.val * 256 + (y 0).val, ?_⟩ : Fin 4096)) (b := (y 1 : Fin 2048)) ?_ ?_).symm)
  · exact (congrArg (k0_pay1 (F := Ideal) (dxAt m c t)) (eq_ix2 y)).trans ((pay1_apply _ (y 0) (y 1)).trans (dxAt_apply m c t ht (y 0) (y 1)))
  all_goals (try blk_simp [idx0 t]) <;> idx_bounds y <;> omega

theorem final_dg : (dats m 0 c).arrAt 5 cfg0.N = fun i : S1x2048.Idx => Dg (aH m c) (aX m c) (i 1) := by
  refine (dats m 0 c).arrAt_eq_of_covers 5 _ (by decide +kernel) fun t hf y => ?_
  have h15 : t.val % 16 = 15 := (flush0_5 t).mp hf
  have ht : t.val < 16 := t.isLt
  have h : t.val = 15 := by omega
  rw [after5]
  have ey : y = ix2 (0 : Fin 1) (y 1 : Fin 2048) := ext2 (by have h1 : (y 0).val < 1 := (y 0).isLt; show (y 0).val = 0; omega) rfl
  refine Eq.trans ?_ (congrArg (fun i : S1x2048.Idx => Dg (aH m c) (aX m c) (i 1)) (ext2 (a := (0 : Fin 1)) (b := (y 1 : Fin 2048)) ?_ ?_).symm)
  · refine ((congrArg _ ey).trans (dgAt_apply m c (y 1) t.val ht)).trans ?_
    rw [h]
    exact blocks_sum m c (y 1)
  all_goals (try blk_simp [idx0 t]) <;> idx_bounds y <;> omega

/-- The scale's gradient as the program returns it. -/
theorem final_vector : Pipeline.afterTail₀ cfgs (dats m) 0 (V0 m) [hostOps1] c main_v3 = fun i : S2048.Idx => Dg (aH m c) (aX m c) (i 0) := by
  unfold Pipeline.afterTail₀
  refine (host_vector _).trans (funext fun i => ?_)
  have e := Pipeline.withArrays_arr spec0 (by decide) c (V0 m c) (fun w => (dats m 0 c).arrAt w cfg0.N) 5
  exact (congrFun e (ix2 0 (i 0))).trans (congrFun (final_dg m c) (ix2 0 (i 0)))

/-! ## The run -/

/-- The arrays of the windows that write are the results. -/
theorem arrays_end {r : PUnit × MemSt nD τ sig (Elt Ideal)} (h : ∀ w, r.2.mem (((cfgs 0).spec w).arr.view.loc (c.tc : Thread nD τ)) = (dats m 0 c).arrAt w (cfgs 0).N) :
    r.2.mem ((c.tc : Thread nD τ).loc main_v2_0) = (fun i : ST.Idx => Dy (aH m c) (aX m c) (aG m c) (aD m c) (aW m c) (i 0) (i 1))
      ∧ r.2.mem ((c.tc : Thread nD τ).loc main_v2_1) = (fun i : ST.Idx => Dx (aH m c) (aX m c) (aG m c) (aD m c) (i 0) (i 1))
      ∧ r.2.mem ((c.tc : Thread nD τ).loc main_v2_2) = (fun i : ST.Idx => Dx (aH m c) (aX m c) (aG m c) (aD m c) (i 0) (i 1)) :=
  ⟨(h 2).trans (final_dy m c), (h 3).trans (final_dx m c), (h 4).trans (final_dxb m c)⟩

/-- Every execution ends with the four gradients, and with the arguments as they were. -/
theorem ends (ρ : Dev nD → PrngReg) : θ_run defs (onTc (τ := τ) (main (F := Ideal))) ⟨m, fun _ => 0, ρ⟩ (fun r => ∀ c : Dev nD,
    (r.2.mem ((c.tc : Thread nD τ).loc main_v2_0) = (fun i : ST.Idx => Dy (aH m c) (aX m c) (aG m c) (aD m c) (aW m c) (i 0) (i 1))
      ∧ r.2.mem ((c.tc : Thread nD τ).loc main_v2_1) = (fun i : ST.Idx => Dx (aH m c) (aX m c) (aG m c) (aD m c) (i 0) (i 1))
      ∧ r.2.mem ((c.tc : Thread nD τ).loc main_v2_2) = (fun i : ST.Idx => Dx (aH m c) (aX m c) (aG m c) (aD m c) (i 0) (i 1)))
    ∧ r.2.mem ((c.tc : Thread nD τ).loc main_v3) = (fun i : S2048.Idx => Dg (aH m c) (aX m c) (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨arrays_end m c (h c).1,
    ((h c).2 main_v3 (Pipeline.mem_restRefs_of main_v3 (by decide) (by decide))).trans (final_vector m c),
    ((h c).2 main_arg0 (Pipeline.mem_restRefs_of main_arg0 (by decide) (by decide))).trans (kept0 m (dats m) c),
    ((h c).2 main_arg1 (Pipeline.mem_restRefs_of main_arg1 (by decide) (by decide))).trans (kept1 m (dats m) c),
    ((h c).2 main_arg2 (Pipeline.mem_restRefs_of main_arg2 (by decide) (by decide))).trans (kept2 m (dats m) c),
    ((h c).2 main_arg3 (Pipeline.mem_restRefs_of main_arg3 (by decide) (by decide))).trans (kept3 m (dats m) c),
    ((h c).2 main_arg4 (Pipeline.mem_restRefs_of main_arg4 (by decide) (by decide))).trans (kept4 m (dats m) c)⟩) (run m ρ)

end Cert.DxRing

end
-- ==== Proof.DxRef.lean ====
/-
  The reference's results for the gradient through a normalised layer, read at an index: each of them is the function
  `DxSpec` names.
-/
module

public import proofs.«01_k».proof.Proof.Gen.Reference5Ideal.Read
public import proofs.«01_k».proof.Proof.DxSpec

@[expose] public section

set_option maxRecDepth 16384

noncomputable section

open Idealize.ShloMosaic Idealize.ShloMosaic.TcCoe Idealize.SL.Sem

namespace Cert.Reference5Ideal.Dx

open Cert.Reference5Ideal Cert.Reference5Ideal.Read FfnTile InSpec NormGrad DxSpec

theorem word_zero : Ideal.ofBits FTy.f32 0x00000000#32 = 0 := by
  simp [Ideal.ofBits, Ideal.ieee]

variable (x0 x1 : ST.Idx → EReal) (x2 : S2048.Idx → EReal) (x3 : ST.Idx → EReal) (x4 : SQ.Idx → EReal)

/-! ## The norm -/

theorem squares (t : Fin 4096) : val_main_v1 (F := Ideal) x1 (ix1 t) = ∑ k : Fin 2048, row x1 t k * row x1 t k := by
  rw [val_main_v1_apply]
  refine (congrArg (· + _) word_zero).trans ((zero_add _).trans ?_)
  exact sum_mul_congr (fun k => congrArg x1 (ext2 rfl rfl)) fun k => congrArg x1 (ext2 rfl rfl)

theorem mean (t : Fin 4096) : val_main_v6 (F := Ideal) x1 (ix2 t 0) = msq (row x1 t) := by
  have e : val_main_v6 (F := Ideal) x1 (ix2 t 0) = Ideal.div (val_main_v2 (F := Ideal) x1 (ix2 t 0)) cN + cE := rfl
  rw [e, msq, val_main_v2_apply]
  exact congrArg (fun a => Ideal.div a cN + cE) ((congrArg (val_main_v1 (F := Ideal) x1) (eq_ix1 _)).trans (squares x1 t))

theorem root (t : Fin 4096) : val_main_v7 (F := Ideal) x1 (ix2 t 0) = inv (row x1 t) := by
  have e : val_main_v7 (F := Ideal) x1 (ix2 t 0) = Ideal.rsqrt (val_main_v6 (F := Ideal) x1 (ix2 t 0)) := rfl
  rw [e, mean]
  rfl

theorem unit_row (t : Fin 4096) (k : Fin 2048) : val_main_v12 (F := Ideal) x1 (ix2 t k) = x1 (ix2 t k) * inv (row x1 t) := by
  have e : val_main_v12 (F := Ideal) x1 (ix2 t k) = x1 (ix2 t k) * val_main_v11 (F := Ideal) x1 (ix2 t k) := rfl
  rw [e, val_main_v11_apply]
  exact congrArg (x1 (ix2 t k) * ·) ((congrArg (val_main_v7 (F := Ideal) x1) (ext2 rfl rfl)).trans (root x1 t))

theorem scale_row (t : Fin 4096) (k : Fin 2048) : val_main_v19 (F := Ideal) x2 (ix2 t k) = x2 (ix1 k) := by
  rw [val_main_v19_apply, val_main_v13_apply]
  exact congrArg x2 (eq_ix1 _)

/-! ## The gradient of the scale -/

theorem dg (k : Fin 2048) : val_main_v21 (F := Ideal) x0 x1 (ix1 k) = Dg x0 x1 k := by
  rw [val_main_v21_apply]
  refine (congrArg (· + _) word_zero).trans ((zero_add _).trans ((Fin.sum_univ_one _).trans ?_))
  rw [val_main_v18_apply, val_main_v17_apply]
  refine (congrArg (· + _) word_zero).trans ((zero_add _).trans ?_)
  refine Finset.sum_congr rfl fun t _ => ?_
  have e : val_main_v16 (F := Ideal) x0 x1 (ix2 t k) = val_main_v12 (F := Ideal) x1 (ix2 t k) * x0 (ix2 t k) := rfl
  refine (congrArg (val_main_v16 (F := Ideal) x0 x1) (ext2 (a := t) (b := k) rfl ?_)).trans (e.trans ?_)
  · show 0 * 2048 + k.val = k.val
    omega
  · rw [unit_row, mul_comm]

/-! ## The gradient of the residual -/

/-- The cotangent of the row's normalisation. -/
abbrev cot (t : Fin 4096) : Fin 2048 → EReal := fun j => mulE (x0 (ix2 t j)) (x2 (ix1 j))

theorem cot_eq (t : Fin 4096) (k : Fin 2048) : val_main_v20 (F := Ideal) x0 x2 (ix2 t k) = cot x0 x2 t k := by
  have e : val_main_v20 (F := Ideal) x0 x2 (ix2 t k) = x0 (ix2 t k) * val_main_v19 (F := Ideal) x2 (ix2 t k) := rfl
  rw [e, scale_row]

theorem along (t : Fin 4096) : val_main_v24 (F := Ideal) x0 x1 x2 (ix2 t 0) = ∑ k : Fin 2048, row x1 t k * cot x0 x2 t k := by
  rw [val_main_v24_apply, val_main_v23_apply]
  refine (congrArg (· + _) word_zero).trans ((zero_add _).trans ?_)
  refine Finset.sum_congr rfl fun k _ => ?_
  have e : val_main_v22 (F := Ideal) x0 x1 x2 (ix2 t k) = x1 (ix2 t k) * val_main_v20 (F := Ideal) x0 x2 (ix2 t k) := rfl
  refine (congrArg (val_main_v22 (F := Ideal) x0 x1 x2) (ext2 (a := t) (b := k) ?_ rfl)).trans (e.trans ?_)
  · show (t.val * 1 + 0) = t.val
    omega
  · rw [cot_eq]
    rfl

theorem factor (t : Fin 4096) : val_main_v29 (F := Ideal) x0 x1 x2 (ix2 t 0) = through (row x1 t) (cot x0 x2 t) := by
  have e : val_main_v29 (F := Ideal) x0 x1 x2 (ix2 t 0)
      = Ideal.div (val_main_v24 (F := Ideal) x0 x1 x2 (ix2 t 0)
        * (cH * Ideal.div (val_main_v7 (F := Ideal) x1 (ix2 t 0)) (val_main_v6 (F := Ideal) x1 (ix2 t 0)))) cN := rfl
  rw [e, along, root, mean, through]

theorem spread (t : Fin 4096) (k : Fin 2048) : val_main_v31 (F := Ideal) x0 x1 x2 (ix2 t k) = through (row x1 t) (cot x0 x2 t) := by
  rw [val_main_v31_apply, val_main_v30_apply]
  refine (congrArg (· + _) word_zero).trans ((zero_add _).trans ((Fin.sum_univ_one _).trans ?_))
  exact (congrArg (val_main_v29 (F := Ideal) x0 x1 x2) (ext2 (a := t) (b := (0 : Fin 1)) rfl rfl)).trans (factor x0 x1 x2 t)

theorem dx (t : Fin 4096) (k : Fin 2048) : val_main_v36 (F := Ideal) x0 x1 x2 x3 (ix2 t k) = Dx x0 x1 (fun j => x2 (ix1 j)) x3 t k := by
  have e : val_main_v36 (F := Ideal) x0 x1 x2 x3 (ix2 t k)
      = x3 (ix2 t k) + (val_main_v20 (F := Ideal) x0 x2 (ix2 t k) * val_main_v25 (F := Ideal) x1 (ix2 t k)
        + x1 (ix2 t k) * val_main_v31 (F := Ideal) x0 x1 x2 (ix2 t k)
        + val_main_v31 (F := Ideal) x0 x1 x2 (ix2 t k) * x1 (ix2 t k)) := rfl
  have e25 : val_main_v25 (F := Ideal) x1 (ix2 t k) = inv (row x1 t) := by
    rw [val_main_v25_apply]
    exact (congrArg (val_main_v7 (F := Ideal) x1) (ext2 rfl rfl)).trans (root x1 t)
  rw [e, cot_eq, e25, spread, Dx, byDifference_eq, byFactors]
  rfl

theorem dxb (t : Fin 4096) (k : Fin 2048) : val_main_v40 (F := Ideal) x0 x1 x2 x3 (ix2 t k) = Dx x0 x1 (fun j => x2 (ix1 j)) x3 t k :=
  dx x0 x1 x2 x3 t k

theorem dy (t : Fin 4096) (j : Fin 2048) : val_main_v39 (F := Ideal) x0 x1 x2 x3 x4 (ix2 t j) = Dy x0 x1 (fun j => x2 (ix1 j)) x3 x4 t j := by
  rw [val_main_v39_apply]
  exact sum_mul_congr
    (fun k => (congrArg (val_main_v36 (F := Ideal) x0 x1 x2 x3) (ext2 (a := t) (b := k) rfl rfl)).trans (dx x0 x1 x2 x3 t k))
    fun k => congrArg x4 (ext2 rfl rfl)

end Cert.Reference5Ideal.Dx

end
-- ==== Proof.DxClaim.lean ====
/-
  The claims about the program of the gradient through a normalised layer and its reference.
-/
module

public import proofs.«01_k».proof.Defs
public import proofs.«01_k».proof.Proof.DxFinal
public import proofs.«01_k».proof.Proof.DxRef
public import proofs.«01_k».proof.Proof.Gen.Kernel5

@[expose] public section

set_option maxRecDepth 65536

noncomputable section

open Idealize.ShloMosaic Idealize.ShloMosaic.TcCoe Idealize.SL.Sem

namespace Cert.DxClaim

open FfnTile InSpec DxSpec

instance : Cert.Kernel5.Facts := Cert.Kernel5.Gen.facts
instance : Cert.Kernel5Ideal.Facts := Cert.Kernel5Ideal.Gen.facts
instance : Cert.Reference5Ideal.Facts := Cert.Reference5Ideal.Gen.facts

/-! ## The program of words has the text of its ideal reading -/

theorem body_eq : Cert.Kernel5.cc0_out_proj_dx (F := Bits) = Cert.Kernel5Ideal.cc0_out_proj_dx (F := Bits) := rfl

theorem bodies_eq : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | ⟨0, _⟩, (t, s) => rfl

theorem defs_eq : Cert.Kernel5.defs (F := Bits) = Cert.Kernel5Ideal.defs (F := Bits) :=
  congrArg (Pipeline.defs (Cert.Kernel5.pcfgs (F := Bits))) bodies_eq

/-! ## The claims -/

theorem frame_kernel : Cert.quiescent_Kernel5 := fun m ρ _ =>
  (congrArg (fun d => θ_run d (onTc (Cert.Kernel5.main (F := Bits))) _ _) defs_eq).mpr (Cert.DxRing.quiescent (F := Bits) m ρ)

theorem frame_kernelIdeal : Cert.quiescent_Kernel5Ideal := fun m ρ _ => Cert.DxRing.quiescent (F := Ideal) m ρ

/-- The reference's run read at its arguments; it declares no semaphore. -/
theorem frame_reference : Cert.quiescent_Reference5Ideal := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

/-- Two arrays, or two vectors, with the same entries. -/
theorem same {a b : ℕ} {x y : (⟨2, ![a, b]⟩ : Shape).Idx → EReal} (h : ∀ i j, x (ix2 i j) = y (ix2 i j)) : x = y := funext fun i => by
  rw [eq_ix2 i]
  exact h (i 0) (i 1)
theorem same1 {a : ℕ} {x y : (⟨1, ![a]⟩ : Shape).Idx → EReal} (h : ∀ i, x (ix1 i) = y (ix1 i)) : x = y := funext fun i => by
  rw [eq_ix1 i]
  exact h (i 0)

/-- On all arguments the kernel and the reference both end with the gradients of the product's input, of the residual and of the scale. -/
theorem algebraic : Cert.algebraic_Kernel5Ideal_Reference5Ideal := by
  intro m g m' g' _ hag
  refine ⟨fun c => fun i : ST.Idx => Dy (Cert.DxRing.aH m c) (Cert.DxRing.aX m c) (Cert.DxRing.aG m c) (Cert.DxRing.aD m c) (Cert.DxRing.aW m c) (i 0) (i 1),
    fun c => fun i : ST.Idx => Dx (Cert.DxRing.aH m c) (Cert.DxRing.aX m c) (Cert.DxRing.aG m c) (Cert.DxRing.aD m c) (i 0) (i 1),
    fun c => fun i : ST.Idx => Dx (Cert.DxRing.aH m c) (Cert.DxRing.aX m c) (Cert.DxRing.aG m c) (Cert.DxRing.aD m c) (i 0) (i 1),
    fun c => fun i : Cert.Kernel5Ideal.S2048.Idx => Dg (Cert.DxRing.aH m c) (Cert.DxRing.aX m c) (i 0), ?_, ?_⟩
  · exact (θ_run Cert.Kernel5Ideal.defs _ _).mono (fun r h c => ⟨(h c).1.1, (h c).1.2.1, (h c).1.2.2, (h c).2⟩) (Cert.DxRing.ends m g)
  · refine (θ_run Cert.Reference5Ideal.defs _ _).mono (fun r h c => ?_) (Cert.Reference5Ideal.Value.run (F := Ideal) m' g')
    obtain ⟨a0, a1, a2, a3, a4⟩ := hag c
    obtain ⟨r0, r1, r2, r3, rest⟩ := h c
    refine ⟨?_, ?_, ?_, ?_, rest⟩
    · refine r0.trans ((Cert.Reference5Ideal.Read.val_main_v39_eq m' c).trans ?_)
      rw [a0, a1, a2, a3, a4]; exact same fun a b => Cert.Reference5Ideal.Dx.dy _ _ _ _ _ a b
    · refine r1.trans ((Cert.Reference5Ideal.Read.val_main_v36_eq _ _ _ _).trans ?_)
      rw [a0, a1, a2, a3]; exact same fun a b => Cert.Reference5Ideal.Dx.dx _ _ _ _ a b
    · refine r2.trans ((Cert.Reference5Ideal.Read.val_main_v40_eq _ _ _ _).trans ?_)
      rw [a0, a1, a2, a3]; exact same fun a b => Cert.Reference5Ideal.Dx.dxb _ _ _ _ a b
    · refine r3.trans ((Cert.Reference5Ideal.Read.val_main_v21_eq _ _).trans ?_)
      rw [a0, a1]; exact same1 fun a => Cert.Reference5Ideal.Dx.dg _ _ a

end Cert.DxClaim

end
-- ==== Proof.lean ====
/-
  The claims of the statement, assembled: the grouped-query attention with its gradients (Proof/AttnClaim.lean), the
  feed-forward layer with its loss and its gradients (Proof/FfnClaim.lean), the input projection with its norm and its
  gradients (Proof/InClaim.lean), a layer's second half with the gradient of the output projection's weight
  (Proof/OutClaim.lean), and the gradient through norm2 and the output projection (Proof/DxClaim.lean).
-/
module

public import proofs.«01_k».proof.Defs
public import proofs.«01_k».proof.Proof.AttnClaim
public import proofs.«01_k».proof.Proof.FfnClaim
public import proofs.«01_k».proof.Proof.InClaim
public import proofs.«01_k».proof.Proof.OutClaim
public import proofs.«01_k».proof.Proof.DxClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.FiniteArgs.facts, Cert.FiniteArgs2.facts,
    Cert.AttnClaim.frame_kernel, Cert.AttnClaim.frame_kernelIdeal, Cert.AttnClaim.frame_kernelIdeal_finite,
    Cert.AttnClaim.frame_reference, Cert.AttnClaim.frame_reference_finite,
    Cert.FfnClaim.frame_kernel, Cert.FfnClaim.frame_kernelIdeal, Cert.FfnClaim.frame_kernelIdeal_finite,
    Cert.FfnClaim.frame_reference, Cert.FfnClaim.frame_reference_finite,
    Cert.InClaim.frame_kernel, Cert.InClaim.frame_kernelIdeal, Cert.InClaim.frame_reference,
    Cert.OutClaim.frame_kernel, Cert.OutClaim.frame_kernelIdeal, Cert.OutClaim.frame_reference,
    Cert.DxClaim.frame_kernel, Cert.DxClaim.frame_kernelIdeal, Cert.DxClaim.frame_reference,
    trivial, Cert.AttnClaim.algebraic, trivial, Cert.FfnClaim.algebraic, trivial, Cert.InClaim.algebraic,
    trivial, Cert.OutClaim.algebraic, trivial, Cert.DxClaim.algebraic⟩

end Cert.Proof

end
